-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v589) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S8x8400x80 : Shape := ⟨3, ![8, 8400, 80]⟩
abbrev S8x8400x4 : Shape := ⟨3, ![8, 8400, 4]⟩
abbrev S8x100x4 : Shape := ⟨3, ![8, 100, 4]⟩
abbrev S8x100 : Shape := ⟨2, ![8, 100]⟩
abbrev S8400x2 : Shape := ⟨2, ![8400, 2]⟩
abbrev S8x100x1 : Shape := ⟨3, ![8, 100, 1]⟩
abbrev S8x100x8400 : Shape := ⟨3, ![8, 100, 8400]⟩
abbrev S8x8400x1 : Shape := ⟨3, ![8, 8400, 1]⟩
abbrev S8x8400 : Shape := ⟨2, ![8, 8400]⟩
abbrev S8x1x8400 : Shape := ⟨3, ![8, 1, 8400]⟩
abbrev S8400x1 : Shape := ⟨2, ![8400, 1]⟩
abbrev S8400 : Shape := ⟨1, ![8400]⟩
abbrev S_ : Shape := ⟨0, ![]⟩
abbrev S8x80x8400 : Shape := ⟨3, ![8, 80, 8400]⟩
abbrev S8x100x11 : Shape := ⟨3, ![8, 100, 11]⟩
abbrev S8x100x10 : Shape := ⟨3, ![8, 100, 10]⟩
abbrev S8x100x9 : Shape := ⟨3, ![8, 100, 9]⟩

class Facts : Prop where
  slices_S8x100x4_S8x100x1_0_0_0 : S8x100x4.Slices ![0, 0, 0] S8x100x1
  shapeCasts_S8x100x1_S8x100 : S8x100x1.ShapeCasts S8x100
  bcast_S8x100_S8x100x1_0_1 : S8x100.BroadcastsInDim S8x100x1 (![0, 1] : Fin 2 → Fin S8x100x1.rank)
  bcast_S8x100x1_S8x100x8400_0_1_2 : S8x100x1.BroadcastsInDim S8x100x8400 (![0, 1, 2] : Fin 3 → Fin S8x100x8400.rank)
  slices_S8x100x4_S8x100x1_0_0_1 : S8x100x4.Slices ![0, 0, 1] S8x100x1
  slices_S8x100x4_S8x100x1_0_0_2 : S8x100x4.Slices ![0, 0, 2] S8x100x1
  slices_S8x100x4_S8x100x1_0_0_3 : S8x100x4.Slices ![0, 0, 3] S8x100x1
  slices_S8x8400x4_S8x8400x1_0_0_0 : S8x8400x4.Slices ![0, 0, 0] S8x8400x1
  shapeCasts_S8x8400x1_S8x8400 : S8x8400x1.ShapeCasts S8x8400
  bcast_S8x8400_S8x1x8400_0_2 : S8x8400.BroadcastsInDim S8x1x8400 (![0, 2] : Fin 2 → Fin S8x1x8400.rank)
  bcast_S8x1x8400_S8x100x8400_0_1_2 : S8x1x8400.BroadcastsInDim S8x100x8400 (![0, 1, 2] : Fin 3 → Fin S8x100x8400.rank)
  slices_S8x8400x4_S8x8400x1_0_0_1 : S8x8400x4.Slices ![0, 0, 1] S8x8400x1
  slices_S8x8400x4_S8x8400x1_0_0_2 : S8x8400x4.Slices ![0, 0, 2] S8x8400x1
  slices_S8x8400x4_S8x8400x1_0_0_3 : S8x8400x4.Slices ![0, 0, 3] S8x8400x1
  slices_S8400x2_S8400x1_0_0 : S8400x2.Slices ![0, 0] S8400x1
  shapeCasts_S8400x1_S8400 : S8400x1.ShapeCasts S8400
  bcast_S8400_S8x100x8400_2 : S8400.BroadcastsInDim S8x100x8400 (![2] : Fin 1 → Fin S8x100x8400.rank)
  slices_S8400x2_S8400x1_0_1 : S8400x2.Slices ![0, 1] S8400x1
  bcast_S_S8x100x8400 : S_.BroadcastsInDim S8x100x8400 (![] : Fin 0 → Fin S8x100x8400.rank)
  bcast_S_S8x8400x80 : S_.BroadcastsInDim S8x8400x80 (![] : Fin 0 → Fin S8x8400x80.rank)
  transposes_S8x8400x80_S8x80x8400_0_2_1 : S8x8400x80.Transposes [0, 2, 1] S8x80x8400
  bcast_S_S8x100x1 : S_.BroadcastsInDim S8x100x1 (![] : Fin 0 → Fin S8x100x1.rank)
  sliceFits_S8x100x8400_S8x100x11 : S8x100x8400.Slices (fun _ => 0) S8x100x11
  slices_S8x100x11_S8x100x10_0_0_0 : S8x100x11.Slices ![0, 0, 0] S8x100x10
  slices_S8x100x11_S8x100x1_0_0_10 : S8x100x11.Slices ![0, 0, 10] S8x100x1
  bcast_S_S8x8400x4 : S_.BroadcastsInDim S8x8400x4 (![] : Fin 0 → Fin S8x8400x4.rank)
  reducesTo_S8x8400x4_S8x8400_d2 : S8x8400x4.ReducesTo [2] S8x8400
  h_S_ : 0 < S_.numel
  reducesTo_S8x8400_S_d0_1 : S8x8400.ReducesTo [0, 1] S_
  bcast_S_S8x100x4 : S_.BroadcastsInDim S8x100x4 (![] : Fin 0 → Fin S8x100x4.rank)
  reducesTo_S8x100x4_S8x100_d2 : S8x100x4.ReducesTo [2] S8x100
  reducesTo_S8x100_S_d0_1 : S8x100.ReducesTo [0, 1] S_
  bcast_S_S8x100 : S_.BroadcastsInDim S8x100 (![] : Fin 0 → Fin S8x100.rank)
  slices_S8x100x10_S8x100x9_0_0_1 : S8x100x10.Slices ![0, 0, 1] S8x100x9
  slices_S8x100x10_S8x100x9_0_0_0 : S8x100x10.Slices ![0, 0, 0] S8x100x9
  bcast_S8x100x1_S8x100x9_0_1_2 : S8x100x1.BroadcastsInDim S8x100x9 (![0, 1, 2] : Fin 3 → Fin S8x100x9.rank)
  reducesTo_S8x100x9_S_d0_1_2 : S8x100x9.ReducesTo [0, 1, 2] S_
  bcast_S_S8x100x10 : S_.BroadcastsInDim S8x100x10 (![] : Fin 0 → Fin S8x100x10.rank)
  reducesTo_S8x100x10_S_d0_1_2 : S8x100x10.ReducesTo [0, 1, 2] S_
  gather_S8x80x8400_S8x100x1_S8x100x8400_2_1_0_0_1_2_118400_wf : GatherDims.WF S8x80x8400 S8x100x1 S8x100x8400 [2] [1] [0] [1] [0] 2 ![1, 1, 8400]

variable [Facts]

def gather_S8x80x8400_S8x100x1_S8x100x8400_2_1_0_0_1_2_118400 : GatherDims S8x80x8400 S8x100x1 S8x100x8400 where
  offsetDims := [2]
  collapsedSliceDims := [1]
  operandBatchingDims := [0]
  startIndicesBatchingDims := [0]
  startIndexMap := [1]
  indexVectorDim := 2
  sliceSizes := ![1, 1, 8400]
  wf := gather_S8x80x8400_S8x100x1_S8x100x8400_2_1_0_0_1_2_118400_wf
def fn_where {F : FTy → Type} [FloatOps F] (arg0 : IVec S8x100x8400 1) (arg1 : FVec F S8x100x8400 .f32) (arg2 : FVec F S8x100x8400 .f32) : FVec F S8x100x8400 .f32 :=
  let v0 : FVec F S8x100x8400 .f32 := select arg0 arg1 arg2
  v0

def fn_clip {F : FTy → Type} [FloatOps F] (arg0 : FVec F S8x100x8400 .f32) (arg1 : FVec F S_ .f32) (arg2 : FVec F S_ .f32) : FVec F S8x100x8400 .f32 :=
  let v0 : FVec F S_ .f32 := id arg1
  let v1 : FVec F S8x100x8400 .f32 := broadcastInDim S8x100x8400 ![] bcast_S_S8x100x8400 v0
  let v2 : FVec F S8x100x8400 .f32 := maximumf v1 arg0
  let v3 : FVec F S_ .f32 := id arg2
  let v4 : FVec F S8x100x8400 .f32 := broadcastInDim S8x100x8400 ![] bcast_S_S8x100x8400 v3
  let v5 : FVec F S8x100x8400 .f32 := minimumf v4 v2
  v5

def fn_take_along_axis {F : FTy → Type} [FloatOps F] (arg0 : FVec F S8x80x8400 .f32) (arg1 : IVec S8x100x1 32) : FVec F S8x100x8400 .f32 :=
  let c : IVec S_ 32 := constantI S_ 32 0#32
  let v0 : IVec S8x100x1 32 := broadcastInDim S8x100x1 ![] bcast_S_S8x100x1 c
  let v1 : IVec S8x100x1 1 := cmpi .slt arg1 v0
  let c_0 : IVec S_ 32 := constantI S_ 32 80#32
  let v2 : IVec S8x100x1 32 := broadcastInDim S8x100x1 ![] bcast_S_S8x100x1 c_0
  let v3 : IVec S8x100x1 32 := addi arg1 v2
  let v4 : IVec S8x100x1 32 := select v1 v3 arg1
  let v5 : FVec F S8x100x8400 .f32 := (fun x i => Host.gather gather_S8x80x8400_S8x100x1_S8x100x8400_2_1_0_0_1_2_118400 x i) arg0 v4
  v5

def fn_part16 {F : FTy → Type} [FloatOps F] (main_v316 : IVec S_ 1) (main_v322 : IVec S_ 1) : IVec S_ 1 :=
  let main_v323 : IVec S_ 1 := andi main_v316 main_v322
  main_v323

def fn_part15 {F : FTy → Type} [FloatOps F] (main_v264 : FVec F S8x100x10 .f32) (main_v265 : FVec F S8x100x1 .f32) (main_v300 : IVec S_ 1) (main_v302 : IVec S8x100 1) (main_v304 : IVec S8x100 1) : IVec S_ 1 :=
  let main_v305 : IVec S8x100 1 := andi main_v302 main_v304
  let main_c_51 : IVec S_ 1 := constantI S_ 1 1#1
  let main_v306 : IVec S_ 1 := (fun x v => Host.reduce IntOp.andi x v reducesTo_S8x100_S_d0_1 h_S_) main_v305 main_c_51
  let main_v307 : IVec S_ 1 := andi main_v300 main_v306
  let main_v308 : FVec F S8x100x9 .f32 := (extractStridedSlice S8x100x9 ![0, 0, 1] · slices_S8x100x10_S8x100x9_0_0_1) main_v264
  let main_v309 : FVec F S8x100x9 .f32 := (extractStridedSlice S8x100x9 ![0, 0, 0] · slices_S8x100x10_S8x100x9_0_0_0) main_v264
  let main_v310 : IVec S8x100x9 1 := cmpf .olt main_v308 main_v309
  let main_cst_52 : FVec F S_ .f32 := constant S_ .f32 0x00000000#32
  let main_v311 : FVec F S8x100x1 .f32 := broadcastInDim S8x100x1 ![] bcast_S_S8x100x1 main_cst_52
  let main_v312 : IVec S8x100x1 1 := cmpf .oeq main_v265 main_v311
  let main_v313 : IVec S8x100x9 1 := broadcastInDim S8x100x9 ![0, 1, 2] bcast_S8x100x1_S8x100x9_0_1_2 main_v312
  let main_v314 : IVec S8x100x9 1 := ori main_v310 main_v313
  let main_c_53 : IVec S_ 1 := constantI S_ 1 1#1
  let main_v315 : IVec S_ 1 := (fun x v => Host.reduce IntOp.andi x v reducesTo_S8x100x9_S_d0_1_2 h_S_) main_v314 main_c_53
  let main_v316 : IVec S_ 1 := andi main_v307 main_v315
  let main_cst_54 : FVec F S_ .f32 := constant S_ .f32 0x0DA24260#32
  let main_v317 : FVec F S8x100x10 .f32 := broadcastInDim S8x100x10 ![] bcast_S_S8x100x10 main_cst_54
  let main_v318 : IVec S8x100x10 1 := cmpf .oge main_v264 main_v317
  let main_cst_55 : FVec F S_ .f32 := constant S_ .f32 0x00000000#32
  let main_v319 : FVec F S8x100x10 .f32 := broadcastInDim S8x100x10 ![] bcast_S_S8x100x10 main_cst_55
  let main_v320 : IVec S8x100x10 1 := cmpf .oeq main_v264 main_v319
  let main_v321 : IVec S8x100x10 1 := ori main_v318 main_v320
  let main_c_56 : IVec S_ 1 := constantI S_ 1 1#1
  let main_v322 : IVec S_ 1 := (fun x v => Host.reduce IntOp.andi x v reducesTo_S8x100x10_S_d0_1_2 h_S_) main_v321 main_c_56
  fn_part16 (F := F) main_v316 main_v322

def fn_part14 {F : FTy → Type} [FloatOps F] (main_arg2 : FVec F S8x100x4 .f32) (main_arg3 : IVec S8x100 32) (main_v264 : FVec F S8x100x10 .f32) (main_v265 : FVec F S8x100x1 .f32) (main_v282 : IVec S_ 1) (main_v284 : FVec F S8x100 .f32) (main_v285 : FVec F S8x100x1 .f32) : IVec S_ 1 :=
  let main_v286 : FVec F S8x100 .f32 := shapeCast S8x100 main_v285 shapeCasts_S8x100x1_S8x100
  let main_v287 : IVec S8x100 1 := cmpf .ole main_v284 main_v286
  let main_v288 : FVec F S8x100x1 .f32 := (extractStridedSlice S8x100x1 ![0, 0, 1] · slices_S8x100x4_S8x100x1_0_0_1) main_arg2
  let main_v289 : FVec F S8x100 .f32 := shapeCast S8x100 main_v288 shapeCasts_S8x100x1_S8x100
  let main_v290 : FVec F S8x100x1 .f32 := (extractStridedSlice S8x100x1 ![0, 0, 3] · slices_S8x100x4_S8x100x1_0_0_3) main_arg2
  let main_v291 : FVec F S8x100 .f32 := shapeCast S8x100 main_v290 shapeCasts_S8x100x1_S8x100
  let main_v292 : IVec S8x100 1 := cmpf .ole main_v289 main_v291
  let main_v293 : IVec S8x100 1 := andi main_v287 main_v292
  let main_v294 : FVec F S8x100x4 .f32 := Host.absf main_arg2
  let main_cst_46 : FVec F S_ .f32 := constant S_ .f32 0x7F800000#32
  let main_v295 : FVec F S8x100x4 .f32 := broadcastInDim S8x100x4 ![] bcast_S_S8x100x4 main_cst_46
  let main_v296 : IVec S8x100x4 1 := cmpf .olt main_v294 main_v295
  let main_c_47 : IVec S_ 1 := constantI S_ 1 1#1
  let main_v297 : IVec S8x100 1 := (fun x v => Host.reduce IntOp.andi x v reducesTo_S8x100x4_S8x100_d2 h_S_) main_v296 main_c_47
  let main_v298 : IVec S8x100 1 := ori main_v293 main_v297
  let main_c_48 : IVec S_ 1 := constantI S_ 1 1#1
  let main_v299 : IVec S_ 1 := (fun x v => Host.reduce IntOp.andi x v reducesTo_S8x100_S_d0_1 h_S_) main_v298 main_c_48
  let main_v300 : IVec S_ 1 := andi main_v282 main_v299
  let main_c_49 : IVec S_ 32 := constantI S_ 32 0#32
  let main_v301 : IVec S8x100 32 := broadcastInDim S8x100 ![] bcast_S_S8x100 main_c_49
  let main_v302 : IVec S8x100 1 := cmpi .sge main_arg3 main_v301
  let main_c_50 : IVec S_ 32 := constantI S_ 32 80#32
  let main_v303 : IVec S8x100 32 := broadcastInDim S8x100 ![] bcast_S_S8x100 main_c_50
  let main_v304 : IVec S8x100 1 := cmpi .slt main_arg3 main_v303
  fn_part15 (F := F) main_v264 main_v265 main_v300 main_v302 main_v304

def fn_part13 {F : FTy → Type} [FloatOps F] (main_arg1 : FVec F S8x8400x4 .f32) (main_arg2 : FVec F S8x100x4 .f32) (main_arg3 : IVec S8x100 32) (main_values : FVec F S8x100x11 .f32) (main_v264 : FVec F S8x100x10 .f32) : IVec S_ 1 :=
  let main_v265 : FVec F S8x100x1 .f32 := (extractStridedSlice S8x100x1 ![0, 0, 10] · slices_S8x100x11_S8x100x1_0_0_10) main_values
  let main_v266 : FVec F S8x8400x1 .f32 := (extractStridedSlice S8x8400x1 ![0, 0, 0] · slices_S8x8400x4_S8x8400x1_0_0_0) main_arg1
  let main_v267 : FVec F S8x8400 .f32 := shapeCast S8x8400 main_v266 shapeCasts_S8x8400x1_S8x8400
  let main_v268 : FVec F S8x8400x1 .f32 := (extractStridedSlice S8x8400x1 ![0, 0, 2] · slices_S8x8400x4_S8x8400x1_0_0_2) main_arg1
  let main_v269 : FVec F S8x8400 .f32 := shapeCast S8x8400 main_v268 shapeCasts_S8x8400x1_S8x8400
  let main_v270 : IVec S8x8400 1 := cmpf .ole main_v267 main_v269
  let main_v271 : FVec F S8x8400x1 .f32 := (extractStridedSlice S8x8400x1 ![0, 0, 1] · slices_S8x8400x4_S8x8400x1_0_0_1) main_arg1
  let main_v272 : FVec F S8x8400 .f32 := shapeCast S8x8400 main_v271 shapeCasts_S8x8400x1_S8x8400
  let main_v273 : FVec F S8x8400x1 .f32 := (extractStridedSlice S8x8400x1 ![0, 0, 3] · slices_S8x8400x4_S8x8400x1_0_0_3) main_arg1
  let main_v274 : FVec F S8x8400 .f32 := shapeCast S8x8400 main_v273 shapeCasts_S8x8400x1_S8x8400
  let main_v275 : IVec S8x8400 1 := cmpf .ole main_v272 main_v274
  let main_v276 : IVec S8x8400 1 := andi main_v270 main_v275
  let main_v277 : FVec F S8x8400x4 .f32 := Host.absf main_arg1
  let main_cst_44 : FVec F S_ .f32 := constant S_ .f32 0x7F800000#32
  let main_v278 : FVec F S8x8400x4 .f32 := broadcastInDim S8x8400x4 ![] bcast_S_S8x8400x4 main_cst_44
  let main_v279 : IVec S8x8400x4 1 := cmpf .olt main_v277 main_v278
  let main_c : IVec S_ 1 := constantI S_ 1 1#1
  let main_v280 : IVec S8x8400 1 := (fun x v => Host.reduce IntOp.andi x v reducesTo_S8x8400x4_S8x8400_d2 h_S_) main_v279 main_c
  let main_v281 : IVec S8x8400 1 := ori main_v276 main_v280
  let main_c_45 : IVec S_ 1 := constantI S_ 1 1#1
  let main_v282 : IVec S_ 1 := (fun x v => Host.reduce IntOp.andi x v reducesTo_S8x8400_S_d0_1 h_S_) main_v281 main_c_45
  let main_v283 : FVec F S8x100x1 .f32 := (extractStridedSlice S8x100x1 ![0, 0, 0] · slices_S8x100x4_S8x100x1_0_0_0) main_arg2
  let main_v284 : FVec F S8x100 .f32 := shapeCast S8x100 main_v283 shapeCasts_S8x100x1_S8x100
  let main_v285 : FVec F S8x100x1 .f32 := (extractStridedSlice S8x100x1 ![0, 0, 2] · slices_S8x100x4_S8x100x1_0_0_2) main_arg2
  fn_part14 (F := F) main_arg2 main_arg3 main_v264 main_v265 main_v282 main_v284 main_v285

def fn_part12 {F : FTy → Type} [FloatOps F] (main_arg0 : FVec F S8x8400x80 .f32) (main_arg1 : FVec F S8x8400x4 .f32) (main_arg2 : FVec F S8x100x4 .f32) (main_arg3 : IVec S8x100 32) (main_v44 : IVec S8x100x8400 1) (main_v246 : FVec F S8x100x8400 .f32) (main_cst_38 : FVec F S_ .f32) (main_cst_39 : FVec F S_ .f32) : IVec S_ 1 :=
  let main_v247 : FVec F S8x100x8400 .f32 := fn_clip (F := F) main_v246 main_cst_38 main_cst_39
  let main_v248 : FVec F S8x8400x80 .f32 := Host.negf main_arg0
  let main_v249 : FVec F S8x8400x80 .f32 := Host.exp main_v248
  let main_cst_40 : FVec F S_ .f32 := constant S_ .f32 0x3F800000#32
  let main_v250 : FVec F S8x8400x80 .f32 := broadcastInDim S8x8400x80 ![] bcast_S_S8x8400x80 main_cst_40
  let main_v251 : FVec F S8x8400x80 .f32 := addf main_v250 main_v249
  let main_cst_41 : FVec F S_ .f32 := constant S_ .f32 0x3F800000#32
  let main_v252 : FVec F S8x8400x80 .f32 := broadcastInDim S8x8400x80 ![] bcast_S_S8x8400x80 main_cst_41
  let main_v253 : FVec F S8x8400x80 .f32 := Host.divf main_v252 main_v251
  let main_v254 : FVec F S8x80x8400 .f32 := (transpose S8x80x8400 [0, 2, 1] · transposes_S8x8400x80_S8x80x8400_0_2_1) main_v253
  let main_v255 : IVec S8x100x1 32 := broadcastInDim S8x100x1 ![0, 1] bcast_S8x100_S8x100x1_0_1 main_arg3
  let main_v256 : FVec F S8x100x8400 .f32 := fn_take_along_axis (F := F) main_v254 main_v255
  let main_cst_42 : FVec F S_ .f32 := constant S_ .f32 0x40C00000#32
  let main_v257 : FVec F S8x100x8400 .f32 := broadcastInDim S8x100x8400 ![] bcast_S_S8x100x8400 main_cst_42
  let main_v258 : FVec F S8x100x8400 .f32 := Host.powf main_v247 main_v257
  let main_cst_43 : FVec F S_ .f32 := constant S_ .f32 0x3F000000#32
  let main_v259 : FVec F S8x100x8400 .f32 := broadcastInDim S8x100x8400 ![] bcast_S_S8x100x8400 main_cst_43
  let main_v260 : FVec F S8x100x8400 .f32 := Host.powf main_v256 main_v259
  let main_v261 : FVec F S8x100x8400 .f32 := mulf main_v258 main_v260
  let main_v262 : FVec F S8x100x8400 .f32 := uitofp .f32 main_v44
  let main_v263 : FVec F S8x100x8400 .f32 := mulf main_v261 main_v262
  let main_values : FVec F S8x100x11 .f32 := (fun x => (Host.topK S8x100x11 2 (FloatOps.cmpfTotal .gt) x sliceFits_S8x100x8400_S8x100x11).1) main_v263
  let main_indices : IVec S8x100x11 32 := (fun x => (Host.topK S8x100x11 2 (FloatOps.cmpfTotal .gt) x sliceFits_S8x100x8400_S8x100x11).2) main_v263
  let main_v264 : FVec F S8x100x10 .f32 := (extractStridedSlice S8x100x10 ![0, 0, 0] · slices_S8x100x11_S8x100x10_0_0_0) main_values
  fn_part13 (F := F) main_arg1 main_arg2 main_arg3 main_values main_v264

def fn_part11 {F : FTy → Type} [FloatOps F] (main_arg0 : FVec F S8x8400x80 .f32) (main_arg1 : FVec F S8x8400x4 .f32) (main_arg2 : FVec F S8x100x4 .f32) (main_arg3 : IVec S8x100 32) (main_v44 : IVec S8x100x8400 1) (main_v66 : FVec F S8x100x8400 .f32) (main_v96 : FVec F S8x100x8400 .f32) (main_v165 : FVec F S8x100x8400 .f32) (main_v170 : FVec F S8x100x8400 .f32) (main_v229 : FVec F S8x100x8400 .f32) : IVec S_ 1 :=
  let main_cst_33 : FVec F S_ .f32 := constant S_ .f32 0x3F800000#32
  let main_v230 : FVec F S8x100x8400 .f32 := broadcastInDim S8x100x8400 ![] bcast_S_S8x100x8400 main_cst_33
  let main_v231 : IVec S8x100x8400 1 := cmpf .ole main_v170 main_v230
  let main_cst_34 : FVec F S_ .f32 := constant S_ .f32 0x3FC90FDB#32
  let main_v232 : FVec F S8x100x8400 .f32 := broadcastInDim S8x100x8400 ![] bcast_S_S8x100x8400 main_cst_34
  let main_v233 : FVec F S8x100x8400 .f32 := subf main_v232 main_v229
  let main_v234 : FVec F S8x100x8400 .f32 := fn_where (F := F) main_v231 main_v229 main_v233
  let main_v235 : FVec F S8x100x8400 .f32 := subf main_v165 main_v234
  let main_v236 : FVec F S8x100x8400 .f32 := mulf main_v235 main_v235
  let main_cst_35 : FVec F S_ .f32 := constant S_ .f32 0x3ECF817B#32
  let main_v237 : FVec F S8x100x8400 .f32 := broadcastInDim S8x100x8400 ![] bcast_S_S8x100x8400 main_cst_35
  let main_v238 : FVec F S8x100x8400 .f32 := mulf main_v237 main_v236
  let main_v239 : FVec F S8x100x8400 .f32 := subf main_v238 main_v66
  let main_cst_36 : FVec F S_ .f32 := constant S_ .f32 0x3F800000#32
  let main_v240 : FVec F S8x100x8400 .f32 := broadcastInDim S8x100x8400 ![] bcast_S_S8x100x8400 main_cst_36
  let main_v241 : FVec F S8x100x8400 .f32 := addf main_v239 main_v240
  let main_cst_37 : FVec F S_ .f32 := constant S_ .f32 0x3089705F#32
  let main_v242 : FVec F S8x100x8400 .f32 := broadcastInDim S8x100x8400 ![] bcast_S_S8x100x8400 main_cst_37
  let main_v243 : FVec F S8x100x8400 .f32 := addf main_v241 main_v242
  let main_v244 : FVec F S8x100x8400 .f32 := Host.divf main_v238 main_v243
  let main_v245 : FVec F S8x100x8400 .f32 := mulf main_v244 main_v238
  let main_v246 : FVec F S8x100x8400 .f32 := subf main_v96 main_v245
  let main_cst_38 : FVec F S_ .f32 := constant S_ .f32 0x00000000#32
  let main_cst_39 : FVec F S_ .f32 := constant S_ .f32 0x3F800000#32
  fn_part12 (F := F) main_arg0 main_arg1 main_arg2 main_arg3 main_v44 main_v246 main_cst_38 main_cst_39

def fn_part10 {F : FTy → Type} [FloatOps F] (main_arg0 : FVec F S8x8400x80 .f32) (main_arg1 : FVec F S8x8400x4 .f32) (main_arg2 : FVec F S8x100x4 .f32) (main_arg3 : IVec S8x100 32) (main_v44 : IVec S8x100x8400 1) (main_v66 : FVec F S8x100x8400 .f32) (main_v96 : FVec F S8x100x8400 .f32) (main_v165 : FVec F S8x100x8400 .f32) (main_v170 : FVec F S8x100x8400 .f32) (main_v175 : FVec F S8x100x8400 .f32) (main_v204 : FVec F S8x100x8400 .f32) (main_v206 : FVec F S8x100x8400 .f32) (main_v208 : FVec F S8x100x8400 .f32) : IVec S_ 1 :=
  let main_v209 : FVec F S8x100x8400 .f32 := mulf main_v206 main_v208
  let main_cst_30 : FVec F S_ .f32 := constant S_ .f32 0xBD6501C4#32
  let main_v210 : FVec F S8x100x8400 .f32 := broadcastInDim S8x100x8400 ![] bcast_S_S8x100x8400 main_cst_30
  let main_v211 : FVec F S8x100x8400 .f32 := mulf main_v210 main_v209
  let main_v212 : FVec F S8x100x8400 .f32 := addf main_v204 main_v211
  let main_v213 : FVec F S8x100x8400 .f32 := mulf main_v175 main_v175
  let main_v214 : FVec F S8x100x8400 .f32 := mulf main_v213 main_v213
  let main_v215 : FVec F S8x100x8400 .f32 := mulf main_v175 main_v214
  let main_v216 : FVec F S8x100x8400 .f32 := mulf main_v214 main_v214
  let main_v217 : FVec F S8x100x8400 .f32 := mulf main_v215 main_v216
  let main_cst_31 : FVec F S_ .f32 := constant S_ .f32 0x3CB31652#32
  let main_v218 : FVec F S8x100x8400 .f32 := broadcastInDim S8x100x8400 ![] bcast_S_S8x100x8400 main_cst_31
  let main_v219 : FVec F S8x100x8400 .f32 := mulf main_v218 main_v217
  let main_v220 : FVec F S8x100x8400 .f32 := addf main_v212 main_v219
  let main_v221 : FVec F S8x100x8400 .f32 := mulf main_v175 main_v175
  let main_v222 : FVec F S8x100x8400 .f32 := mulf main_v175 main_v221
  let main_v223 : FVec F S8x100x8400 .f32 := mulf main_v221 main_v221
  let main_v224 : FVec F S8x100x8400 .f32 := mulf main_v222 main_v223
  let main_v225 : FVec F S8x100x8400 .f32 := mulf main_v223 main_v223
  let main_v226 : FVec F S8x100x8400 .f32 := mulf main_v224 main_v225
  let main_cst_32 : FVec F S_ .f32 := constant S_ .f32 0xBB84D7E7#32
  let main_v227 : FVec F S8x100x8400 .f32 := broadcastInDim S8x100x8400 ![] bcast_S_S8x100x8400 main_cst_32
  let main_v228 : FVec F S8x100x8400 .f32 := mulf main_v227 main_v226
  let main_v229 : FVec F S8x100x8400 .f32 := addf main_v220 main_v228
  fn_part11 (F := F) main_arg0 main_arg1 main_arg2 main_arg3 main_v44 main_v66 main_v96 main_v165 main_v170 main_v229

def fn_part9 {F : FTy → Type} [FloatOps F] (main_arg0 : FVec F S8x8400x80 .f32) (main_arg1 : FVec F S8x8400x4 .f32) (main_arg2 : FVec F S8x100x4 .f32) (main_arg3 : IVec S8x100 32) (main_v44 : IVec S8x100x8400 1) (main_v66 : FVec F S8x100x8400 .f32) (main_v96 : FVec F S8x100x8400 .f32) (main_v165 : FVec F S8x100x8400 .f32) (main_v170 : FVec F S8x100x8400 .f32) (main_v175 : FVec F S8x100x8400 .f32) (main_v184 : FVec F S8x100x8400 .f32) (main_v187 : FVec F S8x100x8400 .f32) : IVec S_ 1 :=
  let main_cst_27 : FVec F S_ .f32 := constant S_ .f32 0x3E4C40A6#32
  let main_v188 : FVec F S8x100x8400 .f32 := broadcastInDim S8x100x8400 ![] bcast_S_S8x100x8400 main_cst_27
  let main_v189 : FVec F S8x100x8400 .f32 := mulf main_v188 main_v187
  let main_v190 : FVec F S8x100x8400 .f32 := addf main_v184 main_v189
  let main_v191 : FVec F S8x100x8400 .f32 := mulf main_v175 main_v175
  let main_v192 : FVec F S8x100x8400 .f32 := mulf main_v175 main_v191
  let main_v193 : FVec F S8x100x8400 .f32 := mulf main_v191 main_v191
  let main_v194 : FVec F S8x100x8400 .f32 := mulf main_v192 main_v193
  let main_cst_28 : FVec F S_ .f32 := constant S_ .f32 0xBE0E6C63#32
  let main_v195 : FVec F S8x100x8400 .f32 := broadcastInDim S8x100x8400 ![] bcast_S_S8x100x8400 main_cst_28
  let main_v196 : FVec F S8x100x8400 .f32 := mulf main_v195 main_v194
  let main_v197 : FVec F S8x100x8400 .f32 := addf main_v190 main_v196
  let main_v198 : FVec F S8x100x8400 .f32 := mulf main_v175 main_v175
  let main_v199 : FVec F S8x100x8400 .f32 := mulf main_v198 main_v198
  let main_v200 : FVec F S8x100x8400 .f32 := mulf main_v199 main_v199
  let main_v201 : FVec F S8x100x8400 .f32 := mulf main_v175 main_v200
  let main_cst_29 : FVec F S_ .f32 := constant S_ .f32 0x3DC577DF#32
  let main_v202 : FVec F S8x100x8400 .f32 := broadcastInDim S8x100x8400 ![] bcast_S_S8x100x8400 main_cst_29
  let main_v203 : FVec F S8x100x8400 .f32 := mulf main_v202 main_v201
  let main_v204 : FVec F S8x100x8400 .f32 := addf main_v197 main_v203
  let main_v205 : FVec F S8x100x8400 .f32 := mulf main_v175 main_v175
  let main_v206 : FVec F S8x100x8400 .f32 := mulf main_v175 main_v205
  let main_v207 : FVec F S8x100x8400 .f32 := mulf main_v205 main_v205
  let main_v208 : FVec F S8x100x8400 .f32 := mulf main_v207 main_v207
  fn_part10 (F := F) main_arg0 main_arg1 main_arg2 main_arg3 main_v44 main_v66 main_v96 main_v165 main_v170 main_v175 main_v204 main_v206 main_v208

def fn_part8 {F : FTy → Type} [FloatOps F] (main_arg0 : FVec F S8x8400x80 .f32) (main_arg1 : FVec F S8x8400x4 .f32) (main_arg2 : FVec F S8x100x4 .f32) (main_arg3 : IVec S8x100 32) (main_v44 : IVec S8x100x8400 1) (main_v66 : FVec F S8x100x8400 .f32) (main_v96 : FVec F S8x100x8400 .f32) (main_v165 : FVec F S8x100x8400 .f32) (main_v166 : FVec F S8x100x8400 .f32) (main_v167 : FVec F S8x100x8400 .f32) (main_v168 : FVec F S8x100x8400 .f32) : IVec S_ 1 :=
  let main_v169 : FVec F S8x100x8400 .f32 := addf main_v167 main_v168
  let main_v170 : FVec F S8x100x8400 .f32 := Host.divf main_v166 main_v169
  let main_cst_22 : FVec F S_ .f32 := constant S_ .f32 0x3F800000#32
  let main_v171 : FVec F S8x100x8400 .f32 := broadcastInDim S8x100x8400 ![] bcast_S_S8x100x8400 main_cst_22
  let main_v172 : IVec S8x100x8400 1 := cmpf .ole main_v170 main_v171
  let main_cst_23 : FVec F S_ .f32 := constant S_ .f32 0x3F800000#32
  let main_v173 : FVec F S8x100x8400 .f32 := broadcastInDim S8x100x8400 ![] bcast_S_S8x100x8400 main_cst_23
  let main_v174 : FVec F S8x100x8400 .f32 := Host.divf main_v173 main_v170
  let main_v175 : FVec F S8x100x8400 .f32 := fn_where (F := F) main_v172 main_v170 main_v174
  let main_cst_24 : FVec F S_ .f32 := constant S_ .f32 0x3F7FFFF5#32
  let main_v176 : FVec F S8x100x8400 .f32 := broadcastInDim S8x100x8400 ![] bcast_S_S8x100x8400 main_cst_24
  let main_v177 : FVec F S8x100x8400 .f32 := mulf main_v176 main_v175
  let main_cst_25 : FVec F S_ .f32 := constant S_ .f32 0x00000000#32
  let main_v178 : FVec F S8x100x8400 .f32 := broadcastInDim S8x100x8400 ![] bcast_S_S8x100x8400 main_cst_25
  let main_v179 : FVec F S8x100x8400 .f32 := addf main_v178 main_v177
  let main_v180 : FVec F S8x100x8400 .f32 := mulf main_v175 main_v175
  let main_v181 : FVec F S8x100x8400 .f32 := mulf main_v180 main_v175
  let main_cst_26 : FVec F S_ .f32 := constant S_ .f32 0xBEAAA61C#32
  let main_v182 : FVec F S8x100x8400 .f32 := broadcastInDim S8x100x8400 ![] bcast_S_S8x100x8400 main_cst_26
  let main_v183 : FVec F S8x100x8400 .f32 := mulf main_v182 main_v181
  let main_v184 : FVec F S8x100x8400 .f32 := addf main_v179 main_v183
  let main_v185 : FVec F S8x100x8400 .f32 := mulf main_v175 main_v175
  let main_v186 : FVec F S8x100x8400 .f32 := mulf main_v185 main_v185
  let main_v187 : FVec F S8x100x8400 .f32 := mulf main_v175 main_v186
  fn_part9 (F := F) main_arg0 main_arg1 main_arg2 main_arg3 main_v44 main_v66 main_v96 main_v165 main_v170 main_v175 main_v184 main_v187

def fn_part7 {F : FTy → Type} [FloatOps F] (main_arg0 : FVec F S8x8400x80 .f32) (main_arg1 : FVec F S8x8400x4 .f32) (main_arg2 : FVec F S8x100x4 .f32) (main_arg3 : IVec S8x100 32) (main_v19 : FVec F S8x100x8400 .f32) (main_v23 : FVec F S8x100x8400 .f32) (main_v27 : FVec F S8x100x8400 .f32) (main_v31 : FVec F S8x100x8400 .f32) (main_v44 : IVec S8x100x8400 1) (main_v66 : FVec F S8x100x8400 .f32) (main_v96 : FVec F S8x100x8400 .f32) (main_v101 : FVec F S8x100x8400 .f32) (main_v106 : FVec F S8x100x8400 .f32) (main_v143 : FVec F S8x100x8400 .f32) (main_v148 : FVec F S8x100x8400 .f32) (main_cst_17 : FVec F S_ .f32) : IVec S_ 1 :=
  let main_v149 : FVec F S8x100x8400 .f32 := broadcastInDim S8x100x8400 ![] bcast_S_S8x100x8400 main_cst_17
  let main_v150 : FVec F S8x100x8400 .f32 := mulf main_v149 main_v148
  let main_v151 : FVec F S8x100x8400 .f32 := addf main_v143 main_v150
  let main_v152 : FVec F S8x100x8400 .f32 := mulf main_v106 main_v106
  let main_v153 : FVec F S8x100x8400 .f32 := mulf main_v106 main_v152
  let main_v154 : FVec F S8x100x8400 .f32 := mulf main_v152 main_v152
  let main_v155 : FVec F S8x100x8400 .f32 := mulf main_v153 main_v154
  let main_v156 : FVec F S8x100x8400 .f32 := mulf main_v154 main_v154
  let main_v157 : FVec F S8x100x8400 .f32 := mulf main_v155 main_v156
  let main_cst_18 : FVec F S_ .f32 := constant S_ .f32 0xBB84D7E7#32
  let main_v158 : FVec F S8x100x8400 .f32 := broadcastInDim S8x100x8400 ![] bcast_S_S8x100x8400 main_cst_18
  let main_v159 : FVec F S8x100x8400 .f32 := mulf main_v158 main_v157
  let main_v160 : FVec F S8x100x8400 .f32 := addf main_v151 main_v159
  let main_cst_19 : FVec F S_ .f32 := constant S_ .f32 0x3F800000#32
  let main_v161 : FVec F S8x100x8400 .f32 := broadcastInDim S8x100x8400 ![] bcast_S_S8x100x8400 main_cst_19
  let main_v162 : IVec S8x100x8400 1 := cmpf .ole main_v101 main_v161
  let main_cst_20 : FVec F S_ .f32 := constant S_ .f32 0x3FC90FDB#32
  let main_v163 : FVec F S8x100x8400 .f32 := broadcastInDim S8x100x8400 ![] bcast_S_S8x100x8400 main_cst_20
  let main_v164 : FVec F S8x100x8400 .f32 := subf main_v163 main_v160
  let main_v165 : FVec F S8x100x8400 .f32 := fn_where (F := F) main_v162 main_v160 main_v164
  let main_v166 : FVec F S8x100x8400 .f32 := subf main_v27 main_v19
  let main_v167 : FVec F S8x100x8400 .f32 := subf main_v31 main_v23
  let main_cst_21 : FVec F S_ .f32 := constant S_ .f32 0x3089705F#32
  let main_v168 : FVec F S8x100x8400 .f32 := broadcastInDim S8x100x8400 ![] bcast_S_S8x100x8400 main_cst_21
  fn_part8 (F := F) main_arg0 main_arg1 main_arg2 main_arg3 main_v44 main_v66 main_v96 main_v165 main_v166 main_v167 main_v168

def fn_part6 {F : FTy → Type} [FloatOps F] (main_arg0 : FVec F S8x8400x80 .f32) (main_arg1 : FVec F S8x8400x4 .f32) (main_arg2 : FVec F S8x100x4 .f32) (main_arg3 : IVec S8x100 32) (main_v19 : FVec F S8x100x8400 .f32) (main_v23 : FVec F S8x100x8400 .f32) (main_v27 : FVec F S8x100x8400 .f32) (main_v31 : FVec F S8x100x8400 .f32) (main_v44 : IVec S8x100x8400 1) (main_v66 : FVec F S8x100x8400 .f32) (main_v96 : FVec F S8x100x8400 .f32) (main_v101 : FVec F S8x100x8400 .f32) (main_v106 : FVec F S8x100x8400 .f32) (main_v121 : FVec F S8x100x8400 .f32) (main_v127 : FVec F S8x100x8400 .f32) : IVec S_ 1 :=
  let main_v128 : FVec F S8x100x8400 .f32 := addf main_v121 main_v127
  let main_v129 : FVec F S8x100x8400 .f32 := mulf main_v106 main_v106
  let main_v130 : FVec F S8x100x8400 .f32 := mulf main_v129 main_v129
  let main_v131 : FVec F S8x100x8400 .f32 := mulf main_v130 main_v130
  let main_v132 : FVec F S8x100x8400 .f32 := mulf main_v106 main_v131
  let main_cst_15 : FVec F S_ .f32 := constant S_ .f32 0x3DC577DF#32
  let main_v133 : FVec F S8x100x8400 .f32 := broadcastInDim S8x100x8400 ![] bcast_S_S8x100x8400 main_cst_15
  let main_v134 : FVec F S8x100x8400 .f32 := mulf main_v133 main_v132
  let main_v135 : FVec F S8x100x8400 .f32 := addf main_v128 main_v134
  let main_v136 : FVec F S8x100x8400 .f32 := mulf main_v106 main_v106
  let main_v137 : FVec F S8x100x8400 .f32 := mulf main_v106 main_v136
  let main_v138 : FVec F S8x100x8400 .f32 := mulf main_v136 main_v136
  let main_v139 : FVec F S8x100x8400 .f32 := mulf main_v138 main_v138
  let main_v140 : FVec F S8x100x8400 .f32 := mulf main_v137 main_v139
  let main_cst_16 : FVec F S_ .f32 := constant S_ .f32 0xBD6501C4#32
  let main_v141 : FVec F S8x100x8400 .f32 := broadcastInDim S8x100x8400 ![] bcast_S_S8x100x8400 main_cst_16
  let main_v142 : FVec F S8x100x8400 .f32 := mulf main_v141 main_v140
  let main_v143 : FVec F S8x100x8400 .f32 := addf main_v135 main_v142
  let main_v144 : FVec F S8x100x8400 .f32 := mulf main_v106 main_v106
  let main_v145 : FVec F S8x100x8400 .f32 := mulf main_v144 main_v144
  let main_v146 : FVec F S8x100x8400 .f32 := mulf main_v106 main_v145
  let main_v147 : FVec F S8x100x8400 .f32 := mulf main_v145 main_v145
  let main_v148 : FVec F S8x100x8400 .f32 := mulf main_v146 main_v147
  let main_cst_17 : FVec F S_ .f32 := constant S_ .f32 0x3CB31652#32
  fn_part7 (F := F) main_arg0 main_arg1 main_arg2 main_arg3 main_v19 main_v23 main_v27 main_v31 main_v44 main_v66 main_v96 main_v101 main_v106 main_v143 main_v148 main_cst_17

def fn_part5 {F : FTy → Type} [FloatOps F] (main_arg0 : FVec F S8x8400x80 .f32) (main_arg1 : FVec F S8x8400x4 .f32) (main_arg2 : FVec F S8x100x4 .f32) (main_arg3 : IVec S8x100 32) (main_v19 : FVec F S8x100x8400 .f32) (main_v23 : FVec F S8x100x8400 .f32) (main_v27 : FVec F S8x100x8400 .f32) (main_v31 : FVec F S8x100x8400 .f32) (main_v44 : IVec S8x100x8400 1) (main_v66 : FVec F S8x100x8400 .f32) (main_v96 : FVec F S8x100x8400 .f32) (main_v101 : FVec F S8x100x8400 .f32) (main_v106 : FVec F S8x100x8400 .f32) (main_v107 : FVec F S8x100x8400 .f32) : IVec S_ 1 :=
  let main_v108 : FVec F S8x100x8400 .f32 := mulf main_v107 main_v106
  let main_cst_11 : FVec F S_ .f32 := constant S_ .f32 0x00000000#32
  let main_v109 : FVec F S8x100x8400 .f32 := broadcastInDim S8x100x8400 ![] bcast_S_S8x100x8400 main_cst_11
  let main_v110 : FVec F S8x100x8400 .f32 := addf main_v109 main_v108
  let main_v111 : FVec F S8x100x8400 .f32 := mulf main_v106 main_v106
  let main_v112 : FVec F S8x100x8400 .f32 := mulf main_v111 main_v106
  let main_cst_12 : FVec F S_ .f32 := constant S_ .f32 0xBEAAA61C#32
  let main_v113 : FVec F S8x100x8400 .f32 := broadcastInDim S8x100x8400 ![] bcast_S_S8x100x8400 main_cst_12
  let main_v114 : FVec F S8x100x8400 .f32 := mulf main_v113 main_v112
  let main_v115 : FVec F S8x100x8400 .f32 := addf main_v110 main_v114
  let main_v116 : FVec F S8x100x8400 .f32 := mulf main_v106 main_v106
  let main_v117 : FVec F S8x100x8400 .f32 := mulf main_v116 main_v116
  let main_v118 : FVec F S8x100x8400 .f32 := mulf main_v106 main_v117
  let main_cst_13 : FVec F S_ .f32 := constant S_ .f32 0x3E4C40A6#32
  let main_v119 : FVec F S8x100x8400 .f32 := broadcastInDim S8x100x8400 ![] bcast_S_S8x100x8400 main_cst_13
  let main_v120 : FVec F S8x100x8400 .f32 := mulf main_v119 main_v118
  let main_v121 : FVec F S8x100x8400 .f32 := addf main_v115 main_v120
  let main_v122 : FVec F S8x100x8400 .f32 := mulf main_v106 main_v106
  let main_v123 : FVec F S8x100x8400 .f32 := mulf main_v106 main_v122
  let main_v124 : FVec F S8x100x8400 .f32 := mulf main_v122 main_v122
  let main_v125 : FVec F S8x100x8400 .f32 := mulf main_v123 main_v124
  let main_cst_14 : FVec F S_ .f32 := constant S_ .f32 0xBE0E6C63#32
  let main_v126 : FVec F S8x100x8400 .f32 := broadcastInDim S8x100x8400 ![] bcast_S_S8x100x8400 main_cst_14
  let main_v127 : FVec F S8x100x8400 .f32 := mulf main_v126 main_v125
  fn_part6 (F := F) main_arg0 main_arg1 main_arg2 main_arg3 main_v19 main_v23 main_v27 main_v31 main_v44 main_v66 main_v96 main_v101 main_v106 main_v121 main_v127

def fn_part4 {F : FTy → Type} [FloatOps F] (main_arg0 : FVec F S8x8400x80 .f32) (main_arg1 : FVec F S8x8400x4 .f32) (main_arg2 : FVec F S8x100x4 .f32) (main_arg3 : IVec S8x100 32) (main_v3 : FVec F S8x100x8400 .f32) (main_v7 : FVec F S8x100x8400 .f32) (main_v11 : FVec F S8x100x8400 .f32) (main_v15 : FVec F S8x100x8400 .f32) (main_v19 : FVec F S8x100x8400 .f32) (main_v23 : FVec F S8x100x8400 .f32) (main_v27 : FVec F S8x100x8400 .f32) (main_v31 : FVec F S8x100x8400 .f32) (main_v44 : IVec S8x100x8400 1) (main_v66 : FVec F S8x100x8400 .f32) (main_v83 : FVec F S8x100x8400 .f32) (main_v86 : FVec F S8x100x8400 .f32) (main_v87 : FVec F S8x100x8400 .f32) (main_v88 : FVec F S8x100x8400 .f32) : IVec S_ 1 :=
  let main_v89 : FVec F S8x100x8400 .f32 := subf main_v87 main_v88
  let main_v90 : FVec F S8x100x8400 .f32 := mulf main_v86 main_v86
  let main_v91 : FVec F S8x100x8400 .f32 := mulf main_v89 main_v89
  let main_v92 : FVec F S8x100x8400 .f32 := addf main_v90 main_v91
  let main_cst_6 : FVec F S_ .f32 := constant S_ .f32 0x3089705F#32
  let main_v93 : FVec F S8x100x8400 .f32 := broadcastInDim S8x100x8400 ![] bcast_S_S8x100x8400 main_cst_6
  let main_v94 : FVec F S8x100x8400 .f32 := addf main_v92 main_v93
  let main_v95 : FVec F S8x100x8400 .f32 := Host.divf main_v83 main_v94
  let main_v96 : FVec F S8x100x8400 .f32 := subf main_v66 main_v95
  let main_v97 : FVec F S8x100x8400 .f32 := subf main_v11 main_v3
  let main_v98 : FVec F S8x100x8400 .f32 := subf main_v15 main_v7
  let main_cst_7 : FVec F S_ .f32 := constant S_ .f32 0x3089705F#32
  let main_v99 : FVec F S8x100x8400 .f32 := broadcastInDim S8x100x8400 ![] bcast_S_S8x100x8400 main_cst_7
  let main_v100 : FVec F S8x100x8400 .f32 := addf main_v98 main_v99
  let main_v101 : FVec F S8x100x8400 .f32 := Host.divf main_v97 main_v100
  let main_cst_8 : FVec F S_ .f32 := constant S_ .f32 0x3F800000#32
  let main_v102 : FVec F S8x100x8400 .f32 := broadcastInDim S8x100x8400 ![] bcast_S_S8x100x8400 main_cst_8
  let main_v103 : IVec S8x100x8400 1 := cmpf .ole main_v101 main_v102
  let main_cst_9 : FVec F S_ .f32 := constant S_ .f32 0x3F800000#32
  let main_v104 : FVec F S8x100x8400 .f32 := broadcastInDim S8x100x8400 ![] bcast_S_S8x100x8400 main_cst_9
  let main_v105 : FVec F S8x100x8400 .f32 := Host.divf main_v104 main_v101
  let main_v106 : FVec F S8x100x8400 .f32 := fn_where (F := F) main_v103 main_v101 main_v105
  let main_cst_10 : FVec F S_ .f32 := constant S_ .f32 0x3F7FFFF5#32
  let main_v107 : FVec F S8x100x8400 .f32 := broadcastInDim S8x100x8400 ![] bcast_S_S8x100x8400 main_cst_10
  fn_part5 (F := F) main_arg0 main_arg1 main_arg2 main_arg3 main_v19 main_v23 main_v27 main_v31 main_v44 main_v66 main_v96 main_v101 main_v106 main_v107

def fn_part3 {F : FTy → Type} [FloatOps F] (main_arg0 : FVec F S8x8400x80 .f32) (main_arg1 : FVec F S8x8400x4 .f32) (main_arg2 : FVec F S8x100x4 .f32) (main_arg3 : IVec S8x100 32) (main_v3 : FVec F S8x100x8400 .f32) (main_v7 : FVec F S8x100x8400 .f32) (main_v11 : FVec F S8x100x8400 .f32) (main_v15 : FVec F S8x100x8400 .f32) (main_v19 : FVec F S8x100x8400 .f32) (main_v23 : FVec F S8x100x8400 .f32) (main_v27 : FVec F S8x100x8400 .f32) (main_v31 : FVec F S8x100x8400 .f32) (main_v44 : IVec S8x100x8400 1) (main_v66 : FVec F S8x100x8400 .f32) (main_v67 : FVec F S8x100x8400 .f32) (main_cst_2 : FVec F S_ .f32) : IVec S_ 1 :=
  let main_v68 : FVec F S8x100x8400 .f32 := broadcastInDim S8x100x8400 ![] bcast_S_S8x100x8400 main_cst_2
  let main_v69 : FVec F S8x100x8400 .f32 := Host.divf main_v67 main_v68
  let main_v70 : FVec F S8x100x8400 .f32 := addf main_v15 main_v7
  let main_cst_3 : FVec F S_ .f32 := constant S_ .f32 0x40000000#32
  let main_v71 : FVec F S8x100x8400 .f32 := broadcastInDim S8x100x8400 ![] bcast_S_S8x100x8400 main_cst_3
  let main_v72 : FVec F S8x100x8400 .f32 := Host.divf main_v70 main_v71
  let main_v73 : FVec F S8x100x8400 .f32 := addf main_v27 main_v19
  let main_cst_4 : FVec F S_ .f32 := constant S_ .f32 0x40000000#32
  let main_v74 : FVec F S8x100x8400 .f32 := broadcastInDim S8x100x8400 ![] bcast_S_S8x100x8400 main_cst_4
  let main_v75 : FVec F S8x100x8400 .f32 := Host.divf main_v73 main_v74
  let main_v76 : FVec F S8x100x8400 .f32 := addf main_v31 main_v23
  let main_cst_5 : FVec F S_ .f32 := constant S_ .f32 0x40000000#32
  let main_v77 : FVec F S8x100x8400 .f32 := broadcastInDim S8x100x8400 ![] bcast_S_S8x100x8400 main_cst_5
  let main_v78 : FVec F S8x100x8400 .f32 := Host.divf main_v76 main_v77
  let main_v79 : FVec F S8x100x8400 .f32 := subf main_v69 main_v75
  let main_v80 : FVec F S8x100x8400 .f32 := mulf main_v79 main_v79
  let main_v81 : FVec F S8x100x8400 .f32 := subf main_v72 main_v78
  let main_v82 : FVec F S8x100x8400 .f32 := mulf main_v81 main_v81
  let main_v83 : FVec F S8x100x8400 .f32 := addf main_v80 main_v82
  let main_v84 : FVec F S8x100x8400 .f32 := maximumf main_v11 main_v27
  let main_v85 : FVec F S8x100x8400 .f32 := minimumf main_v3 main_v19
  let main_v86 : FVec F S8x100x8400 .f32 := subf main_v84 main_v85
  let main_v87 : FVec F S8x100x8400 .f32 := maximumf main_v15 main_v31
  let main_v88 : FVec F S8x100x8400 .f32 := minimumf main_v7 main_v23
  fn_part4 (F := F) main_arg0 main_arg1 main_arg2 main_arg3 main_v3 main_v7 main_v11 main_v15 main_v19 main_v23 main_v27 main_v31 main_v44 main_v66 main_v83 main_v86 main_v87 main_v88

def fn_part2 {F : FTy → Type} [FloatOps F] (main_arg0 : FVec F S8x8400x80 .f32) (main_arg1 : FVec F S8x8400x4 .f32) (main_arg2 : FVec F S8x100x4 .f32) (main_arg3 : IVec S8x100 32) (main_v3 : FVec F S8x100x8400 .f32) (main_v7 : FVec F S8x100x8400 .f32) (main_v11 : FVec F S8x100x8400 .f32) (main_v15 : FVec F S8x100x8400 .f32) (main_v19 : FVec F S8x100x8400 .f32) (main_v23 : FVec F S8x100x8400 .f32) (main_v27 : FVec F S8x100x8400 .f32) (main_v31 : FVec F S8x100x8400 .f32) (main_v44 : IVec S8x100x8400 1) (main_v45 : FVec F S8x100x8400 .f32) (main_v46 : FVec F S8x100x8400 .f32) (main_v47 : FVec F S8x100x8400 .f32) : IVec S_ 1 :=
  let main_v48 : FVec F S8x100x8400 .f32 := minimumf main_v15 main_v31
  let main_v49 : FVec F S8x100x8400 .f32 := subf main_v47 main_v45
  let main_cst : FVec F S_ .f32 := constant S_ .f32 0x00000000#32
  let main_v50 : FVec F S8x100x8400 .f32 := broadcastInDim S8x100x8400 ![] bcast_S_S8x100x8400 main_cst
  let main_v51 : FVec F S8x100x8400 .f32 := maximumf main_v49 main_v50
  let main_v52 : FVec F S8x100x8400 .f32 := subf main_v48 main_v46
  let main_cst_0 : FVec F S_ .f32 := constant S_ .f32 0x00000000#32
  let main_v53 : FVec F S8x100x8400 .f32 := broadcastInDim S8x100x8400 ![] bcast_S_S8x100x8400 main_cst_0
  let main_v54 : FVec F S8x100x8400 .f32 := maximumf main_v52 main_v53
  let main_v55 : FVec F S8x100x8400 .f32 := mulf main_v51 main_v54
  let main_v56 : FVec F S8x100x8400 .f32 := subf main_v11 main_v3
  let main_v57 : FVec F S8x100x8400 .f32 := subf main_v15 main_v7
  let main_v58 : FVec F S8x100x8400 .f32 := mulf main_v56 main_v57
  let main_v59 : FVec F S8x100x8400 .f32 := subf main_v27 main_v19
  let main_v60 : FVec F S8x100x8400 .f32 := subf main_v31 main_v23
  let main_v61 : FVec F S8x100x8400 .f32 := mulf main_v59 main_v60
  let main_v62 : FVec F S8x100x8400 .f32 := addf main_v58 main_v61
  let main_v63 : FVec F S8x100x8400 .f32 := subf main_v62 main_v55
  let main_cst_1 : FVec F S_ .f32 := constant S_ .f32 0x3089705F#32
  let main_v64 : FVec F S8x100x8400 .f32 := broadcastInDim S8x100x8400 ![] bcast_S_S8x100x8400 main_cst_1
  let main_v65 : FVec F S8x100x8400 .f32 := addf main_v63 main_v64
  let main_v66 : FVec F S8x100x8400 .f32 := Host.divf main_v55 main_v65
  let main_v67 : FVec F S8x100x8400 .f32 := addf main_v11 main_v3
  let main_cst_2 : FVec F S_ .f32 := constant S_ .f32 0x40000000#32
  fn_part3 (F := F) main_arg0 main_arg1 main_arg2 main_arg3 main_v3 main_v7 main_v11 main_v15 main_v19 main_v23 main_v27 main_v31 main_v44 main_v66 main_v67 main_cst_2

def fn_part1 {F : FTy → Type} [FloatOps F] (main_arg0 : FVec F S8x8400x80 .f32) (main_arg1 : FVec F S8x8400x4 .f32) (main_arg2 : FVec F S8x100x4 .f32) (main_arg3 : IVec S8x100 32) (main_arg4 : FVec F S8400x2 .f32) (main_v3 : FVec F S8x100x8400 .f32) (main_v7 : FVec F S8x100x8400 .f32) (main_v11 : FVec F S8x100x8400 .f32) (main_v15 : FVec F S8x100x8400 .f32) (main_v19 : FVec F S8x100x8400 .f32) (main_v23 : FVec F S8x100x8400 .f32) : IVec S_ 1 :=
  let main_v24 : FVec F S8x8400x1 .f32 := (extractStridedSlice S8x8400x1 ![0, 0, 2] · slices_S8x8400x4_S8x8400x1_0_0_2) main_arg1
  let main_v25 : FVec F S8x8400 .f32 := shapeCast S8x8400 main_v24 shapeCasts_S8x8400x1_S8x8400
  let main_v26 : FVec F S8x1x8400 .f32 := broadcastInDim S8x1x8400 ![0, 2] bcast_S8x8400_S8x1x8400_0_2 main_v25
  let main_v27 : FVec F S8x100x8400 .f32 := broadcastInDim S8x100x8400 ![0, 1, 2] bcast_S8x1x8400_S8x100x8400_0_1_2 main_v26
  let main_v28 : FVec F S8x8400x1 .f32 := (extractStridedSlice S8x8400x1 ![0, 0, 3] · slices_S8x8400x4_S8x8400x1_0_0_3) main_arg1
  let main_v29 : FVec F S8x8400 .f32 := shapeCast S8x8400 main_v28 shapeCasts_S8x8400x1_S8x8400
  let main_v30 : FVec F S8x1x8400 .f32 := broadcastInDim S8x1x8400 ![0, 2] bcast_S8x8400_S8x1x8400_0_2 main_v29
  let main_v31 : FVec F S8x100x8400 .f32 := broadcastInDim S8x100x8400 ![0, 1, 2] bcast_S8x1x8400_S8x100x8400_0_1_2 main_v30
  let main_v32 : FVec F S8400x1 .f32 := (extractStridedSlice S8400x1 ![0, 0] · slices_S8400x2_S8400x1_0_0) main_arg4
  let main_v33 : FVec F S8400 .f32 := shapeCast S8400 main_v32 shapeCasts_S8400x1_S8400
  let main_v34 : FVec F S8x100x8400 .f32 := broadcastInDim S8x100x8400 ![2] bcast_S8400_S8x100x8400_2 main_v33
  let main_v35 : FVec F S8400x1 .f32 := (extractStridedSlice S8400x1 ![0, 1] · slices_S8400x2_S8400x1_0_1) main_arg4
  let main_v36 : FVec F S8400 .f32 := shapeCast S8400 main_v35 shapeCasts_S8400x1_S8400
  let main_v37 : FVec F S8x100x8400 .f32 := broadcastInDim S8x100x8400 ![2] bcast_S8400_S8x100x8400_2 main_v36
  let main_v38 : IVec S8x100x8400 1 := cmpf .olt main_v3 main_v34
  let main_v39 : IVec S8x100x8400 1 := cmpf .olt main_v34 main_v11
  let main_v40 : IVec S8x100x8400 1 := andi main_v38 main_v39
  let main_v41 : IVec S8x100x8400 1 := cmpf .olt main_v7 main_v37
  let main_v42 : IVec S8x100x8400 1 := andi main_v40 main_v41
  let main_v43 : IVec S8x100x8400 1 := cmpf .olt main_v37 main_v15
  let main_v44 : IVec S8x100x8400 1 := andi main_v42 main_v43
  let main_v45 : FVec F S8x100x8400 .f32 := maximumf main_v3 main_v19
  let main_v46 : FVec F S8x100x8400 .f32 := maximumf main_v7 main_v23
  let main_v47 : FVec F S8x100x8400 .f32 := minimumf main_v11 main_v27
  fn_part2 (F := F) main_arg0 main_arg1 main_arg2 main_arg3 main_v3 main_v7 main_v11 main_v15 main_v19 main_v23 main_v27 main_v31 main_v44 main_v45 main_v46 main_v47

def fn {F : FTy → Type} [FloatOps F] (main_arg0 : FVec F S8x8400x80 .f32) (main_arg1 : FVec F S8x8400x4 .f32) (main_arg2 : FVec F S8x100x4 .f32) (main_arg3 : IVec S8x100 32) (main_arg4 : FVec F S8400x2 .f32) : IVec S_ 1 :=
  let main_v0 : FVec F S8x100x1 .f32 := (extractStridedSlice S8x100x1 ![0, 0, 0] · slices_S8x100x4_S8x100x1_0_0_0) main_arg2
  let main_v1 : FVec F S8x100 .f32 := shapeCast S8x100 main_v0 shapeCasts_S8x100x1_S8x100
  let main_v2 : FVec F S8x100x1 .f32 := broadcastInDim S8x100x1 ![0, 1] bcast_S8x100_S8x100x1_0_1 main_v1
  let main_v3 : FVec F S8x100x8400 .f32 := broadcastInDim S8x100x8400 ![0, 1, 2] bcast_S8x100x1_S8x100x8400_0_1_2 main_v2
  let main_v4 : FVec F S8x100x1 .f32 := (extractStridedSlice S8x100x1 ![0, 0, 1] · slices_S8x100x4_S8x100x1_0_0_1) main_arg2
  let main_v5 : FVec F S8x100 .f32 := shapeCast S8x100 main_v4 shapeCasts_S8x100x1_S8x100
  let main_v6 : FVec F S8x100x1 .f32 := broadcastInDim S8x100x1 ![0, 1] bcast_S8x100_S8x100x1_0_1 main_v5
  let main_v7 : FVec F S8x100x8400 .f32 := broadcastInDim S8x100x8400 ![0, 1, 2] bcast_S8x100x1_S8x100x8400_0_1_2 main_v6
  let main_v8 : FVec F S8x100x1 .f32 := (extractStridedSlice S8x100x1 ![0, 0, 2] · slices_S8x100x4_S8x100x1_0_0_2) main_arg2
  let main_v9 : FVec F S8x100 .f32 := shapeCast S8x100 main_v8 shapeCasts_S8x100x1_S8x100
  let main_v10 : FVec F S8x100x1 .f32 := broadcastInDim S8x100x1 ![0, 1] bcast_S8x100_S8x100x1_0_1 main_v9
  let main_v11 : FVec F S8x100x8400 .f32 := broadcastInDim S8x100x8400 ![0, 1, 2] bcast_S8x100x1_S8x100x8400_0_1_2 main_v10
  let main_v12 : FVec F S8x100x1 .f32 := (extractStridedSlice S8x100x1 ![0, 0, 3] · slices_S8x100x4_S8x100x1_0_0_3) main_arg2
  let main_v13 : FVec F S8x100 .f32 := shapeCast S8x100 main_v12 shapeCasts_S8x100x1_S8x100
  let main_v14 : FVec F S8x100x1 .f32 := broadcastInDim S8x100x1 ![0, 1] bcast_S8x100_S8x100x1_0_1 main_v13
  let main_v15 : FVec F S8x100x8400 .f32 := broadcastInDim S8x100x8400 ![0, 1, 2] bcast_S8x100x1_S8x100x8400_0_1_2 main_v14
  let main_v16 : FVec F S8x8400x1 .f32 := (extractStridedSlice S8x8400x1 ![0, 0, 0] · slices_S8x8400x4_S8x8400x1_0_0_0) main_arg1
  let main_v17 : FVec F S8x8400 .f32 := shapeCast S8x8400 main_v16 shapeCasts_S8x8400x1_S8x8400
  let main_v18 : FVec F S8x1x8400 .f32 := broadcastInDim S8x1x8400 ![0, 2] bcast_S8x8400_S8x1x8400_0_2 main_v17
  let main_v19 : FVec F S8x100x8400 .f32 := broadcastInDim S8x100x8400 ![0, 1, 2] bcast_S8x1x8400_S8x100x8400_0_1_2 main_v18
  let main_v20 : FVec F S8x8400x1 .f32 := (extractStridedSlice S8x8400x1 ![0, 0, 1] · slices_S8x8400x4_S8x8400x1_0_0_1) main_arg1
  let main_v21 : FVec F S8x8400 .f32 := shapeCast S8x8400 main_v20 shapeCasts_S8x8400x1_S8x8400
  let main_v22 : FVec F S8x1x8400 .f32 := broadcastInDim S8x1x8400 ![0, 2] bcast_S8x8400_S8x1x8400_0_2 main_v21
  let main_v23 : FVec F S8x100x8400 .f32 := broadcastInDim S8x100x8400 ![0, 1, 2] bcast_S8x1x8400_S8x100x8400_0_1_2 main_v22
  fn_part1 (F := F) main_arg0 main_arg1 main_arg2 main_arg3 main_arg4 main_v3 main_v7 main_v11 main_v15 main_v19 main_v23
-- ==== Kernel.lean ====
abbrev S8x8400x80 : Shape := ⟨3, ![8, 8400, 80]⟩
abbrev S8x8400x4 : Shape := ⟨3, ![8, 8400, 4]⟩
abbrev S8x100x4 : Shape := ⟨3, ![8, 100, 4]⟩
abbrev S8x100 : Shape := ⟨2, ![8, 100]⟩
abbrev S8400x2 : Shape := ⟨2, ![8400, 2]⟩
abbrev S8x4x8400 : Shape := ⟨3, ![8, 4, 8400]⟩
abbrev S2x8400 : Shape := ⟨2, ![2, 8400]⟩
abbrev S8x1x100 : Shape := ⟨3, ![8, 1, 100]⟩
abbrev S5376000 : Shape := ⟨1, ![5376000]⟩
abbrev S32x16 : Shape := ⟨2, ![32, 16]⟩
abbrev S28000 : Shape := ⟨1, ![28000]⟩
abbrev S16 : Shape := ⟨1, ![16]⟩
abbrev S_ : Shape := ⟨0, ![]⟩
abbrev S1x16 : Shape := ⟨2, ![1, 16]⟩
abbrev S8x8x128 : Shape := ⟨3, ![8, 8, 128]⟩
abbrev S1x8400x80 : Shape := ⟨3, ![1, 8400, 80]⟩
abbrev S1x4x8400 : Shape := ⟨3, ![1, 4, 8400]⟩
abbrev S1x100x4 : Shape := ⟨3, ![1, 100, 4]⟩
abbrev S1x1x100 : Shape := ⟨3, ![1, 1, 100]⟩
abbrev S1x8x128 : Shape := ⟨3, ![1, 8, 128]⟩
abbrev S8400x80 : Shape := ⟨2, ![8400, 80]⟩
abbrev S4x8400 : Shape := ⟨2, ![4, 8400]⟩
abbrev S100x4 : Shape := ⟨2, ![100, 4]⟩
abbrev S1x100 : Shape := ⟨2, ![1, 100]⟩
abbrev S1x8400 : Shape := ⟨2, ![1, 8400]⟩
abbrev S100x1 : Shape := ⟨2, ![100, 1]⟩
abbrev S100x8400 : Shape := ⟨2, ![100, 8400]⟩
abbrev S100x2 : Shape := ⟨2, ![100, 2]⟩
abbrev S80x100 : Shape := ⟨2, ![80, 100]⟩
abbrev S100 : Shape := ⟨1, ![100]⟩
abbrev S8400 : Shape := ⟨1, ![8400]⟩
abbrev S100x5 : Shape := ⟨2, ![100, 5]⟩
abbrev S5x8400 : Shape := ⟨2, ![5, 8400]⟩
abbrev S1x1x8400 : Shape := ⟨3, ![1, 1, 8400]⟩
abbrev S1 : Shape := ⟨1, ![1]⟩
abbrev S1x1x1 : Shape := ⟨3, ![1, 1, 1]⟩
abbrev S8x128 : Shape := ⟨2, ![8, 128]⟩
abbrev S8x4x1 : Shape := ⟨3, ![8, 4, 1]⟩
abbrev S8x4 : Shape := ⟨2, ![8, 4]⟩
abbrev S8x1 : Shape := ⟨2, ![8, 1]⟩
abbrev S8 : Shape := ⟨1, ![8]⟩

abbrev nBuf : Table → Nat
  | .hbm => 36
  | .local .tc .vmem => 11
  | .local .scVector .vmem => 2
  | _ => 0

abbrev bufTy : (tb : Table) → Fin (nBuf tb) → BufTy
  | .hbm, ⟨0, _⟩ => ⟨S8x8400x80, .f32⟩
  | .hbm, ⟨1, _⟩ => ⟨S8x8400x4, .f32⟩
  | .hbm, ⟨2, _⟩ => ⟨S8x100x4, .f32⟩
  | .hbm, ⟨3, _⟩ => ⟨S8x100, .i32⟩
  | .hbm, ⟨4, _⟩ => ⟨S8400x2, .f32⟩
  | .hbm, ⟨5, _⟩ => ⟨S8x4x8400, .f32⟩
  | .hbm, ⟨6, _⟩ => ⟨S2x8400, .f32⟩
  | .hbm, ⟨7, _⟩ => ⟨S8x1x100, .i32⟩
  | .hbm, ⟨8, _⟩ => ⟨S5376000, .f32⟩
  | .hbm, ⟨9, _⟩ => ⟨S32x16, .f32⟩
  | .hbm, ⟨10, _⟩ => ⟨S8x8x128, .f32⟩
  | .hbm, ⟨11, _⟩ => ⟨S8x4x1, .f32⟩
  | .hbm, ⟨12, _⟩ => ⟨S8x4, .f32⟩
  | .hbm, ⟨13, _⟩ => ⟨S_, .f32⟩
  | .hbm, ⟨14, _⟩ => ⟨S_, .f32⟩
  | .hbm, ⟨15, _⟩ => ⟨S8x1, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S8x1, .f32⟩
  | .hbm, ⟨20, _⟩ => ⟨S8, .f32⟩
  | .hbm, ⟨21, _⟩ => ⟨S_, .f32⟩
  | .hbm, ⟨22, _⟩ => ⟨S_, .f32⟩
  | .hbm, ⟨23, _⟩ => ⟨S8x1, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local .tc .vmem, ⟨0, _⟩ => ⟨S1x8400x80, .f32⟩
  | .local .tc .vmem, ⟨1, _⟩ => ⟨S1x8400x80, .f32⟩
  | .local .tc .vmem, ⟨2, _⟩ => ⟨S1x4x8400, .f32⟩
  | .local .tc .vmem, ⟨3, _⟩ => ⟨S1x4x8400, .f32⟩
  | .local .tc .vmem, ⟨4, _⟩ => ⟨S1x100x4, .f32⟩
  | .local .tc .vmem, ⟨5, _⟩ => ⟨S1x100x4, .f32⟩
  | .local .tc .vmem, ⟨6, _⟩ => ⟨S1x1x100, .i32⟩
  | .local .tc .vmem, ⟨7, _⟩ => ⟨S1x1x100, .i32⟩
  | .local .tc .vmem, ⟨8, _⟩ => ⟨S2x8400, .f32⟩
  | .local .tc .vmem, ⟨9, _⟩ => ⟨S1x8x128, .f32⟩
  | .local .tc .vmem, ⟨10, _⟩ => ⟨S1x8x128, .f32⟩
  | .local .scVector .vmem, ⟨0, _⟩ => ⟨S28000, .f32⟩
  | .local .scVector .vmem, ⟨1, _⟩ => ⟨S16, .f32⟩
  | _, _ => ⟨S8x8400x80, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v3_scv : Ref sig .scVector := ⟨.hbm, 8, rfl⟩
abbrev main_v4_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc0_scratch0 : Ref sig .scVector := ⟨.vmem, 0, rfl⟩
abbrev cc0_scratch1 : Ref sig .scVector := ⟨.vmem, 1, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c168000_i32 : BitVec 32 := 168000#32
  let v2 : BitVec 32 := Scalar.muli v1 c168000_i32
  let v7 : BitVec 32 := Scalar.addi v2 c0_i32
  ![v7.toNat]
@[reducible] def k0_t1_loop : Scf.Loop 32 :=
  let c0_i32_1 : BitVec 32 := 0#32
  let c1750_i32 : BitVec 32 := 1750#32
  let v10 : BitVec 32 := Scalar.addi c0_i32_1 c1750_i32
  let c1_i32 : BitVec 32 := 1#32
  ⟨c0_i32_1, v10, c1_i32⟩
def k0_off2 (k0_t1 : Fin k0_t1_loop.trips) : Fin 1 → Nat :=
  let c0_i32_1 : BitVec 32 := 0#32
  let c1_i32 : BitVec 32 := 1#32
  let arg6 : BitVec 32 := Scf.iv c0_i32_1 c1_i32 k0_t1
  let c16_i32 : BitVec 32 := 16#32
  let v55 : BitVec 32 := Scalar.muli arg6 c16_i32
  let v56 : Index := Scalar.indexCast v55
  ![v56.toNat]
@[reducible] def k0_t2_loop : Scf.Loop 32 :=
  let c0_i32_5 : BitVec 32 := 0#32
  let c1750_i32_6 : BitVec 32 := 1750#32
  let v18 : BitVec 32 := Scalar.addi c0_i32_5 c1750_i32_6
  let c1_i32_7 : BitVec 32 := 1#32
  ⟨c0_i32_5, v18, c1_i32_7⟩
def k0_off3 (k0_t2 : Fin k0_t2_loop.trips) : Fin 1 → Nat :=
  let c0_i32_5 : BitVec 32 := 0#32
  let c1_i32_7 : BitVec 32 := 1#32
  let arg6 : BitVec 32 := Scf.iv c0_i32_5 c1_i32_7 k0_t2
  let c16_i32 : BitVec 32 := 16#32
  let v55 : BitVec 32 := Scalar.muli arg6 c16_i32
  let v56 : Index := Scalar.indexCast v55
  ![v56.toNat]
@[reducible] def k0_t3_loop : Scf.Loop 32 :=
  let c0_i32_11 : BitVec 32 := 0#32
  let c1750_i32_12 : BitVec 32 := 1750#32
  let v26 : BitVec 32 := Scalar.addi c0_i32_11 c1750_i32_12
  let c1_i32_13 : BitVec 32 := 1#32
  ⟨c0_i32_11, v26, c1_i32_13⟩
def k0_off4 (k0_t3 : Fin k0_t3_loop.trips) : Fin 1 → Nat :=
  let c0_i32_11 : BitVec 32 := 0#32
  let c1_i32_13 : BitVec 32 := 1#32
  let arg6 : BitVec 32 := Scf.iv c0_i32_11 c1_i32_13 k0_t3
  let c16_i32 : BitVec 32 := 16#32
  let v55 : BitVec 32 := Scalar.muli arg6 c16_i32
  let v56 : Index := Scalar.indexCast v55
  ![v56.toNat]
@[reducible] def k0_t4_loop : Scf.Loop 32 :=
  let c0_i32_17 : BitVec 32 := 0#32
  let c1750_i32_18 : BitVec 32 := 1750#32
  let v34 : BitVec 32 := Scalar.addi c0_i32_17 c1750_i32_18
  let c1_i32_19 : BitVec 32 := 1#32
  ⟨c0_i32_17, v34, c1_i32_19⟩
def k0_off5 (k0_t4 : Fin k0_t4_loop.trips) : Fin 1 → Nat :=
  let c0_i32_17 : BitVec 32 := 0#32
  let c1_i32_19 : BitVec 32 := 1#32
  let arg6 : BitVec 32 := Scf.iv c0_i32_17 c1_i32_19 k0_t4
  let c16_i32 : BitVec 32 := 16#32
  let v55 : BitVec 32 := Scalar.muli arg6 c16_i32
  let v56 : Index := Scalar.indexCast v55
  ![v56.toNat]
@[reducible] def k0_t5_loop : Scf.Loop 32 :=
  let c0_i32_23 : BitVec 32 := 0#32
  let c1750_i32_24 : BitVec 32 := 1750#32
  let v42 : BitVec 32 := Scalar.addi c0_i32_23 c1750_i32_24
  let c1_i32_25 : BitVec 32 := 1#32
  ⟨c0_i32_23, v42, c1_i32_25⟩
def k0_off6 (k0_t5 : Fin k0_t5_loop.trips) : Fin 1 → Nat :=
  let c0_i32_23 : BitVec 32 := 0#32
  let c1_i32_25 : BitVec 32 := 1#32
  let arg6 : BitVec 32 := Scf.iv c0_i32_23 c1_i32_25 k0_t5
  let c16_i32 : BitVec 32 := 16#32
  let v55 : BitVec 32 := Scalar.muli arg6 c16_i32
  let v56 : Index := Scalar.indexCast v55
  ![v56.toNat]
@[reducible] def k0_t6_loop : Scf.Loop 32 :=
  let c0_i32_29 : BitVec 32 := 0#32
  let c1750_i32_30 : BitVec 32 := 1750#32
  let v50 : BitVec 32 := Scalar.addi c0_i32_29 c1750_i32_30
  let c1_i32_31 : BitVec 32 := 1#32
  ⟨c0_i32_29, v50, c1_i32_31⟩
def k0_off7 (k0_t6 : Fin k0_t6_loop.trips) : Fin 1 → Nat :=
  let c0_i32_29 : BitVec 32 := 0#32
  let c1_i32_31 : BitVec 32 := 1#32
  let arg6 : BitVec 32 := Scf.iv c0_i32_29 c1_i32_31 k0_t6
  let c16_i32 : BitVec 32 := 16#32
  let v55 : BitVec 32 := Scalar.muli arg6 c16_i32
  let v56 : Index := Scalar.indexCast v55
  ![v56.toNat]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_34_r6 : BitVec 32 := 0#32
  ![v1.toNat, 0]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8400x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x8400 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x100x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x100 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2x8400 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x8400x80 : Shape := ⟨3, ![8, 8400, 80]⟩
abbrev S8x8400x4 : Shape := ⟨3, ![8, 8400, 4]⟩
abbrev S8x100x4 : Shape := ⟨3, ![8, 100, 4]⟩
abbrev S8x100 : Shape := ⟨2, ![8, 100]⟩
abbrev S8400x2 : Shape := ⟨2, ![8400, 2]⟩
abbrev S8x100x1 : Shape := ⟨3, ![8, 100, 1]⟩
abbrev S8x100x8400 : Shape := ⟨3, ![8, 100, 8400]⟩
abbrev S8x8400x1 : Shape := ⟨3, ![8, 8400, 1]⟩
abbrev S8x8400 : Shape := ⟨2, ![8, 8400]⟩
abbrev S8x1x8400 : Shape := ⟨3, ![8, 1, 8400]⟩
abbrev S8400x1 : Shape := ⟨2, ![8400, 1]⟩
abbrev S8400 : Shape := ⟨1, ![8400]⟩
abbrev S_ : Shape := ⟨0, ![]⟩
abbrev S8x80x8400 : Shape := ⟨3, ![8, 80, 8400]⟩
abbrev S8x100x10 : Shape := ⟨3, ![8, 100, 10]⟩
abbrev S8x8400x100 : Shape := ⟨3, ![8, 8400, 100]⟩
abbrev S1x1x80 : Shape := ⟨3, ![1, 1, 80]⟩
abbrev S8x1x8400x1 : Shape := ⟨4, ![8, 1, 8400, 1]⟩

abbrev nBuf : Space → Nat
  | .hbm => 748
  | .vmem => 0
  | .smem => 0
  | _ => 0

abbrev hbmTy0_0 (i : Nat) : BufTy := match i % 128 with
  | 0 => ⟨S8x8400x80, .f32⟩
  | 1 => ⟨S8x8400x4, .f32⟩
  | 2 => ⟨S8x100x4, .f32⟩
  | 3 => ⟨S8x100, .i32⟩
  | 4 => ⟨S8400x2, .f32⟩
  | 5 => ⟨S8x100x1, .f32⟩
  | 6 => ⟨S8x100, .f32⟩
  | 7 => ⟨S8x100x1, .f32⟩
  | 8 => ⟨S8x100x8400, .f32⟩
  | 9 => ⟨S8x100x1, .f32⟩
  | 10 => ⟨S8x100, .f32⟩
  | 11 => ⟨S8x100x1, .f32⟩
  | 12 => ⟨S8x100x8400, .f32⟩
  | 13 => ⟨S8x100x1, .f32⟩
  | 14 => ⟨S8x100, .f32⟩
  | 15 => ⟨S8x100x1, .f32⟩
  | 16 => ⟨S8x100x8400, .f32⟩
  | 17 => ⟨S8x100x1, .f32⟩
  | 18 => ⟨S8x100, .f32⟩
  | 19 => ⟨S8x100x1, .f32⟩
  | 20 => ⟨S8x100x8400, .f32⟩
  | 21 => ⟨S8x8400x1, .f32⟩
  | 22 => ⟨S8x8400, .f32⟩
  | 23 => ⟨S8x1x8400, .f32⟩
  | 24 => ⟨S8x100x8400, .f32⟩
  | 25 => ⟨S8x8400x1, .f32⟩
  | 26 => ⟨S8x8400, .f32⟩
  | 27 => ⟨S8x1x8400, .f32⟩
  | 28 => ⟨S8x100x8400, .f32⟩
  | 29 => ⟨S8x8400x1, .f32⟩
  | 30 => ⟨S8x8400, .f32⟩
  | 31 => ⟨S8x1x8400, .f32⟩
  | 32 => ⟨S8x100x8400, .f32⟩
  | 33 => ⟨S8x8400x1, .f32⟩
  | 34 => ⟨S8x8400, .f32⟩
  | 35 => ⟨S8x1x8400, .f32⟩
  | 36 => ⟨S8x100x8400, .f32⟩
  | 37 => ⟨S8400x1, .f32⟩
  | 38 => ⟨S8400, .f32⟩
  | 39 => ⟨S8x100x8400, .f32⟩
  | 40 => ⟨S8400x1, .f32⟩
  | 41 => ⟨S8400, .f32⟩
  | 42 => ⟨S8x100x8400, .f32⟩
  | 43 => ⟨S8x100x8400, .i1⟩
  | 44 => ⟨S8x100x8400, .i1⟩
  | 45 => ⟨S8x100x8400, .i1⟩
  | 46 => ⟨S8x100x8400, .i1⟩
  | 47 => ⟨S8x100x8400, .i1⟩
  | 48 => ⟨S8x100x8400, .i1⟩
  | 49 => ⟨S8x100x8400, .i1⟩
  | 50 => ⟨S8x100x8400, .f32⟩
  | 51 => ⟨S8x100x8400, .f32⟩
  | 52 => ⟨S8x100x8400, .f32⟩
  | 53 => ⟨S8x100x8400, .f32⟩
  | 54 => ⟨S8x100x8400, .f32⟩
  | 55 => ⟨S_, .f32⟩
  | 56 => ⟨S8x100x8400, .f32⟩
  | 57 => ⟨S8x100x8400, .f32⟩
  | 58 => ⟨S8x100x8400, .f32⟩
  | 59 => ⟨S_, .f32⟩
  | 60 => ⟨S8x100x8400, .f32⟩
  | 61 => ⟨S8x100x8400, .f32⟩
  | 62 => ⟨S8x100x8400, .f32⟩
  | 63 => ⟨S8x100x8400, .f32⟩
  | 64 => ⟨S8x100x8400, .f32⟩
  | 65 => ⟨S8x100x8400, .f32⟩
  | 66 => ⟨S8x100x8400, .f32⟩
  | 67 => ⟨S8x100x8400, .f32⟩
  | 68 => ⟨S8x100x8400, .f32⟩
  | 69 => ⟨S8x100x8400, .f32⟩
  | 70 => ⟨S8x100x8400, .f32⟩
  | 71 => ⟨S_, .f32⟩
  | 72 => ⟨S8x100x8400, .f32⟩
  | 73 => ⟨S8x100x8400, .f32⟩
  | 74 => ⟨S8x100x8400, .f32⟩
  | 75 => ⟨S8x100x8400, .f32⟩
  | 76 => ⟨S_, .f32⟩
  | 77 => ⟨S8x100x8400, .f32⟩
  | 78 => ⟨S8x100x8400, .f32⟩
  | 79 => ⟨S8x100x8400, .f32⟩
  | 80 => ⟨S_, .f32⟩
  | 81 => ⟨S8x100x8400, .f32⟩
  | 82 => ⟨S8x100x8400, .f32⟩
  | 83 => ⟨S8x100x8400, .f32⟩
  | 84 => ⟨S_, .f32⟩
  | 85 => ⟨S8x100x8400, .f32⟩
  | 86 => ⟨S8x100x8400, .f32⟩
  | 87 => ⟨S8x100x8400, .f32⟩
  | 88 => ⟨S_, .f32⟩
  | 89 => ⟨S8x100x8400, .f32⟩
  | 90 => ⟨S8x100x8400, .f32⟩
  | 91 => ⟨S8x100x8400, .f32⟩
  | 92 => ⟨S8x100x8400, .f32⟩
  | 93 => ⟨S8x100x8400, .f32⟩
  | 94 => ⟨S8x100x8400, .f32⟩
  | 95 => ⟨S8x100x8400, .f32⟩
  | 96 => ⟨S8x100x8400, .f32⟩
  | 97 => ⟨S8x100x8400, .f32⟩
  | 98 => ⟨S8x100x8400, .f32⟩
  | 99 => ⟨S8x100x8400, .f32⟩
  | 100 => ⟨S8x100x8400, .f32⟩
  | 101 => ⟨S8x100x8400, .f32⟩
  | 102 => ⟨S8x100x8400, .f32⟩
  | 103 => ⟨S8x100x8400, .f32⟩
  | 104 => ⟨S8x100x8400, .f32⟩
  | 105 => ⟨S_, .f32⟩
  | 106 => ⟨S8x100x8400, .f32⟩
  | 107 => ⟨S8x100x8400, .f32⟩
  | 108 => ⟨S8x100x8400, .f32⟩
  | 109 => ⟨S8x100x8400, .f32⟩
  | 110 => ⟨S8x100x8400, .f32⟩
  | 111 => ⟨S8x100x8400, .f32⟩
  | 112 => ⟨S_, .f32⟩
  | 113 => ⟨S8x100x8400, .f32⟩
  | 114 => ⟨S8x100x8400, .f32⟩
  | 115 => ⟨S8x100x8400, .f32⟩
  | 116 => ⟨S_, .f32⟩
  | 117 => ⟨S8x100x8400, .f32⟩
  | 118 => ⟨S8x100x8400, .i1⟩
  | 119 => ⟨S_, .f32⟩
  | 120 => ⟨S8x100x8400, .f32⟩
  | 121 => ⟨S8x100x8400, .f32⟩
  | 122 => ⟨S8x100x8400, .f32⟩
  | 123 => ⟨S_, .f32⟩
  | 124 => ⟨S8x100x8400, .f32⟩
  | 125 => ⟨S8x100x8400, .f32⟩
  | 126 => ⟨S_, .f32⟩
  | 127 => ⟨S8x100x8400, .f32⟩
  | _ => ⟨S8x8400x80, .f32⟩

abbrev hbmTy0_1 (i : Nat) : BufTy := match i % 128 with
  | 0 => ⟨S8x100x8400, .f32⟩
  | 1 => ⟨S8x100x8400, .f32⟩
  | 2 => ⟨S8x100x8400, .f32⟩
  | 3 => ⟨S_, .f32⟩
  | 4 => ⟨S8x100x8400, .f32⟩
  | 5 => ⟨S8x100x8400, .f32⟩
  | 6 => ⟨S8x100x8400, .f32⟩
  | 7 => ⟨S8x100x8400, .f32⟩
  | 8 => ⟨S8x100x8400, .f32⟩
  | 9 => ⟨S8x100x8400, .f32⟩
  | 10 => ⟨S_, .f32⟩
  | 11 => ⟨S8x100x8400, .f32⟩
  | 12 => ⟨S8x100x8400, .f32⟩
  | 13 => ⟨S8x100x8400, .f32⟩
  | 14 => ⟨S8x100x8400, .f32⟩
  | 15 => ⟨S8x100x8400, .f32⟩
  | 16 => ⟨S8x100x8400, .f32⟩
  | 17 => ⟨S8x100x8400, .f32⟩
  | 18 => ⟨S_, .f32⟩
  | 19 => ⟨S8x100x8400, .f32⟩
  | 20 => ⟨S8x100x8400, .f32⟩
  | 21 => ⟨S8x100x8400, .f32⟩
  | 22 => ⟨S8x100x8400, .f32⟩
  | 23 => ⟨S8x100x8400, .f32⟩
  | 24 => ⟨S8x100x8400, .f32⟩
  | 25 => ⟨S8x100x8400, .f32⟩
  | 26 => ⟨S_, .f32⟩
  | 27 => ⟨S8x100x8400, .f32⟩
  | 28 => ⟨S8x100x8400, .f32⟩
  | 29 => ⟨S8x100x8400, .f32⟩
  | 30 => ⟨S8x100x8400, .f32⟩
  | 31 => ⟨S8x100x8400, .f32⟩
  | 32 => ⟨S8x100x8400, .f32⟩
  | 33 => ⟨S8x100x8400, .f32⟩
  | 34 => ⟨S8x100x8400, .f32⟩
  | 35 => ⟨S_, .f32⟩
  | 36 => ⟨S8x100x8400, .f32⟩
  | 37 => ⟨S8x100x8400, .f32⟩
  | 38 => ⟨S8x100x8400, .f32⟩
  | 39 => ⟨S8x100x8400, .f32⟩
  | 40 => ⟨S8x100x8400, .f32⟩
  | 41 => ⟨S8x100x8400, .f32⟩
  | 42 => ⟨S8x100x8400, .f32⟩
  | 43 => ⟨S8x100x8400, .f32⟩
  | 44 => ⟨S_, .f32⟩
  | 45 => ⟨S8x100x8400, .f32⟩
  | 46 => ⟨S8x100x8400, .f32⟩
  | 47 => ⟨S8x100x8400, .f32⟩
  | 48 => ⟨S8x100x8400, .f32⟩
  | 49 => ⟨S8x100x8400, .f32⟩
  | 50 => ⟨S8x100x8400, .f32⟩
  | 51 => ⟨S8x100x8400, .f32⟩
  | 52 => ⟨S8x100x8400, .f32⟩
  | 53 => ⟨S8x100x8400, .f32⟩
  | 54 => ⟨S_, .f32⟩
  | 55 => ⟨S8x100x8400, .f32⟩
  | 56 => ⟨S8x100x8400, .f32⟩
  | 57 => ⟨S8x100x8400, .f32⟩
  | 58 => ⟨S_, .f32⟩
  | 59 => ⟨S8x100x8400, .f32⟩
  | 60 => ⟨S8x100x8400, .i1⟩
  | 61 => ⟨S_, .f32⟩
  | 62 => ⟨S8x100x8400, .f32⟩
  | 63 => ⟨S8x100x8400, .f32⟩
  | 64 => ⟨S8x100x8400, .f32⟩
  | 65 => ⟨S8x100x8400, .f32⟩
  | 66 => ⟨S8x100x8400, .f32⟩
  | 67 => ⟨S_, .f32⟩
  | 68 => ⟨S8x100x8400, .f32⟩
  | 69 => ⟨S8x100x8400, .f32⟩
  | 70 => ⟨S8x100x8400, .f32⟩
  | 71 => ⟨S_, .f32⟩
  | 72 => ⟨S8x100x8400, .f32⟩
  | 73 => ⟨S8x100x8400, .i1⟩
  | 74 => ⟨S_, .f32⟩
  | 75 => ⟨S8x100x8400, .f32⟩
  | 76 => ⟨S8x100x8400, .f32⟩
  | 77 => ⟨S8x100x8400, .f32⟩
  | 78 => ⟨S_, .f32⟩
  | 79 => ⟨S8x100x8400, .f32⟩
  | 80 => ⟨S8x100x8400, .f32⟩
  | 81 => ⟨S_, .f32⟩
  | 82 => ⟨S8x100x8400, .f32⟩
  | 83 => ⟨S8x100x8400, .f32⟩
  | 84 => ⟨S8x100x8400, .f32⟩
  | 85 => ⟨S8x100x8400, .f32⟩
  | 86 => ⟨S_, .f32⟩
  | 87 => ⟨S8x100x8400, .f32⟩
  | 88 => ⟨S8x100x8400, .f32⟩
  | 89 => ⟨S8x100x8400, .f32⟩
  | 90 => ⟨S8x100x8400, .f32⟩
  | 91 => ⟨S8x100x8400, .f32⟩
  | 92 => ⟨S8x100x8400, .f32⟩
  | 93 => ⟨S_, .f32⟩
  | 94 => ⟨S8x100x8400, .f32⟩
  | 95 => ⟨S8x100x8400, .f32⟩
  | 96 => ⟨S8x100x8400, .f32⟩
  | 97 => ⟨S8x100x8400, .f32⟩
  | 98 => ⟨S8x100x8400, .f32⟩
  | 99 => ⟨S8x100x8400, .f32⟩
  | 100 => ⟨S8x100x8400, .f32⟩
  | 101 => ⟨S_, .f32⟩
  | 102 => ⟨S8x100x8400, .f32⟩
  | 103 => ⟨S8x100x8400, .f32⟩
  | 104 => ⟨S8x100x8400, .f32⟩
  | 105 => ⟨S8x100x8400, .f32⟩
  | 106 => ⟨S8x100x8400, .f32⟩
  | 107 => ⟨S8x100x8400, .f32⟩
  | 108 => ⟨S8x100x8400, .f32⟩
  | 109 => ⟨S_, .f32⟩
  | 110 => ⟨S8x100x8400, .f32⟩
  | 111 => ⟨S8x100x8400, .f32⟩
  | 112 => ⟨S8x100x8400, .f32⟩
  | 113 => ⟨S8x100x8400, .f32⟩
  | 114 => ⟨S8x100x8400, .f32⟩
  | 115 => ⟨S8x100x8400, .f32⟩
  | 116 => ⟨S8x100x8400, .f32⟩
  | 117 => ⟨S8x100x8400, .f32⟩
  | 118 => ⟨S_, .f32⟩
  | 119 => ⟨S8x100x8400, .f32⟩
  | 120 => ⟨S8x100x8400, .f32⟩
  | 121 => ⟨S8x100x8400, .f32⟩
  | 122 => ⟨S8x100x8400, .f32⟩
  | 123 => ⟨S8x100x8400, .f32⟩
  | 124 => ⟨S8x100x8400, .f32⟩
  | 125 => ⟨S8x100x8400, .f32⟩
  | 126 => ⟨S8x100x8400, .f32⟩
  | 127 => ⟨S_, .f32⟩
  | _ => ⟨S8x8400x80, .f32⟩

abbrev hbmTy0_2 (i : Nat) : BufTy := match i % 128 with
  | 0 => ⟨S8x100x8400, .f32⟩
  | 1 => ⟨S8x100x8400, .f32⟩
  | 2 => ⟨S8x100x8400, .f32⟩
  | 3 => ⟨S8x100x8400, .f32⟩
  | 4 => ⟨S8x100x8400, .f32⟩
  | 5 => ⟨S8x100x8400, .f32⟩
  | 6 => ⟨S8x100x8400, .f32⟩
  | 7 => ⟨S8x100x8400, .f32⟩
  | 8 => ⟨S8x100x8400, .f32⟩
  | 9 => ⟨S_, .f32⟩
  | 10 => ⟨S8x100x8400, .f32⟩
  | 11 => ⟨S8x100x8400, .f32⟩
  | 12 => ⟨S8x100x8400, .f32⟩
  | 13 => ⟨S_, .f32⟩
  | 14 => ⟨S8x100x8400, .f32⟩
  | 15 => ⟨S8x100x8400, .i1⟩
  | 16 => ⟨S_, .f32⟩
  | 17 => ⟨S8x100x8400, .f32⟩
  | 18 => ⟨S8x100x8400, .f32⟩
  | 19 => ⟨S8x100x8400, .f32⟩
  | 20 => ⟨S8x100x8400, .f32⟩
  | 21 => ⟨S8x100x8400, .f32⟩
  | 22 => ⟨S_, .f32⟩
  | 23 => ⟨S8x100x8400, .f32⟩
  | 24 => ⟨S8x100x8400, .f32⟩
  | 25 => ⟨S8x100x8400, .f32⟩
  | 26 => ⟨S_, .f32⟩
  | 27 => ⟨S8x100x8400, .f32⟩
  | 28 => ⟨S8x100x8400, .f32⟩
  | 29 => ⟨S_, .f32⟩
  | 30 => ⟨S8x100x8400, .f32⟩
  | 31 => ⟨S8x100x8400, .f32⟩
  | 32 => ⟨S8x100x8400, .f32⟩
  | 33 => ⟨S8x100x8400, .f32⟩
  | 34 => ⟨S8x100x8400, .f32⟩
  | 35 => ⟨S_, .f32⟩
  | 36 => ⟨S_, .f32⟩
  | 37 => ⟨S_, .f32⟩
  | 38 => ⟨S8x100x8400, .f32⟩
  | 39 => ⟨S8x100x8400, .f32⟩
  | 40 => ⟨S_, .f32⟩
  | 41 => ⟨S8x100x8400, .f32⟩
  | 42 => ⟨S8x100x8400, .f32⟩
  | 43 => ⟨S8x8400x80, .f32⟩
  | 44 => ⟨S8x8400x80, .f32⟩
  | 45 => ⟨S_, .f32⟩
  | 46 => ⟨S8x8400x80, .f32⟩
  | 47 => ⟨S8x8400x80, .f32⟩
  | 48 => ⟨S_, .f32⟩
  | 49 => ⟨S8x8400x80, .f32⟩
  | 50 => ⟨S8x8400x80, .f32⟩
  | 51 => ⟨S8x80x8400, .f32⟩
  | 52 => ⟨S8x100x1, .i32⟩
  | 53 => ⟨S_, .i32⟩
  | 54 => ⟨S8x100x1, .i32⟩
  | 55 => ⟨S8x100x1, .i1⟩
  | 56 => ⟨S_, .i32⟩
  | 57 => ⟨S8x100x1, .i32⟩
  | 58 => ⟨S8x100x1, .i32⟩
  | 59 => ⟨S8x100x1, .i32⟩
  | 60 => ⟨S8x100x8400, .f32⟩
  | 61 => ⟨S_, .f32⟩
  | 62 => ⟨S8x100x8400, .f32⟩
  | 63 => ⟨S8x100x8400, .f32⟩
  | 64 => ⟨S_, .f32⟩
  | 65 => ⟨S8x100x8400, .f32⟩
  | 66 => ⟨S8x100x8400, .f32⟩
  | 67 => ⟨S8x100x8400, .f32⟩
  | 68 => ⟨S8x100x8400, .f32⟩
  | 69 => ⟨S8x100x8400, .f32⟩
  | 70 => ⟨S8x100x10, .f32⟩
  | 71 => ⟨S8x100x10, .i32⟩
  | 72 => ⟨S8x100x1, .f32⟩
  | 73 => ⟨S8x100x8400, .f32⟩
  | 74 => ⟨S8x100x8400, .i1⟩
  | 75 => ⟨S8x100x8400, .i1⟩
  | 76 => ⟨S_, .f32⟩
  | 77 => ⟨S8x100x8400, .f32⟩
  | 78 => ⟨S8x100x8400, .i1⟩
  | 79 => ⟨S8x100x8400, .i1⟩
  | 80 => ⟨S8x100x8400, .f32⟩
  | 81 => ⟨S8x100x8400, .f32⟩
  | 82 => ⟨S8x8400x100, .f32⟩
  | 83 => ⟨S8x8400x1, .f32⟩
  | 84 => ⟨S8x8400x1, .i32⟩
  | 85 => ⟨S8x8400, .i32⟩
  | 86 => ⟨S_, .i1⟩
  | 87 => ⟨S8x8400, .i1⟩
  | 88 => ⟨S8x8400x1, .i32⟩
  | 89 => ⟨S_, .i32⟩
  | 90 => ⟨S8x8400x1, .i32⟩
  | 91 => ⟨S8x8400x1, .i1⟩
  | 92 => ⟨S_, .i32⟩
  | 93 => ⟨S8x8400x1, .i32⟩
  | 94 => ⟨S8x8400x1, .i32⟩
  | 95 => ⟨S8x8400x1, .i32⟩
  | 96 => ⟨S8x8400x4, .f32⟩
  | 97 => ⟨S_, .i32⟩
  | 98 => ⟨S8x8400, .i32⟩
  | 99 => ⟨S8x8400, .i1⟩
  | 100 => ⟨S_, .i32⟩
  | 101 => ⟨S8x8400, .i32⟩
  | 102 => ⟨S8x8400, .i32⟩
  | 103 => ⟨S8x8400, .i32⟩
  | 104 => ⟨S8x8400x1, .i32⟩
  | 105 => ⟨S8x8400, .i32⟩
  | 106 => ⟨S8x8400x1, .i32⟩
  | 107 => ⟨S1x1x80, .i32⟩
  | 108 => ⟨S8x8400x80, .i32⟩
  | 109 => ⟨S8x8400x80, .i32⟩
  | 110 => ⟨S8x8400x80, .i1⟩
  | 111 => ⟨S8x8400x80, .f32⟩
  | 112 => ⟨S_, .f32⟩
  | 113 => ⟨S8x100, .f32⟩
  | 114 => ⟨S8x100x1, .f32⟩
  | 115 => ⟨S8x100x8400, .f32⟩
  | 116 => ⟨S8x100x8400, .f32⟩
  | 117 => ⟨S_, .f32⟩
  | 118 => ⟨S8x100, .f32⟩
  | 119 => ⟨S8x100x1, .f32⟩
  | 120 => ⟨S8x100x8400, .f32⟩
  | 121 => ⟨S8x100x8400, .f32⟩
  | 122 => ⟨S_, .f32⟩
  | 123 => ⟨S8x100x1, .f32⟩
  | 124 => ⟨S8x100x1, .f32⟩
  | 125 => ⟨S8x100x8400, .f32⟩
  | 126 => ⟨S8x100x8400, .f32⟩
  | 127 => ⟨S8x1x8400, .i32⟩
  | _ => ⟨S8x8400x80, .f32⟩

abbrev hbmTy0_3 (i : Nat) : BufTy := match i % 128 with
  | 0 => ⟨S_, .i32⟩
  | 1 => ⟨S8x1x8400, .i32⟩
  | 2 => ⟨S8x1x8400, .i1⟩
  | 3 => ⟨S_, .i32⟩
  | 4 => ⟨S8x1x8400, .i32⟩
  | 5 => ⟨S8x1x8400, .i32⟩
  | 6 => ⟨S8x1x8400, .i32⟩
  | 7 => ⟨S8x1x8400x1, .i32⟩
  | 8 => ⟨S8x1x8400, .f32⟩
  | 9 => ⟨S8x8400, .f32⟩
  | 10 => ⟨S8x8400x1, .f32⟩
  | 11 => ⟨S8x8400x80, .f32⟩
  | 12 => ⟨S8x8400x80, .f32⟩
  | 13 => ⟨S8x8400x1, .i1⟩
  | 14 => ⟨S8x8400x1, .f32⟩
  | 15 => ⟨S8x8400x80, .f32⟩
  | 16 => ⟨S8x8400x80, .f32⟩
  | 17 => ⟨S_, .f32⟩
  | 18 => ⟨S_, .f32⟩
  | 19 => ⟨S_, .f32⟩
  | 20 => ⟨S_, .f32⟩
  | 21 => ⟨S_, .f32⟩
  | 22 => ⟨S8x8400, .f32⟩
  | 23 => ⟨S_, .f32⟩
  | 24 => ⟨S8x8400x80, .f32⟩
  | 25 => ⟨S8x8400x80, .f32⟩
  | 26 => ⟨S8x8400x80, .f32⟩
  | 27 => ⟨S8x8400x80, .f32⟩
  | 28 => ⟨S8x8400x80, .f32⟩
  | 29 => ⟨S8x8400x80, .f32⟩
  | 30 => ⟨S8x8400x80, .f32⟩
  | 31 => ⟨S_, .f32⟩
  | 32 => ⟨S8x8400x80, .f32⟩
  | 33 => ⟨S_, .f32⟩
  | 34 => ⟨S8x8400x80, .f32⟩
  | 35 => ⟨S8x8400x80, .f32⟩
  | 36 => ⟨S_, .f32⟩
  | 37 => ⟨S8x8400x80, .f32⟩
  | 38 => ⟨S8x8400x80, .f32⟩
  | 39 => ⟨S_, .f32⟩
  | 40 => ⟨S8x8400x80, .f32⟩
  | 41 => ⟨S8x8400x80, .f32⟩
  | 42 => ⟨S8x8400x80, .f32⟩
  | 43 => ⟨S8x8400x80, .f32⟩
  | 44 => ⟨S_, .f32⟩
  | 45 => ⟨S8x8400x80, .f32⟩
  | 46 => ⟨S8x8400x80, .f32⟩
  | 47 => ⟨S8x8400x80, .f32⟩
  | 48 => ⟨S8x8400x80, .f32⟩
  | 49 => ⟨S8x8400x80, .f32⟩
  | 50 => ⟨S_, .f32⟩
  | 51 => ⟨S8x8400x80, .f32⟩
  | 52 => ⟨S8x8400x80, .f32⟩
  | 53 => ⟨S8x8400x80, .f32⟩
  | 54 => ⟨S8x8400x80, .f32⟩
  | 55 => ⟨S8x8400x80, .f32⟩
  | 56 => ⟨S_, .f32⟩
  | 57 => ⟨S8x8400x80, .f32⟩
  | 58 => ⟨S8x8400x80, .f32⟩
  | 59 => ⟨S8x8400x80, .f32⟩
  | 60 => ⟨S8x8400x80, .f32⟩
  | 61 => ⟨S8x8400x80, .f32⟩
  | 62 => ⟨S8x8400x80, .f32⟩
  | 63 => ⟨S_, .f32⟩
  | 64 => ⟨S8x8400x80, .f32⟩
  | 65 => ⟨S8x8400x80, .f32⟩
  | 66 => ⟨S8x8400x80, .f32⟩
  | 67 => ⟨S8x8400x80, .f32⟩
  | 68 => ⟨S8x8400x80, .f32⟩
  | 69 => ⟨S8x8400x80, .f32⟩
  | 70 => ⟨S_, .f32⟩
  | 71 => ⟨S8x8400x80, .f32⟩
  | 72 => ⟨S8x8400x80, .f32⟩
  | 73 => ⟨S8x8400x80, .f32⟩
  | 74 => ⟨S8x8400x80, .f32⟩
  | 75 => ⟨S8x8400x80, .f32⟩
  | 76 => ⟨S8x8400x80, .f32⟩
  | 77 => ⟨S8x8400x80, .f32⟩
  | 78 => ⟨S_, .f32⟩
  | 79 => ⟨S8x8400x80, .f32⟩
  | 80 => ⟨S8x8400x80, .f32⟩
  | 81 => ⟨S8x8400x80, .f32⟩
  | 82 => ⟨S8x8400x80, .f32⟩
  | 83 => ⟨S8x8400x80, .f32⟩
  | 84 => ⟨S8x8400x80, .f32⟩
  | 85 => ⟨S_, .f32⟩
  | 86 => ⟨S8x8400x80, .f32⟩
  | 87 => ⟨S8x8400x80, .f32⟩
  | 88 => ⟨S8x8400x80, .f32⟩
  | 89 => ⟨S8x8400x80, .f32⟩
  | 90 => ⟨S_, .f32⟩
  | 91 => ⟨S_, .f32⟩
  | 92 => ⟨S_, .f32⟩
  | 93 => ⟨S8x8400x1, .f32⟩
  | 94 => ⟨S8x8400, .f32⟩
  | 95 => ⟨S8x8400x1, .f32⟩
  | 96 => ⟨S8x8400, .f32⟩
  | 97 => ⟨S8x8400x1, .f32⟩
  | 98 => ⟨S8x8400, .f32⟩
  | 99 => ⟨S8x8400x1, .f32⟩
  | 100 => ⟨S8x8400, .f32⟩
  | 101 => ⟨S8x8400x1, .f32⟩
  | 102 => ⟨S8x8400, .f32⟩
  | 103 => ⟨S8x8400x1, .f32⟩
  | 104 => ⟨S8x8400, .f32⟩
  | 105 => ⟨S8x8400x1, .f32⟩
  | 106 => ⟨S8x8400, .f32⟩
  | 107 => ⟨S8x8400x1, .f32⟩
  | 108 => ⟨S8x8400, .f32⟩
  | 109 => ⟨S8x8400, .f32⟩
  | 110 => ⟨S8x8400, .f32⟩
  | 111 => ⟨S8x8400, .f32⟩
  | 112 => ⟨S8x8400, .f32⟩
  | 113 => ⟨S8x8400, .f32⟩
  | 114 => ⟨S_, .f32⟩
  | 115 => ⟨S8x8400, .f32⟩
  | 116 => ⟨S8x8400, .f32⟩
  | 117 => ⟨S8x8400, .f32⟩
  | 118 => ⟨S_, .f32⟩
  | 119 => ⟨S8x8400, .f32⟩
  | 120 => ⟨S8x8400, .f32⟩
  | 121 => ⟨S8x8400, .f32⟩
  | 122 => ⟨S8x8400, .f32⟩
  | 123 => ⟨S8x8400, .f32⟩
  | 124 => ⟨S8x8400, .f32⟩
  | 125 => ⟨S8x8400, .f32⟩
  | 126 => ⟨S8x8400, .f32⟩
  | 127 => ⟨S8x8400, .f32⟩
  | _ => ⟨S8x8400x80, .f32⟩

abbrev hbmTy0_4 (i : Nat) : BufTy := match i % 128 with
  | 0 => ⟨S8x8400, .f32⟩
  | 1 => ⟨S8x8400, .f32⟩
  | 2 => ⟨S_, .f32⟩
  | 3 => ⟨S8x8400, .f32⟩
  | 4 => ⟨S8x8400, .f32⟩
  | 5 => ⟨S8x8400, .f32⟩
  | 6 => ⟨S8x8400, .f32⟩
  | 7 => ⟨S_, .f32⟩
  | 8 => ⟨S8x8400, .f32⟩
  | 9 => ⟨S8x8400, .f32⟩
  | 10 => ⟨S8x8400, .f32⟩
  | 11 => ⟨S_, .f32⟩
  | 12 => ⟨S8x8400, .f32⟩
  | 13 => ⟨S8x8400, .f32⟩
  | 14 => ⟨S8x8400, .f32⟩
  | 15 => ⟨S_, .f32⟩
  | 16 => ⟨S8x8400, .f32⟩
  | 17 => ⟨S8x8400, .f32⟩
  | 18 => ⟨S8x8400, .f32⟩
  | 19 => ⟨S_, .f32⟩
  | 20 => ⟨S8x8400, .f32⟩
  | 21 => ⟨S8x8400, .f32⟩
  | 22 => ⟨S8x8400, .f32⟩
  | 23 => ⟨S8x8400, .f32⟩
  | 24 => ⟨S8x8400, .f32⟩
  | 25 => ⟨S8x8400, .f32⟩
  | 26 => ⟨S8x8400, .f32⟩
  | 27 => ⟨S8x8400, .f32⟩
  | 28 => ⟨S8x8400, .f32⟩
  | 29 => ⟨S8x8400, .f32⟩
  | 30 => ⟨S8x8400, .f32⟩
  | 31 => ⟨S8x8400, .f32⟩
  | 32 => ⟨S8x8400, .f32⟩
  | 33 => ⟨S8x8400, .f32⟩
  | 34 => ⟨S8x8400, .f32⟩
  | 35 => ⟨S8x8400, .f32⟩
  | 36 => ⟨S_, .f32⟩
  | 37 => ⟨S8x8400, .f32⟩
  | 38 => ⟨S8x8400, .f32⟩
  | 39 => ⟨S8x8400, .f32⟩
  | 40 => ⟨S8x8400, .f32⟩
  | 41 => ⟨S8x8400, .f32⟩
  | 42 => ⟨S8x8400, .f32⟩
  | 43 => ⟨S_, .f32⟩
  | 44 => ⟨S8x8400, .f32⟩
  | 45 => ⟨S8x8400, .f32⟩
  | 46 => ⟨S8x8400, .f32⟩
  | 47 => ⟨S_, .f32⟩
  | 48 => ⟨S8x8400, .f32⟩
  | 49 => ⟨S8x8400, .i1⟩
  | 50 => ⟨S_, .f32⟩
  | 51 => ⟨S8x8400, .f32⟩
  | 52 => ⟨S8x8400, .f32⟩
  | 53 => ⟨S8x8400, .f32⟩
  | 54 => ⟨S_, .f32⟩
  | 55 => ⟨S8x8400, .f32⟩
  | 56 => ⟨S8x8400, .f32⟩
  | 57 => ⟨S_, .f32⟩
  | 58 => ⟨S8x8400, .f32⟩
  | 59 => ⟨S8x8400, .f32⟩
  | 60 => ⟨S8x8400, .f32⟩
  | 61 => ⟨S8x8400, .f32⟩
  | 62 => ⟨S_, .f32⟩
  | 63 => ⟨S8x8400, .f32⟩
  | 64 => ⟨S8x8400, .f32⟩
  | 65 => ⟨S8x8400, .f32⟩
  | 66 => ⟨S8x8400, .f32⟩
  | 67 => ⟨S8x8400, .f32⟩
  | 68 => ⟨S8x8400, .f32⟩
  | 69 => ⟨S_, .f32⟩
  | 70 => ⟨S8x8400, .f32⟩
  | 71 => ⟨S8x8400, .f32⟩
  | 72 => ⟨S8x8400, .f32⟩
  | 73 => ⟨S8x8400, .f32⟩
  | 74 => ⟨S8x8400, .f32⟩
  | 75 => ⟨S8x8400, .f32⟩
  | 76 => ⟨S8x8400, .f32⟩
  | 77 => ⟨S_, .f32⟩
  | 78 => ⟨S8x8400, .f32⟩
  | 79 => ⟨S8x8400, .f32⟩
  | 80 => ⟨S8x8400, .f32⟩
  | 81 => ⟨S8x8400, .f32⟩
  | 82 => ⟨S8x8400, .f32⟩
  | 83 => ⟨S8x8400, .f32⟩
  | 84 => ⟨S8x8400, .f32⟩
  | 85 => ⟨S_, .f32⟩
  | 86 => ⟨S8x8400, .f32⟩
  | 87 => ⟨S8x8400, .f32⟩
  | 88 => ⟨S8x8400, .f32⟩
  | 89 => ⟨S8x8400, .f32⟩
  | 90 => ⟨S8x8400, .f32⟩
  | 91 => ⟨S8x8400, .f32⟩
  | 92 => ⟨S8x8400, .f32⟩
  | 93 => ⟨S8x8400, .f32⟩
  | 94 => ⟨S_, .f32⟩
  | 95 => ⟨S8x8400, .f32⟩
  | 96 => ⟨S8x8400, .f32⟩
  | 97 => ⟨S8x8400, .f32⟩
  | 98 => ⟨S8x8400, .f32⟩
  | 99 => ⟨S8x8400, .f32⟩
  | 100 => ⟨S8x8400, .f32⟩
  | 101 => ⟨S8x8400, .f32⟩
  | 102 => ⟨S8x8400, .f32⟩
  | 103 => ⟨S_, .f32⟩
  | 104 => ⟨S8x8400, .f32⟩
  | 105 => ⟨S8x8400, .f32⟩
  | 106 => ⟨S8x8400, .f32⟩
  | 107 => ⟨S8x8400, .f32⟩
  | 108 => ⟨S8x8400, .f32⟩
  | 109 => ⟨S8x8400, .f32⟩
  | 110 => ⟨S8x8400, .f32⟩
  | 111 => ⟨S8x8400, .f32⟩
  | 112 => ⟨S8x8400, .f32⟩
  | 113 => ⟨S_, .f32⟩
  | 114 => ⟨S8x8400, .f32⟩
  | 115 => ⟨S8x8400, .f32⟩
  | 116 => ⟨S8x8400, .f32⟩
  | 117 => ⟨S_, .f32⟩
  | 118 => ⟨S8x8400, .f32⟩
  | 119 => ⟨S8x8400, .i1⟩
  | 120 => ⟨S_, .f32⟩
  | 121 => ⟨S8x8400, .f32⟩
  | 122 => ⟨S8x8400, .f32⟩
  | 123 => ⟨S8x8400, .f32⟩
  | 124 => ⟨S8x8400, .f32⟩
  | 125 => ⟨S8x8400, .f32⟩
  | 126 => ⟨S_, .f32⟩
  | 127 => ⟨S8x8400, .f32⟩
  | _ => ⟨S8x8400x80, .f32⟩

abbrev hbmTy0_5 (i : Nat) : BufTy := match i % 128 with
  | 0 => ⟨S8x8400, .f32⟩
  | 1 => ⟨S8x8400, .f32⟩
  | 2 => ⟨S_, .f32⟩
  | 3 => ⟨S8x8400, .f32⟩
  | 4 => ⟨S8x8400, .i1⟩
  | 5 => ⟨S_, .f32⟩
  | 6 => ⟨S8x8400, .f32⟩
  | 7 => ⟨S8x8400, .f32⟩
  | 8 => ⟨S8x8400, .f32⟩
  | 9 => ⟨S_, .f32⟩
  | 10 => ⟨S8x8400, .f32⟩
  | 11 => ⟨S8x8400, .f32⟩
  | 12 => ⟨S_, .f32⟩
  | 13 => ⟨S8x8400, .f32⟩
  | 14 => ⟨S8x8400, .f32⟩
  | 15 => ⟨S8x8400, .f32⟩
  | 16 => ⟨S8x8400, .f32⟩
  | 17 => ⟨S_, .f32⟩
  | 18 => ⟨S8x8400, .f32⟩
  | 19 => ⟨S8x8400, .f32⟩
  | 20 => ⟨S8x8400, .f32⟩
  | 21 => ⟨S8x8400, .f32⟩
  | 22 => ⟨S8x8400, .f32⟩
  | 23 => ⟨S8x8400, .f32⟩
  | 24 => ⟨S_, .f32⟩
  | 25 => ⟨S8x8400, .f32⟩
  | 26 => ⟨S8x8400, .f32⟩
  | 27 => ⟨S8x8400, .f32⟩
  | 28 => ⟨S8x8400, .f32⟩
  | 29 => ⟨S8x8400, .f32⟩
  | 30 => ⟨S8x8400, .f32⟩
  | 31 => ⟨S8x8400, .f32⟩
  | 32 => ⟨S_, .f32⟩
  | 33 => ⟨S8x8400, .f32⟩
  | 34 => ⟨S8x8400, .f32⟩
  | 35 => ⟨S8x8400, .f32⟩
  | 36 => ⟨S8x8400, .f32⟩
  | 37 => ⟨S8x8400, .f32⟩
  | 38 => ⟨S8x8400, .f32⟩
  | 39 => ⟨S8x8400, .f32⟩
  | 40 => ⟨S_, .f32⟩
  | 41 => ⟨S8x8400, .f32⟩
  | 42 => ⟨S8x8400, .f32⟩
  | 43 => ⟨S8x8400, .f32⟩
  | 44 => ⟨S8x8400, .f32⟩
  | 45 => ⟨S8x8400, .f32⟩
  | 46 => ⟨S8x8400, .f32⟩
  | 47 => ⟨S8x8400, .f32⟩
  | 48 => ⟨S8x8400, .f32⟩
  | 49 => ⟨S_, .f32⟩
  | 50 => ⟨S8x8400, .f32⟩
  | 51 => ⟨S8x8400, .f32⟩
  | 52 => ⟨S8x8400, .f32⟩
  | 53 => ⟨S8x8400, .f32⟩
  | 54 => ⟨S8x8400, .f32⟩
  | 55 => ⟨S8x8400, .f32⟩
  | 56 => ⟨S8x8400, .f32⟩
  | 57 => ⟨S8x8400, .f32⟩
  | 58 => ⟨S_, .f32⟩
  | 59 => ⟨S8x8400, .f32⟩
  | 60 => ⟨S8x8400, .f32⟩
  | 61 => ⟨S8x8400, .f32⟩
  | 62 => ⟨S8x8400, .f32⟩
  | 63 => ⟨S8x8400, .f32⟩
  | 64 => ⟨S8x8400, .f32⟩
  | 65 => ⟨S8x8400, .f32⟩
  | 66 => ⟨S8x8400, .f32⟩
  | 67 => ⟨S8x8400, .f32⟩
  | 68 => ⟨S_, .f32⟩
  | 69 => ⟨S8x8400, .f32⟩
  | 70 => ⟨S8x8400, .f32⟩
  | 71 => ⟨S8x8400, .f32⟩
  | 72 => ⟨S_, .f32⟩
  | 73 => ⟨S8x8400, .f32⟩
  | 74 => ⟨S8x8400, .i1⟩
  | 75 => ⟨S_, .f32⟩
  | 76 => ⟨S8x8400, .f32⟩
  | 77 => ⟨S8x8400, .f32⟩
  | 78 => ⟨S8x8400, .f32⟩
  | 79 => ⟨S8x8400, .f32⟩
  | 80 => ⟨S8x8400, .f32⟩
  | 81 => ⟨S_, .f32⟩
  | 82 => ⟨S8x8400, .f32⟩
  | 83 => ⟨S8x8400, .f32⟩
  | 84 => ⟨S8x8400, .f32⟩
  | 85 => ⟨S_, .f32⟩
  | 86 => ⟨S8x8400, .f32⟩
  | 87 => ⟨S8x8400, .f32⟩
  | 88 => ⟨S_, .f32⟩
  | 89 => ⟨S8x8400, .f32⟩
  | 90 => ⟨S8x8400, .f32⟩
  | 91 => ⟨S8x8400, .f32⟩
  | 92 => ⟨S8x8400, .f32⟩
  | 93 => ⟨S8x8400, .f32⟩
  | 94 => ⟨S_, .f32⟩
  | 95 => ⟨S8x8400, .f32⟩
  | 96 => ⟨S8x8400, .f32⟩
  | 97 => ⟨S8x8400, .f32⟩
  | 98 => ⟨S8x8400, .f32⟩
  | 99 => ⟨S8x8400, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | _ => ⟨S8x8400x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x8400x80, .f32⟩

abbrev bufTy : (tb : Table) → Fin (tcTables nBuf tb) → BufTy
  | .hbm, ⟨i, _⟩ => hbmTy i
  | _, _ => ⟨S8x8400x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_cst : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_cst_0 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_cst_1 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_cst_2 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_3 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_4 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_5 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_6 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_cst_7 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_cst_8 : Ref sig .tc := ⟨.hbm, 116, rfl⟩
abbrev main_v102 : Ref sig .tc := ⟨.hbm, 117, rfl⟩
abbrev main_v103 : Ref sig .tc := ⟨.hbm, 118, rfl⟩
abbrev main_cst_9 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_cst_10 : Ref sig .tc := ⟨.hbm, 123, rfl⟩
abbrev main_v107 : Ref sig .tc := ⟨.hbm, 124, rfl⟩
abbrev main_v108 : Ref sig .tc := ⟨.hbm, 125, rfl⟩
abbrev main_cst_11 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_12 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_13 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_cst_14 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_cst_15 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_cst_16 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_cst_17 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_cst_18 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_cst_19 : Ref sig .tc := ⟨.hbm, 186, rfl⟩
abbrev main_v161 : Ref sig .tc := ⟨.hbm, 187, rfl⟩
abbrev main_v162 : Ref sig .tc := ⟨.hbm, 188, rfl⟩
abbrev main_cst_20 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_cst_21 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_cst_22 : Ref sig .tc := ⟨.hbm, 199, rfl⟩
abbrev main_v171 : Ref sig .tc := ⟨.hbm, 200, rfl⟩
abbrev main_v172 : Ref sig .tc := ⟨.hbm, 201, rfl⟩
abbrev main_cst_23 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_cst_24 : Ref sig .tc := ⟨.hbm, 206, rfl⟩
abbrev main_v176 : Ref sig .tc := ⟨.hbm, 207, rfl⟩
abbrev main_v177 : Ref sig .tc := ⟨.hbm, 208, rfl⟩
abbrev main_cst_25 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_cst_26 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_cst_27 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_cst_28 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_cst_29 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_cst_30 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_cst_31 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_cst_32 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_cst_33 : Ref sig .tc := ⟨.hbm, 269, rfl⟩
abbrev main_v230 : Ref sig .tc := ⟨.hbm, 270, rfl⟩
abbrev main_v231 : Ref sig .tc := ⟨.hbm, 271, rfl⟩
abbrev main_cst_34 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_cst_35 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_cst_36 : Ref sig .tc := ⟨.hbm, 282, rfl⟩
abbrev main_v240 : Ref sig .tc := ⟨.hbm, 283, rfl⟩
abbrev main_v241 : Ref sig .tc := ⟨.hbm, 284, rfl⟩
abbrev main_cst_37 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_cst_38 : Ref sig .tc := ⟨.hbm, 291, rfl⟩
abbrev main_cst_39 : Ref sig .tc := ⟨.hbm, 292, rfl⟩
abbrev main_call4_v0 : Ref sig .tc := ⟨.hbm, 293, rfl⟩
abbrev main_call4_v1 : Ref sig .tc := ⟨.hbm, 294, rfl⟩
abbrev main_call4_v2 : Ref sig .tc := ⟨.hbm, 295, rfl⟩
abbrev main_call4_v3 : Ref sig .tc := ⟨.hbm, 296, rfl⟩
abbrev main_call4_v4 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_cst_40 : Ref sig .tc := ⟨.hbm, 301, rfl⟩
abbrev main_v250 : Ref sig .tc := ⟨.hbm, 302, rfl⟩
abbrev main_v251 : Ref sig .tc := ⟨.hbm, 303, rfl⟩
abbrev main_cst_41 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_call5_c : Ref sig .tc := ⟨.hbm, 309, rfl⟩
abbrev main_call5_v0 : Ref sig .tc := ⟨.hbm, 310, rfl⟩
abbrev main_call5_v1 : Ref sig .tc := ⟨.hbm, 311, rfl⟩
abbrev main_call5_c_0 : Ref sig .tc := ⟨.hbm, 312, rfl⟩
abbrev main_call5_v2 : Ref sig .tc := ⟨.hbm, 313, rfl⟩
abbrev main_call5_v3 : Ref sig .tc := ⟨.hbm, 314, rfl⟩
abbrev main_call5_v4 : Ref sig .tc := ⟨.hbm, 315, rfl⟩
abbrev main_v256 : Ref sig .tc := ⟨.hbm, 316, rfl⟩
abbrev main_cst_42 : Ref sig .tc := ⟨.hbm, 317, rfl⟩
abbrev main_v257 : Ref sig .tc := ⟨.hbm, 318, rfl⟩
abbrev main_v258 : Ref sig .tc := ⟨.hbm, 319, rfl⟩
abbrev main_cst_43 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_values : Ref sig .tc := ⟨.hbm, 326, rfl⟩
abbrev main_indices : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_cst_44 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_values_45 : Ref sig .tc := ⟨.hbm, 339, rfl⟩
abbrev main_indices_46 : Ref sig .tc := ⟨.hbm, 340, rfl⟩
abbrev main_v274 : Ref sig .tc := ⟨.hbm, 341, rfl⟩
abbrev main_c : Ref sig .tc := ⟨.hbm, 342, rfl⟩
abbrev main_v275 : Ref sig .tc := ⟨.hbm, 343, rfl⟩
abbrev main_v276 : Ref sig .tc := ⟨.hbm, 344, rfl⟩
abbrev main_call6_c : Ref sig .tc := ⟨.hbm, 345, rfl⟩
abbrev main_call6_v0 : Ref sig .tc := ⟨.hbm, 346, rfl⟩
abbrev main_call6_v1 : Ref sig .tc := ⟨.hbm, 347, rfl⟩
abbrev main_call6_c_0 : Ref sig .tc := ⟨.hbm, 348, rfl⟩
abbrev main_call6_v2 : Ref sig .tc := ⟨.hbm, 349, rfl⟩
abbrev main_call6_v3 : Ref sig .tc := ⟨.hbm, 350, rfl⟩
abbrev main_call6_v4 : Ref sig .tc := ⟨.hbm, 351, rfl⟩
abbrev main_v277 : Ref sig .tc := ⟨.hbm, 352, rfl⟩
abbrev main_call7_c : Ref sig .tc := ⟨.hbm, 353, rfl⟩
abbrev main_call7_v0 : Ref sig .tc := ⟨.hbm, 354, rfl⟩
abbrev main_call7_v1 : Ref sig .tc := ⟨.hbm, 355, rfl⟩
abbrev main_call7_c_0 : Ref sig .tc := ⟨.hbm, 356, rfl⟩
abbrev main_call7_v2 : Ref sig .tc := ⟨.hbm, 357, rfl⟩
abbrev main_call7_v3 : Ref sig .tc := ⟨.hbm, 358, rfl⟩
abbrev main_call7_v4 : Ref sig .tc := ⟨.hbm, 359, rfl⟩
abbrev main_call7_v5 : Ref sig .tc := ⟨.hbm, 360, rfl⟩
abbrev main_v278 : Ref sig .tc := ⟨.hbm, 361, rfl⟩
abbrev main_call8_v0 : Ref sig .tc := ⟨.hbm, 362, rfl⟩
abbrev main_call8_v1 : Ref sig .tc := ⟨.hbm, 363, rfl⟩
abbrev main_call8_v2 : Ref sig .tc := ⟨.hbm, 364, rfl⟩
abbrev main_call8_v3 : Ref sig .tc := ⟨.hbm, 365, rfl⟩
abbrev main_call8_v4 : Ref sig .tc := ⟨.hbm, 366, rfl⟩
abbrev main_v279 : Ref sig .tc := ⟨.hbm, 367, rfl⟩
abbrev main_cst_47 : Ref sig .tc := ⟨.hbm, 368, rfl⟩
abbrev main_v280 : Ref sig .tc := ⟨.hbm, 369, rfl⟩
abbrev main_v281 : Ref sig .tc := ⟨.hbm, 370, rfl⟩
abbrev main_v282 : Ref sig .tc := ⟨.hbm, 371, rfl⟩
abbrev main_v283 : Ref sig .tc := ⟨.hbm, 372, rfl⟩
abbrev main_cst_48 : Ref sig .tc := ⟨.hbm, 373, rfl⟩
abbrev main_v284 : Ref sig .tc := ⟨.hbm, 374, rfl⟩
abbrev main_v285 : Ref sig .tc := ⟨.hbm, 375, rfl⟩
abbrev main_v286 : Ref sig .tc := ⟨.hbm, 376, rfl⟩
abbrev main_v287 : Ref sig .tc := ⟨.hbm, 377, rfl⟩
abbrev main_cst_49 : Ref sig .tc := ⟨.hbm, 378, rfl⟩
abbrev main_v288 : Ref sig .tc := ⟨.hbm, 379, rfl⟩
abbrev main_v289 : Ref sig .tc := ⟨.hbm, 380, rfl⟩
abbrev main_v290 : Ref sig .tc := ⟨.hbm, 381, rfl⟩
abbrev main_v291 : Ref sig .tc := ⟨.hbm, 382, rfl⟩
abbrev main_v292 : Ref sig .tc := ⟨.hbm, 383, rfl⟩
abbrev main_call9_c : Ref sig .tc := ⟨.hbm, 384, rfl⟩
abbrev main_call9_v0 : Ref sig .tc := ⟨.hbm, 385, rfl⟩
abbrev main_call9_v1 : Ref sig .tc := ⟨.hbm, 386, rfl⟩
abbrev main_call9_c_0 : Ref sig .tc := ⟨.hbm, 387, rfl⟩
abbrev main_call9_v2 : Ref sig .tc := ⟨.hbm, 388, rfl⟩
abbrev main_call9_v3 : Ref sig .tc := ⟨.hbm, 389, rfl⟩
abbrev main_call9_v4 : Ref sig .tc := ⟨.hbm, 390, rfl⟩
abbrev main_call9_v5 : Ref sig .tc := ⟨.hbm, 391, rfl⟩
abbrev main_v293 : Ref sig .tc := ⟨.hbm, 392, rfl⟩
abbrev main_v294 : Ref sig .tc := ⟨.hbm, 393, rfl⟩
abbrev main_v295 : Ref sig .tc := ⟨.hbm, 394, rfl⟩
abbrev main_v296 : Ref sig .tc := ⟨.hbm, 395, rfl⟩
abbrev main_v297 : Ref sig .tc := ⟨.hbm, 396, rfl⟩
abbrev main_v298 : Ref sig .tc := ⟨.hbm, 397, rfl⟩
abbrev main_v299 : Ref sig .tc := ⟨.hbm, 398, rfl⟩
abbrev main_v300 : Ref sig .tc := ⟨.hbm, 399, rfl⟩
abbrev main_v301 : Ref sig .tc := ⟨.hbm, 400, rfl⟩
abbrev main_cst_50 : Ref sig .tc := ⟨.hbm, 401, rfl⟩
abbrev main_v302 : Ref sig .tc := ⟨.hbm, 402, rfl⟩
abbrev main_cst_51 : Ref sig .tc := ⟨.hbm, 403, rfl⟩
abbrev main_v303 : Ref sig .tc := ⟨.hbm, 404, rfl⟩
abbrev main_cst_52 : Ref sig .tc := ⟨.hbm, 405, rfl⟩
abbrev main_v304 : Ref sig .tc := ⟨.hbm, 406, rfl⟩
abbrev main_cst_53 : Ref sig .tc := ⟨.hbm, 407, rfl⟩
abbrev main_v305 : Ref sig .tc := ⟨.hbm, 408, rfl⟩
abbrev main_v306 : Ref sig .tc := ⟨.hbm, 409, rfl⟩
abbrev main_v307 : Ref sig .tc := ⟨.hbm, 410, rfl⟩
abbrev main_v308 : Ref sig .tc := ⟨.hbm, 411, rfl⟩
abbrev main_v309 : Ref sig .tc := ⟨.hbm, 412, rfl⟩
abbrev main_v310 : Ref sig .tc := ⟨.hbm, 413, rfl⟩
abbrev main_v311 : Ref sig .tc := ⟨.hbm, 414, rfl⟩
abbrev main_cst_54 : Ref sig .tc := ⟨.hbm, 415, rfl⟩
abbrev main_v312 : Ref sig .tc := ⟨.hbm, 416, rfl⟩
abbrev main_cst_55 : Ref sig .tc := ⟨.hbm, 417, rfl⟩
abbrev main_v313 : Ref sig .tc := ⟨.hbm, 418, rfl⟩
abbrev main_v314 : Ref sig .tc := ⟨.hbm, 419, rfl⟩
abbrev main_cst_56 : Ref sig .tc := ⟨.hbm, 420, rfl⟩
abbrev main_v315 : Ref sig .tc := ⟨.hbm, 421, rfl⟩
abbrev main_v316 : Ref sig .tc := ⟨.hbm, 422, rfl⟩
abbrev main_cst_57 : Ref sig .tc := ⟨.hbm, 423, rfl⟩
abbrev main_v317 : Ref sig .tc := ⟨.hbm, 424, rfl⟩
abbrev main_v318 : Ref sig .tc := ⟨.hbm, 425, rfl⟩
abbrev main_v319 : Ref sig .tc := ⟨.hbm, 426, rfl⟩
abbrev main_v320 : Ref sig .tc := ⟨.hbm, 427, rfl⟩
abbrev main_cst_58 : Ref sig .tc := ⟨.hbm, 428, rfl⟩
abbrev main_v321 : Ref sig .tc := ⟨.hbm, 429, rfl⟩
abbrev main_v322 : Ref sig .tc := ⟨.hbm, 430, rfl⟩
abbrev main_v323 : Ref sig .tc := ⟨.hbm, 431, rfl⟩
abbrev main_v324 : Ref sig .tc := ⟨.hbm, 432, rfl⟩
abbrev main_v325 : Ref sig .tc := ⟨.hbm, 433, rfl⟩
abbrev main_cst_59 : Ref sig .tc := ⟨.hbm, 434, rfl⟩
abbrev main_v326 : Ref sig .tc := ⟨.hbm, 435, rfl⟩
abbrev main_v327 : Ref sig .tc := ⟨.hbm, 436, rfl⟩
abbrev main_v328 : Ref sig .tc := ⟨.hbm, 437, rfl⟩
abbrev main_v329 : Ref sig .tc := ⟨.hbm, 438, rfl⟩
abbrev main_v330 : Ref sig .tc := ⟨.hbm, 439, rfl⟩
abbrev main_cst_60 : Ref sig .tc := ⟨.hbm, 440, rfl⟩
abbrev main_v331 : Ref sig .tc := ⟨.hbm, 441, rfl⟩
abbrev main_v332 : Ref sig .tc := ⟨.hbm, 442, rfl⟩
abbrev main_v333 : Ref sig .tc := ⟨.hbm, 443, rfl⟩
abbrev main_v334 : Ref sig .tc := ⟨.hbm, 444, rfl⟩
abbrev main_v335 : Ref sig .tc := ⟨.hbm, 445, rfl⟩
abbrev main_v336 : Ref sig .tc := ⟨.hbm, 446, rfl⟩
abbrev main_cst_61 : Ref sig .tc := ⟨.hbm, 447, rfl⟩
abbrev main_v337 : Ref sig .tc := ⟨.hbm, 448, rfl⟩
abbrev main_v338 : Ref sig .tc := ⟨.hbm, 449, rfl⟩
abbrev main_v339 : Ref sig .tc := ⟨.hbm, 450, rfl⟩
abbrev main_v340 : Ref sig .tc := ⟨.hbm, 451, rfl⟩
abbrev main_v341 : Ref sig .tc := ⟨.hbm, 452, rfl⟩
abbrev main_v342 : Ref sig .tc := ⟨.hbm, 453, rfl⟩
abbrev main_cst_62 : Ref sig .tc := ⟨.hbm, 454, rfl⟩
abbrev main_v343 : Ref sig .tc := ⟨.hbm, 455, rfl⟩
abbrev main_v344 : Ref sig .tc := ⟨.hbm, 456, rfl⟩
abbrev main_v345 : Ref sig .tc := ⟨.hbm, 457, rfl⟩
abbrev main_v346 : Ref sig .tc := ⟨.hbm, 458, rfl⟩
abbrev main_v347 : Ref sig .tc := ⟨.hbm, 459, rfl⟩
abbrev main_v348 : Ref sig .tc := ⟨.hbm, 460, rfl⟩
abbrev main_v349 : Ref sig .tc := ⟨.hbm, 461, rfl⟩
abbrev main_cst_63 : Ref sig .tc := ⟨.hbm, 462, rfl⟩
abbrev main_v350 : Ref sig .tc := ⟨.hbm, 463, rfl⟩
abbrev main_v351 : Ref sig .tc := ⟨.hbm, 464, rfl⟩
abbrev main_v352 : Ref sig .tc := ⟨.hbm, 465, rfl⟩
abbrev main_v353 : Ref sig .tc := ⟨.hbm, 466, rfl⟩
abbrev main_v354 : Ref sig .tc := ⟨.hbm, 467, rfl⟩
abbrev main_v355 : Ref sig .tc := ⟨.hbm, 468, rfl⟩
abbrev main_cst_64 : Ref sig .tc := ⟨.hbm, 469, rfl⟩
abbrev main_v356 : Ref sig .tc := ⟨.hbm, 470, rfl⟩
abbrev main_v357 : Ref sig .tc := ⟨.hbm, 471, rfl⟩
abbrev main_v358 : Ref sig .tc := ⟨.hbm, 472, rfl⟩
abbrev main_v359 : Ref sig .tc := ⟨.hbm, 473, rfl⟩
abbrev main_cst_65 : Ref sig .tc := ⟨.hbm, 474, rfl⟩
abbrev main_v360 : Ref sig .tc := ⟨.hbm, 475, rfl⟩
abbrev main_v361 : Ref sig .tc := ⟨.hbm, 476, rfl⟩
abbrev main_v362 : Ref sig .tc := ⟨.hbm, 477, rfl⟩
abbrev main_v363 : Ref sig .tc := ⟨.hbm, 478, rfl⟩
abbrev main_v364 : Ref sig .tc := ⟨.hbm, 479, rfl⟩
abbrev main_v365 : Ref sig .tc := ⟨.hbm, 480, rfl⟩
abbrev main_v366 : Ref sig .tc := ⟨.hbm, 481, rfl⟩
abbrev main_v367 : Ref sig .tc := ⟨.hbm, 482, rfl⟩
abbrev main_v368 : Ref sig .tc := ⟨.hbm, 483, rfl⟩
abbrev main_v369 : Ref sig .tc := ⟨.hbm, 484, rfl⟩
abbrev main_v370 : Ref sig .tc := ⟨.hbm, 485, rfl⟩
abbrev main_v371 : Ref sig .tc := ⟨.hbm, 486, rfl⟩
abbrev main_v372 : Ref sig .tc := ⟨.hbm, 487, rfl⟩
abbrev main_v373 : Ref sig .tc := ⟨.hbm, 488, rfl⟩
abbrev main_v374 : Ref sig .tc := ⟨.hbm, 489, rfl⟩
abbrev main_v375 : Ref sig .tc := ⟨.hbm, 490, rfl⟩
abbrev main_v376 : Ref sig .tc := ⟨.hbm, 491, rfl⟩
abbrev main_v377 : Ref sig .tc := ⟨.hbm, 492, rfl⟩
abbrev main_v378 : Ref sig .tc := ⟨.hbm, 493, rfl⟩
abbrev main_v379 : Ref sig .tc := ⟨.hbm, 494, rfl⟩
abbrev main_v380 : Ref sig .tc := ⟨.hbm, 495, rfl⟩
abbrev main_v381 : Ref sig .tc := ⟨.hbm, 496, rfl⟩
abbrev main_v382 : Ref sig .tc := ⟨.hbm, 497, rfl⟩
abbrev main_cst_66 : Ref sig .tc := ⟨.hbm, 498, rfl⟩
abbrev main_v383 : Ref sig .tc := ⟨.hbm, 499, rfl⟩
abbrev main_v384 : Ref sig .tc := ⟨.hbm, 500, rfl⟩
abbrev main_v385 : Ref sig .tc := ⟨.hbm, 501, rfl⟩
abbrev main_cst_67 : Ref sig .tc := ⟨.hbm, 502, rfl⟩
abbrev main_v386 : Ref sig .tc := ⟨.hbm, 503, rfl⟩
abbrev main_v387 : Ref sig .tc := ⟨.hbm, 504, rfl⟩
abbrev main_v388 : Ref sig .tc := ⟨.hbm, 505, rfl⟩
abbrev main_v389 : Ref sig .tc := ⟨.hbm, 506, rfl⟩
abbrev main_v390 : Ref sig .tc := ⟨.hbm, 507, rfl⟩
abbrev main_v391 : Ref sig .tc := ⟨.hbm, 508, rfl⟩
abbrev main_v392 : Ref sig .tc := ⟨.hbm, 509, rfl⟩
abbrev main_v393 : Ref sig .tc := ⟨.hbm, 510, rfl⟩
abbrev main_v394 : Ref sig .tc := ⟨.hbm, 511, rfl⟩
abbrev main_v395 : Ref sig .tc := ⟨.hbm, 512, rfl⟩
abbrev main_v396 : Ref sig .tc := ⟨.hbm, 513, rfl⟩
abbrev main_cst_68 : Ref sig .tc := ⟨.hbm, 514, rfl⟩
abbrev main_v397 : Ref sig .tc := ⟨.hbm, 515, rfl⟩
abbrev main_v398 : Ref sig .tc := ⟨.hbm, 516, rfl⟩
abbrev main_v399 : Ref sig .tc := ⟨.hbm, 517, rfl⟩
abbrev main_v400 : Ref sig .tc := ⟨.hbm, 518, rfl⟩
abbrev main_cst_69 : Ref sig .tc := ⟨.hbm, 519, rfl⟩
abbrev main_v401 : Ref sig .tc := ⟨.hbm, 520, rfl⟩
abbrev main_v402 : Ref sig .tc := ⟨.hbm, 521, rfl⟩
abbrev main_v403 : Ref sig .tc := ⟨.hbm, 522, rfl⟩
abbrev main_cst_70 : Ref sig .tc := ⟨.hbm, 523, rfl⟩
abbrev main_v404 : Ref sig .tc := ⟨.hbm, 524, rfl⟩
abbrev main_v405 : Ref sig .tc := ⟨.hbm, 525, rfl⟩
abbrev main_v406 : Ref sig .tc := ⟨.hbm, 526, rfl⟩
abbrev main_cst_71 : Ref sig .tc := ⟨.hbm, 527, rfl⟩
abbrev main_v407 : Ref sig .tc := ⟨.hbm, 528, rfl⟩
abbrev main_v408 : Ref sig .tc := ⟨.hbm, 529, rfl⟩
abbrev main_v409 : Ref sig .tc := ⟨.hbm, 530, rfl⟩
abbrev main_cst_72 : Ref sig .tc := ⟨.hbm, 531, rfl⟩
abbrev main_v410 : Ref sig .tc := ⟨.hbm, 532, rfl⟩
abbrev main_v411 : Ref sig .tc := ⟨.hbm, 533, rfl⟩
abbrev main_v412 : Ref sig .tc := ⟨.hbm, 534, rfl⟩
abbrev main_v413 : Ref sig .tc := ⟨.hbm, 535, rfl⟩
abbrev main_v414 : Ref sig .tc := ⟨.hbm, 536, rfl⟩
abbrev main_v415 : Ref sig .tc := ⟨.hbm, 537, rfl⟩
abbrev main_v416 : Ref sig .tc := ⟨.hbm, 538, rfl⟩
abbrev main_v417 : Ref sig .tc := ⟨.hbm, 539, rfl⟩
abbrev main_v418 : Ref sig .tc := ⟨.hbm, 540, rfl⟩
abbrev main_v419 : Ref sig .tc := ⟨.hbm, 541, rfl⟩
abbrev main_v420 : Ref sig .tc := ⟨.hbm, 542, rfl⟩
abbrev main_v421 : Ref sig .tc := ⟨.hbm, 543, rfl⟩
abbrev main_v422 : Ref sig .tc := ⟨.hbm, 544, rfl⟩
abbrev main_v423 : Ref sig .tc := ⟨.hbm, 545, rfl⟩
abbrev main_v424 : Ref sig .tc := ⟨.hbm, 546, rfl⟩
abbrev main_v425 : Ref sig .tc := ⟨.hbm, 547, rfl⟩
abbrev main_cst_73 : Ref sig .tc := ⟨.hbm, 548, rfl⟩
abbrev main_v426 : Ref sig .tc := ⟨.hbm, 549, rfl⟩
abbrev main_v427 : Ref sig .tc := ⟨.hbm, 550, rfl⟩
abbrev main_v428 : Ref sig .tc := ⟨.hbm, 551, rfl⟩
abbrev main_v429 : Ref sig .tc := ⟨.hbm, 552, rfl⟩
abbrev main_v430 : Ref sig .tc := ⟨.hbm, 553, rfl⟩
abbrev main_v431 : Ref sig .tc := ⟨.hbm, 554, rfl⟩
abbrev main_cst_74 : Ref sig .tc := ⟨.hbm, 555, rfl⟩
abbrev main_v432 : Ref sig .tc := ⟨.hbm, 556, rfl⟩
abbrev main_v433 : Ref sig .tc := ⟨.hbm, 557, rfl⟩
abbrev main_v434 : Ref sig .tc := ⟨.hbm, 558, rfl⟩
abbrev main_cst_75 : Ref sig .tc := ⟨.hbm, 559, rfl⟩
abbrev main_v435 : Ref sig .tc := ⟨.hbm, 560, rfl⟩
abbrev main_v436 : Ref sig .tc := ⟨.hbm, 561, rfl⟩
abbrev main_cst_76 : Ref sig .tc := ⟨.hbm, 562, rfl⟩
abbrev main_v437 : Ref sig .tc := ⟨.hbm, 563, rfl⟩
abbrev main_v438 : Ref sig .tc := ⟨.hbm, 564, rfl⟩
abbrev main_v439 : Ref sig .tc := ⟨.hbm, 565, rfl⟩
abbrev main_cst_77 : Ref sig .tc := ⟨.hbm, 566, rfl⟩
abbrev main_v440 : Ref sig .tc := ⟨.hbm, 567, rfl⟩
abbrev main_v441 : Ref sig .tc := ⟨.hbm, 568, rfl⟩
abbrev main_cst_78 : Ref sig .tc := ⟨.hbm, 569, rfl⟩
abbrev main_v442 : Ref sig .tc := ⟨.hbm, 570, rfl⟩
abbrev main_v443 : Ref sig .tc := ⟨.hbm, 571, rfl⟩
abbrev main_v444 : Ref sig .tc := ⟨.hbm, 572, rfl⟩
abbrev main_v445 : Ref sig .tc := ⟨.hbm, 573, rfl⟩
abbrev main_cst_79 : Ref sig .tc := ⟨.hbm, 574, rfl⟩
abbrev main_v446 : Ref sig .tc := ⟨.hbm, 575, rfl⟩
abbrev main_v447 : Ref sig .tc := ⟨.hbm, 576, rfl⟩
abbrev main_v448 : Ref sig .tc := ⟨.hbm, 577, rfl⟩
abbrev main_v449 : Ref sig .tc := ⟨.hbm, 578, rfl⟩
abbrev main_v450 : Ref sig .tc := ⟨.hbm, 579, rfl⟩
abbrev main_v451 : Ref sig .tc := ⟨.hbm, 580, rfl⟩
abbrev main_cst_80 : Ref sig .tc := ⟨.hbm, 581, rfl⟩
abbrev main_v452 : Ref sig .tc := ⟨.hbm, 582, rfl⟩
abbrev main_v453 : Ref sig .tc := ⟨.hbm, 583, rfl⟩
abbrev main_v454 : Ref sig .tc := ⟨.hbm, 584, rfl⟩
abbrev main_v455 : Ref sig .tc := ⟨.hbm, 585, rfl⟩
abbrev main_v456 : Ref sig .tc := ⟨.hbm, 586, rfl⟩
abbrev main_v457 : Ref sig .tc := ⟨.hbm, 587, rfl⟩
abbrev main_v458 : Ref sig .tc := ⟨.hbm, 588, rfl⟩
abbrev main_cst_81 : Ref sig .tc := ⟨.hbm, 589, rfl⟩
abbrev main_v459 : Ref sig .tc := ⟨.hbm, 590, rfl⟩
abbrev main_v460 : Ref sig .tc := ⟨.hbm, 591, rfl⟩
abbrev main_v461 : Ref sig .tc := ⟨.hbm, 592, rfl⟩
abbrev main_v462 : Ref sig .tc := ⟨.hbm, 593, rfl⟩
abbrev main_v463 : Ref sig .tc := ⟨.hbm, 594, rfl⟩
abbrev main_v464 : Ref sig .tc := ⟨.hbm, 595, rfl⟩
abbrev main_v465 : Ref sig .tc := ⟨.hbm, 596, rfl⟩
abbrev main_cst_82 : Ref sig .tc := ⟨.hbm, 597, rfl⟩
abbrev main_v466 : Ref sig .tc := ⟨.hbm, 598, rfl⟩
abbrev main_v467 : Ref sig .tc := ⟨.hbm, 599, rfl⟩
abbrev main_v468 : Ref sig .tc := ⟨.hbm, 600, rfl⟩
abbrev main_v469 : Ref sig .tc := ⟨.hbm, 601, rfl⟩
abbrev main_v470 : Ref sig .tc := ⟨.hbm, 602, rfl⟩
abbrev main_v471 : Ref sig .tc := ⟨.hbm, 603, rfl⟩
abbrev main_v472 : Ref sig .tc := ⟨.hbm, 604, rfl⟩
abbrev main_v473 : Ref sig .tc := ⟨.hbm, 605, rfl⟩
abbrev main_cst_83 : Ref sig .tc := ⟨.hbm, 606, rfl⟩
abbrev main_v474 : Ref sig .tc := ⟨.hbm, 607, rfl⟩
abbrev main_v475 : Ref sig .tc := ⟨.hbm, 608, rfl⟩
abbrev main_v476 : Ref sig .tc := ⟨.hbm, 609, rfl⟩
abbrev main_v477 : Ref sig .tc := ⟨.hbm, 610, rfl⟩
abbrev main_v478 : Ref sig .tc := ⟨.hbm, 611, rfl⟩
abbrev main_v479 : Ref sig .tc := ⟨.hbm, 612, rfl⟩
abbrev main_v480 : Ref sig .tc := ⟨.hbm, 613, rfl⟩
abbrev main_v481 : Ref sig .tc := ⟨.hbm, 614, rfl⟩
abbrev main_cst_84 : Ref sig .tc := ⟨.hbm, 615, rfl⟩
abbrev main_v482 : Ref sig .tc := ⟨.hbm, 616, rfl⟩
abbrev main_v483 : Ref sig .tc := ⟨.hbm, 617, rfl⟩
abbrev main_v484 : Ref sig .tc := ⟨.hbm, 618, rfl⟩
abbrev main_v485 : Ref sig .tc := ⟨.hbm, 619, rfl⟩
abbrev main_v486 : Ref sig .tc := ⟨.hbm, 620, rfl⟩
abbrev main_v487 : Ref sig .tc := ⟨.hbm, 621, rfl⟩
abbrev main_v488 : Ref sig .tc := ⟨.hbm, 622, rfl⟩
abbrev main_v489 : Ref sig .tc := ⟨.hbm, 623, rfl⟩
abbrev main_v490 : Ref sig .tc := ⟨.hbm, 624, rfl⟩
abbrev main_cst_85 : Ref sig .tc := ⟨.hbm, 625, rfl⟩
abbrev main_v491 : Ref sig .tc := ⟨.hbm, 626, rfl⟩
abbrev main_v492 : Ref sig .tc := ⟨.hbm, 627, rfl⟩
abbrev main_v493 : Ref sig .tc := ⟨.hbm, 628, rfl⟩
abbrev main_cst_86 : Ref sig .tc := ⟨.hbm, 629, rfl⟩
abbrev main_v494 : Ref sig .tc := ⟨.hbm, 630, rfl⟩
abbrev main_v495 : Ref sig .tc := ⟨.hbm, 631, rfl⟩
abbrev main_cst_87 : Ref sig .tc := ⟨.hbm, 632, rfl⟩
abbrev main_v496 : Ref sig .tc := ⟨.hbm, 633, rfl⟩
abbrev main_v497 : Ref sig .tc := ⟨.hbm, 634, rfl⟩
abbrev main_v498 : Ref sig .tc := ⟨.hbm, 635, rfl⟩
abbrev main_v499 : Ref sig .tc := ⟨.hbm, 636, rfl⟩
abbrev main_v500 : Ref sig .tc := ⟨.hbm, 637, rfl⟩
abbrev main_cst_88 : Ref sig .tc := ⟨.hbm, 638, rfl⟩
abbrev main_v501 : Ref sig .tc := ⟨.hbm, 639, rfl⟩
abbrev main_v502 : Ref sig .tc := ⟨.hbm, 640, rfl⟩
abbrev main_v503 : Ref sig .tc := ⟨.hbm, 641, rfl⟩
abbrev main_cst_89 : Ref sig .tc := ⟨.hbm, 642, rfl⟩
abbrev main_v504 : Ref sig .tc := ⟨.hbm, 643, rfl⟩
abbrev main_v505 : Ref sig .tc := ⟨.hbm, 644, rfl⟩
abbrev main_cst_90 : Ref sig .tc := ⟨.hbm, 645, rfl⟩
abbrev main_v506 : Ref sig .tc := ⟨.hbm, 646, rfl⟩
abbrev main_v507 : Ref sig .tc := ⟨.hbm, 647, rfl⟩
abbrev main_v508 : Ref sig .tc := ⟨.hbm, 648, rfl⟩
abbrev main_cst_91 : Ref sig .tc := ⟨.hbm, 649, rfl⟩
abbrev main_v509 : Ref sig .tc := ⟨.hbm, 650, rfl⟩
abbrev main_v510 : Ref sig .tc := ⟨.hbm, 651, rfl⟩
abbrev main_cst_92 : Ref sig .tc := ⟨.hbm, 652, rfl⟩
abbrev main_v511 : Ref sig .tc := ⟨.hbm, 653, rfl⟩
abbrev main_v512 : Ref sig .tc := ⟨.hbm, 654, rfl⟩
abbrev main_v513 : Ref sig .tc := ⟨.hbm, 655, rfl⟩
abbrev main_v514 : Ref sig .tc := ⟨.hbm, 656, rfl⟩
abbrev main_cst_93 : Ref sig .tc := ⟨.hbm, 657, rfl⟩
abbrev main_v515 : Ref sig .tc := ⟨.hbm, 658, rfl⟩
abbrev main_v516 : Ref sig .tc := ⟨.hbm, 659, rfl⟩
abbrev main_v517 : Ref sig .tc := ⟨.hbm, 660, rfl⟩
abbrev main_v518 : Ref sig .tc := ⟨.hbm, 661, rfl⟩
abbrev main_v519 : Ref sig .tc := ⟨.hbm, 662, rfl⟩
abbrev main_v520 : Ref sig .tc := ⟨.hbm, 663, rfl⟩
abbrev main_cst_94 : Ref sig .tc := ⟨.hbm, 664, rfl⟩
abbrev main_v521 : Ref sig .tc := ⟨.hbm, 665, rfl⟩
abbrev main_v522 : Ref sig .tc := ⟨.hbm, 666, rfl⟩
abbrev main_v523 : Ref sig .tc := ⟨.hbm, 667, rfl⟩
abbrev main_v524 : Ref sig .tc := ⟨.hbm, 668, rfl⟩
abbrev main_v525 : Ref sig .tc := ⟨.hbm, 669, rfl⟩
abbrev main_v526 : Ref sig .tc := ⟨.hbm, 670, rfl⟩
abbrev main_v527 : Ref sig .tc := ⟨.hbm, 671, rfl⟩
abbrev main_cst_95 : Ref sig .tc := ⟨.hbm, 672, rfl⟩
abbrev main_v528 : Ref sig .tc := ⟨.hbm, 673, rfl⟩
abbrev main_v529 : Ref sig .tc := ⟨.hbm, 674, rfl⟩
abbrev main_v530 : Ref sig .tc := ⟨.hbm, 675, rfl⟩
abbrev main_v531 : Ref sig .tc := ⟨.hbm, 676, rfl⟩
abbrev main_v532 : Ref sig .tc := ⟨.hbm, 677, rfl⟩
abbrev main_v533 : Ref sig .tc := ⟨.hbm, 678, rfl⟩
abbrev main_v534 : Ref sig .tc := ⟨.hbm, 679, rfl⟩
abbrev main_cst_96 : Ref sig .tc := ⟨.hbm, 680, rfl⟩
abbrev main_v535 : Ref sig .tc := ⟨.hbm, 681, rfl⟩
abbrev main_v536 : Ref sig .tc := ⟨.hbm, 682, rfl⟩
abbrev main_v537 : Ref sig .tc := ⟨.hbm, 683, rfl⟩
abbrev main_v538 : Ref sig .tc := ⟨.hbm, 684, rfl⟩
abbrev main_v539 : Ref sig .tc := ⟨.hbm, 685, rfl⟩
abbrev main_v540 : Ref sig .tc := ⟨.hbm, 686, rfl⟩
abbrev main_v541 : Ref sig .tc := ⟨.hbm, 687, rfl⟩
abbrev main_v542 : Ref sig .tc := ⟨.hbm, 688, rfl⟩
abbrev main_cst_97 : Ref sig .tc := ⟨.hbm, 689, rfl⟩
abbrev main_v543 : Ref sig .tc := ⟨.hbm, 690, rfl⟩
abbrev main_v544 : Ref sig .tc := ⟨.hbm, 691, rfl⟩
abbrev main_v545 : Ref sig .tc := ⟨.hbm, 692, rfl⟩
abbrev main_v546 : Ref sig .tc := ⟨.hbm, 693, rfl⟩
abbrev main_v547 : Ref sig .tc := ⟨.hbm, 694, rfl⟩
abbrev main_v548 : Ref sig .tc := ⟨.hbm, 695, rfl⟩
abbrev main_v549 : Ref sig .tc := ⟨.hbm, 696, rfl⟩
abbrev main_v550 : Ref sig .tc := ⟨.hbm, 697, rfl⟩
abbrev main_cst_98 : Ref sig .tc := ⟨.hbm, 698, rfl⟩
abbrev main_v551 : Ref sig .tc := ⟨.hbm, 699, rfl⟩
abbrev main_v552 : Ref sig .tc := ⟨.hbm, 700, rfl⟩
abbrev main_v553 : Ref sig .tc := ⟨.hbm, 701, rfl⟩
abbrev main_v554 : Ref sig .tc := ⟨.hbm, 702, rfl⟩
abbrev main_v555 : Ref sig .tc := ⟨.hbm, 703, rfl⟩
abbrev main_v556 : Ref sig .tc := ⟨.hbm, 704, rfl⟩
abbrev main_v557 : Ref sig .tc := ⟨.hbm, 705, rfl⟩
abbrev main_v558 : Ref sig .tc := ⟨.hbm, 706, rfl⟩
abbrev main_v559 : Ref sig .tc := ⟨.hbm, 707, rfl⟩
abbrev main_cst_99 : Ref sig .tc := ⟨.hbm, 708, rfl⟩
abbrev main_v560 : Ref sig .tc := ⟨.hbm, 709, rfl⟩
abbrev main_v561 : Ref sig .tc := ⟨.hbm, 710, rfl⟩
abbrev main_v562 : Ref sig .tc := ⟨.hbm, 711, rfl⟩
abbrev main_cst_100 : Ref sig .tc := ⟨.hbm, 712, rfl⟩
abbrev main_v563 : Ref sig .tc := ⟨.hbm, 713, rfl⟩
abbrev main_v564 : Ref sig .tc := ⟨.hbm, 714, rfl⟩
abbrev main_cst_101 : Ref sig .tc := ⟨.hbm, 715, rfl⟩
abbrev main_v565 : Ref sig .tc := ⟨.hbm, 716, rfl⟩
abbrev main_v566 : Ref sig .tc := ⟨.hbm, 717, rfl⟩
abbrev main_v567 : Ref sig .tc := ⟨.hbm, 718, rfl⟩
abbrev main_v568 : Ref sig .tc := ⟨.hbm, 719, rfl⟩
abbrev main_v569 : Ref sig .tc := ⟨.hbm, 720, rfl⟩
abbrev main_cst_102 : Ref sig .tc := ⟨.hbm, 721, rfl⟩
abbrev main_v570 : Ref sig .tc := ⟨.hbm, 722, rfl⟩
abbrev main_v571 : Ref sig .tc := ⟨.hbm, 723, rfl⟩
abbrev main_v572 : Ref sig .tc := ⟨.hbm, 724, rfl⟩
abbrev main_cst_103 : Ref sig .tc := ⟨.hbm, 725, rfl⟩
abbrev main_v573 : Ref sig .tc := ⟨.hbm, 726, rfl⟩
abbrev main_v574 : Ref sig .tc := ⟨.hbm, 727, rfl⟩
abbrev main_cst_104 : Ref sig .tc := ⟨.hbm, 728, rfl⟩
abbrev main_v575 : Ref sig .tc := ⟨.hbm, 729, rfl⟩
abbrev main_v576 : Ref sig .tc := ⟨.hbm, 730, rfl⟩
abbrev main_v577 : Ref sig .tc := ⟨.hbm, 731, rfl⟩
abbrev main_v578 : Ref sig .tc := ⟨.hbm, 732, rfl⟩
abbrev main_v579 : Ref sig .tc := ⟨.hbm, 733, rfl⟩
abbrev main_cst_105 : Ref sig .tc := ⟨.hbm, 734, rfl⟩
abbrev main_v580 : Ref sig .tc := ⟨.hbm, 735, rfl⟩
abbrev main_v581 : Ref sig .tc := ⟨.hbm, 736, rfl⟩
abbrev main_v582 : Ref sig .tc := ⟨.hbm, 737, rfl⟩
abbrev main_v583 : Ref sig .tc := ⟨.hbm, 738, rfl⟩
abbrev main_v584 : Ref sig .tc := ⟨.hbm, 739, rfl⟩
abbrev main_cst_106 : Ref sig .tc := ⟨.hbm, 740, rfl⟩
abbrev main_v585 : Ref sig .tc := ⟨.hbm, 741, rfl⟩
abbrev main_v586 : Ref sig .tc := ⟨.hbm, 742, rfl⟩
abbrev main_cst_107 : Ref sig .tc := ⟨.hbm, 743, rfl⟩
abbrev main_v587 : Ref sig .tc := ⟨.hbm, 744, rfl⟩
abbrev main_cst_108 : Ref sig .tc := ⟨.hbm, 745, rfl⟩
abbrev main_v588 : Ref sig .tc := ⟨.hbm, 746, rfl⟩
abbrev main_v589 : Ref sig .tc := ⟨.hbm, 747, rfl⟩

abbrev nD : Nat := 1
abbrev τ : Topo := Topo.v7x

variable {F : FTy → Type} [FloatOps F]
-- ==== Proof.TileI.lean ====
/-
  One vector subcore's task of the SparseCore kernel `cc0__softplus_sum`, run once at a symbolic pair of SparseCore
  and subcore, with the value it leaves.
-/
module

public import Idealize.ShloMosaic.PureOps.BitExact
public import Idealize.ShloMosaic.PureOps.Ideal
public import Idealize.ShloMosaic.PureOps.IdealRules
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.VecWindow
public import Idealize.ShloMosaic.Lib.ViewIndex
public import Idealize.ShloMosaic.Lib.Pipeline.Value
public import proofs.«01_k».proof.Proof.Gen.KernelIdeal
public import proofs.«01_k».proof.Proof.Gen.KernelIdeal.Skeleton

@[expose] public section

noncomputable section

namespace Cert.Proof.ScKI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the rounds of the handshakes and of the pipelined region, and the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## The arrays and buffers -/

/-- The flat logits and the 32 rows of partial sums, as locations of device `d`. -/
abbrev xLoc (d : Dev nD) : Loc nD τ sig := (SparseCore.T d).loc main_v3
abbrev oLoc (d : Dev nD) : Loc nD τ sig := (SparseCore.T d).loc main_v4

local notation "xV" => (Memref.whole Cert.KernelIdeal.main_v3_scv : Memref Cert.KernelIdeal.sig Kind.scVector Space.hbm Cert.KernelIdeal.S5376000 EltTy.f32)
local notation "oV" => (Memref.whole Cert.KernelIdeal.main_v4_scv : Memref Cert.KernelIdeal.sig Kind.scVector Space.hbm Cert.KernelIdeal.S32x16 EltTy.f32)
local notation "sB" => (Memref.whole Cert.KernelIdeal.cc0_scratch0 : Memref Cert.KernelIdeal.sig Kind.scVector Space.vmem Cert.KernelIdeal.S28000 EltTy.f32)
local notation "sA" => (Memref.whole Cert.KernelIdeal.cc0_scratch1 : Memref Cert.KernelIdeal.sig Kind.scVector Space.vmem Cert.KernelIdeal.S16 EltTy.f32)

theorem hdiv : 32 ∣ S32x16.size 0 := ⟨1, rfl⟩
/-- Row `w` of the (32, 16) partial sums: one task's. -/
abbrev row (w : Fin 32) : Rect S32x16 := Rect.part (s := S32x16) (a₀ := 0) hdiv w
abbrev rowSet (w : Fin 32) : Finset S32x16.Idx := ((oV).view.slice (row w)).set

variable [FloatOps F]

abbrev oRowPts (d : Dev nD) (w : Fin 32) (f : Buf (Elt F) (oLoc d)) : sProp 𝕄 := oLoc d ↦[rowSet w]{fullShare} f

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The task's number, `2 · subcore + SparseCore`. -/
def wL (L : grid0.Coords) : Fin 32 :=
  ⟨2 * (L 1).val + (L 0).val, by
    have h0 : (L 0).val < 2 := (L 0).isLt
    have h1 : (L 1).val < 16 := (L 1).isLt
    omega⟩

abbrev rowK (L : grid0.Coords) : Rect S32x16 := Rect.unit (s := S32x16) (k0_off8 L) S1x16.size (k0_off8_inb L)
abbrev oRowK (L : grid0.Coords) : Memref sig .scVector .hbm S16 .f32 := ((oV).slice (rowK L) (fun _ => rfl)).squeeze S16 squeezes_S1x16_S16

omit [FloatOps F] in
theorem rowK_eq : rowK L = row (wL L) := by
  unfold rowK row Rect.part Rect.block
  congr 1 <;> funext a
  · rw [k0_off8_eq]
    match a with
    | 0 => simp [Shape.partIx, Shape.partSize, wL]
    | 1 => simp [Shape.partIx, Shape.partSize]
  · match a with
    | 0 => simp [Shape.partSize]
    | 1 => simp [Shape.partSize]

omit [FloatOps F] in
theorem set_oRowK : (oRowK L).view.set = rowSet (wL L) := by
  show (((oV).view.slice (rowK L)).reshape S16 squeezes_S1x16_S16.numel_eq).set = ((oV).view.slice (row (wL L))).set
  rw [View.set_reshape]
  exact rowK_eq L ▸ rfl

omit [FloatOps F] in
theorem pts_oRowK (f : Buf (Elt F) (oLoc d)) :
    ((oRowK L).view.loc (V d (cV L) (jV L)) ↦[(oRowK L).view.set]{fullShare} f : sProp 𝕄) = oLoc d ↦[rowSet (wL L)]{fullShare} f := by
  rw [set_oRowK]
omit [FloatOps F] in
theorem pts_x (q : PosShare TreeShare) (f : Buf (Elt F) (xLoc d)) :
    ((xV).view.loc (V d (cV L) (jV L)) ↦{q} f : sProp 𝕄) = xLoc d ↦{q} f := rfl
omit [FloatOps F] in
theorem pts_sB (f : Buf (Elt F) ((V d (cV L) (jV L)).loc cc0_scratch0)) :
    ((sB).view.loc (V d (cV L) (jV L)) ↦{fullShare} f : sProp 𝕄) = (V d (cV L) (jV L)).loc cc0_scratch0 ↦{fullShare} f := rfl
omit [FloatOps F] in
theorem pts_sA (f : Buf (Elt F) ((V d (cV L) (jV L)).loc cc0_scratch1)) :
    ((sA).view.loc (V d (cV L) (jV L)) ↦{fullShare} f : sProp 𝕄) = (V d (cV L) (jV L)).loc cc0_scratch1 ↦{fullShare} f := rfl

/-- The subcore's own buffers are the staging buffer and the accumulator, each at some contents, together with the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- A DMA cell of the subcore. -/
abbrev cell (d : Dev nD) (c : Fin τ.nSC) (i : Fin τ.nSub) (s : DmaSem sig) : GSem nD τ sig := (V d c i, .dma s)

omit [FloatOps F] in
/-- The subcore's own cells are its DMA cells. -/
theorem ownCells_V : ownCells (V d (cV L) (jV L)) = Finset.univ.image (cell d (cV L) (jV L)) := by
  have hd : ∀ s : DmaSem sig, (SemLoc.dma s : SemLoc sig).isScoped .scVector = true := by decide
  have hr : ∀ s : Sem sig, (SemLoc.reg s : SemLoc sig).isScoped .scVector = false := by decide
  ext g
  simp only [mem_ownCells, Finset.mem_image, Finset.mem_univ, true_and]
  constructor
  · rintro ⟨h, hs⟩
    obtain ⟨t, sm⟩ := g
    obtain rfl : t = V d (cV L) (jV L) := h
    cases sm with
    | dma s => exact ⟨s, rfl⟩
    | reg s => exact absurd ((hr s).symm.trans hs) (by decide)
  · rintro ⟨s, rfl⟩
    exact ⟨rfl, hd s⟩

/-- The subcore's DMA semaphores other than the seven of the body. -/
abbrev otherSems : Finset (DmaSem sig) :=
  ((((((Finset.univ.erase cc0_scoped0.sem).erase cc0_scoped1.sem).erase cc0_scoped2.sem).erase cc0_scoped3.sem).erase cc0_scoped4.sem).erase cc0_scoped5.sem).erase cc0_scoped6.sem

omit [FloatOps F] in
/-- The seven cells of the body, the six fetches' and the write-out's, each at zero, and the other cells. -/
theorem ownSems0_V :
    (ownSems0 (V d (cV L) (jV L)) : sProp 𝕄)
      = iprop(semVal (cell d (cV L) (jV L) cc0_scoped0.sem) 0 ∗ semVal (cell d (cV L) (jV L) cc0_scoped1.sem) 0
          ∗ semVal (cell d (cV L) (jV L) cc0_scoped2.sem) 0 ∗ semVal (cell d (cV L) (jV L) cc0_scoped3.sem) 0
          ∗ semVal (cell d (cV L) (jV L) cc0_scoped4.sem) 0 ∗ semVal (cell d (cV L) (jV L) cc0_scoped5.sem) 0
          ∗ semVal (cell d (cV L) (jV L) cc0_scoped6.sem) 0 ∗ bigSep otherSems fun s => semVal (cell d (cV L) (jV L) s) 0) := by
  unfold SparseCore.Cfg.ownSems0
  rw [ownCells_V, SparseCore.bigSep_image_of_injOn (fun a _ b _ h => by simpa using h)]
  rw [SparseCore.bigSep_erase' (i := cc0_scoped0.sem) (Finset.mem_univ _), SparseCore.bigSep_erase' (i := cc0_scoped1.sem) (by decide),
    SparseCore.bigSep_erase' (i := cc0_scoped2.sem) (by decide), SparseCore.bigSep_erase' (i := cc0_scoped3.sem) (by decide),
    SparseCore.bigSep_erase' (i := cc0_scoped4.sem) (by decide), SparseCore.bigSep_erase' (i := cc0_scoped5.sem) (by decide),
    SparseCore.bigSep_erase' (i := cc0_scoped6.sem) (by decide)]

/-! ## The loop over one staged block -/

/-- Entry `n` of the flat logits. -/
def ixFlat (n : ℕ) (h : n < 5376000) : S5376000.Idx := fun a => ⟨n, by rw [Subsingleton.elim a 0]; exact h⟩
/-- Lane `n` of a 16-lane vector. -/
def ixLane (n : ℕ) (h : n < 16) : S16.Idx := fun a => ⟨n, by rw [Subsingleton.elim a 0]; exact h⟩

/-- Sixteen consecutive entries of the flat logits, from entry `n` on. -/
def lanes (x : Vec F S5376000 .f32) (n : ℕ) : Vec F S16 .f32 :=
  fun i => x (ixFlat ((n + (i 0).val) % 5376000) (Nat.mod_lt _ (by decide)))

/-- A 16-lane accumulator after the softplus of `k` vectors of the logits, from entry `n` on, was added to it. -/
def accOf (x : Vec F S5376000 .f32) (n : ℕ) (init : FVec F S16 .f32) : ℕ → FVec F S16 .f32
  | 0 => init
  | k + 1 => k0_pay7 (accOf x n init k) (lanes x (n + 16 * k))

/-- Task `w`'s accumulator after `b` of its blocks of 28000 entries. -/
def taskAcc (x : Vec F S5376000 .f32) (w : ℕ) : ℕ → FVec F S16 .f32
  | 0 => k0_pay5
  | b + 1 => accOf x (168000 * w + 28000 * b) (taskAcc x w b) 1750

/-- The (32, 16) partial sums: row `w` is task `w`'s accumulator after its six blocks. -/
def partsOf (x : Vec F S5376000 .f32) : Vec F S32x16 .f32 := fun j => taskAcc x (j 0).val 6 (ixLane (j 1).val (j 1).isLt)

/-- The 16 lanes that trip `k` reads of the staged block `f`. -/
def vecAt (f : Buf (Elt F) ((sB).view.loc (V d (cV L) (jV L)))) (k : Fin k0_t1_loop.trips) : Vec F S16 .f32 :=
  View.readAt (Elt F) (sB).view (Rect.unit (s := S28000) (k0_off2 k) S16.size (k0_off2_inb k)).toLoadRect f

/-- The accumulator before trip `k` of a block's loop: the softplus of each trip's lanes added to the accumulator the loop entered with. -/
def accAt (f : Buf (Elt F) ((sB).view.loc (V d (cV L) (jV L)))) (init : FVec F S16 .f32) : ℕ → FVec F S16 .f32
  | 0 => init
  | k + 1 => if h : k < k0_t1_loop.trips then k0_pay7 (accAt f init k) (vecAt d L f ⟨k, h⟩) else accAt f init k

theorem accAt_succ (f : Buf (Elt F) ((sB).view.loc (V d (cV L) (jV L)))) (init : FVec F S16 .f32) (k : Fin k0_t1_loop.trips) :
    accAt d L f init (k.val + 1) = k0_pay7 (accAt d L f init k.val) (vecAt d L f k) := by
  rw [accAt, dif_pos k.isLt]

/-- The invariant of a block's loop: the carried value is the accumulator before the trip, and the staged block stays as the loop found it. -/
@[sl_loop] def loopInv1 (f : Buf (Elt F) ((sB).view.loc (V d (cV L) (jV L)))) (init : FVec F S16 .f32) :
    LoopInv (M := 𝕄) frame (wpE (defs₀ (F := F)) 𝒱₀ (V d (cV L) (jV L)) none) Set.univ k0_t1_loop.lb k0_t1_loop.ub k0_t1_loop.st k0_t1_ok init
      (k0_t1_body L xV (Memref.isWhole_whole _) oV (Memref.isWhole_whole _)
            sB (Memref.isWhole_whole _) sA (Memref.isWhole_whole _) cc0_scoped0 cc0_scoped1 cc0_scoped2 cc0_scoped3 cc0_scoped4 cc0_scoped5 cc0_scoped6) where
  inv k acc := iprop(((sB).view.loc (V d (cV L) (jV L)) ↦{fullShare} f) ∗ ⌜acc = accAt d L f init k⌝)
  step k acc := by
    rw [accAt_succ]
    unfold k0_t1_body
    iintro ⟨Hb, %hacc⟩
    sl_exec
    sl_step
    isplitl [Hb]
    · iexact Hb
    · ipureintro; rw [hacc]; rfl

@[sl_loop] def loopInv2 (f : Buf (Elt F) ((sB).view.loc (V d (cV L) (jV L)))) (init : FVec F S16 .f32) :
    LoopInv (M := 𝕄) frame (wpE (defs₀ (F := F)) 𝒱₀ (V d (cV L) (jV L)) none) Set.univ k0_t2_loop.lb k0_t2_loop.ub k0_t2_loop.st k0_t2_ok init
      (k0_t2_body L xV (Memref.isWhole_whole _) oV (Memref.isWhole_whole _)
            sB (Memref.isWhole_whole _) sA (Memref.isWhole_whole _) cc0_scoped0 cc0_scoped1 cc0_scoped2 cc0_scoped3 cc0_scoped4 cc0_scoped5 cc0_scoped6) :=
  loopInv1 d L f init

@[sl_loop] def loopInv3 (f : Buf (Elt F) ((sB).view.loc (V d (cV L) (jV L)))) (init : FVec F S16 .f32) (v2 : BitVec 32) :
    LoopInv (M := 𝕄) frame (wpE (defs₀ (F := F)) 𝒱₀ (V d (cV L) (jV L)) none) Set.univ k0_t3_loop.lb k0_t3_loop.ub k0_t3_loop.st k0_t3_ok init
      (k0_t3_body L xV (Memref.isWhole_whole _) oV (Memref.isWhole_whole _)
            sB (Memref.isWhole_whole _) sA (Memref.isWhole_whole _) cc0_scoped0 cc0_scoped1 cc0_scoped2 cc0_scoped3 cc0_scoped4 cc0_scoped5 cc0_scoped6 v2) :=
  loopInv1 d L f init

@[sl_loop] def loopInv4 (f : Buf (Elt F) ((sB).view.loc (V d (cV L) (jV L)))) (init : FVec F S16 .f32) (v2 : BitVec 32) :
    LoopInv (M := 𝕄) frame (wpE (defs₀ (F := F)) 𝒱₀ (V d (cV L) (jV L)) none) Set.univ k0_t4_loop.lb k0_t4_loop.ub k0_t4_loop.st k0_t4_ok init
      (k0_t4_body L xV (Memref.isWhole_whole _) oV (Memref.isWhole_whole _)
            sB (Memref.isWhole_whole _) sA (Memref.isWhole_whole _) cc0_scoped0 cc0_scoped1 cc0_scoped2 cc0_scoped3 cc0_scoped4 cc0_scoped5 cc0_scoped6 v2) :=
  loopInv1 d L f init

@[sl_loop] def loopInv5 (f : Buf (Elt F) ((sB).view.loc (V d (cV L) (jV L)))) (init : FVec F S16 .f32) (v2 : BitVec 32) :
    LoopInv (M := 𝕄) frame (wpE (defs₀ (F := F)) 𝒱₀ (V d (cV L) (jV L)) none) Set.univ k0_t5_loop.lb k0_t5_loop.ub k0_t5_loop.st k0_t5_ok init
      (k0_t5_body L xV (Memref.isWhole_whole _) oV (Memref.isWhole_whole _)
            sB (Memref.isWhole_whole _) sA (Memref.isWhole_whole _) cc0_scoped0 cc0_scoped1 cc0_scoped2 cc0_scoped3 cc0_scoped4 cc0_scoped5 cc0_scoped6 v2) :=
  loopInv1 d L f init

@[sl_loop] def loopInv6 (f : Buf (Elt F) ((sB).view.loc (V d (cV L) (jV L)))) (init : FVec F S16 .f32) :
    LoopInv (M := 𝕄) frame (wpE (defs₀ (F := F)) 𝒱₀ (V d (cV L) (jV L)) none) Set.univ k0_t6_loop.lb k0_t6_loop.ub k0_t6_loop.st k0_t6_ok init
      (k0_t6_body L xV (Memref.isWhole_whole _) oV (Memref.isWhole_whole _)
            sB (Memref.isWhole_whole _) sA (Memref.isWhole_whole _) cc0_scoped0 cc0_scoped1 cc0_scoped2 cc0_scoped3 cc0_scoped4 cc0_scoped5 cc0_scoped6) :=
  loopInv1 d L f init

/-- The payload of a fetch: the 28000 logits from offset `w` of the task on. -/
abbrev fetched (fx : Buf (Elt F) (xLoc d)) (w : BitVec 32) (inb : ∀ a, k0_off1 L w a + S28000.size a ≤ S5376000.size a) : S28000.Idx → Elt F .f32 :=
  ReadAs.same.apply (View.read (Elt F) ((xV).slice (Rect.unit (s := S5376000) (k0_off1 L w) S28000.size inb) (fun _ => rfl)).view fx)

/-- What a trip reads of a staged block is sixteen consecutive logits. -/
theorem vecAt_fetched (fx : Buf (Elt F) (xLoc d)) (g : Buf (Elt F) ((sB).view.loc (V d (cV L) (jV L)))) (w : BitVec 32)
    (inb : ∀ a, k0_off1 L w a + S28000.size a ≤ S5376000.size a) (n : ℕ) (hn : k0_off1 L w = ![n]) (k : Fin k0_t1_loop.trips) :
    vecAt d L (View.write (Elt F) (sB).view g (fetched d L fx w inb) Finset.univ) k = lanes fx (n + 16 * k.val) := by
  have hk : k.val < 1750 := Nat.lt_of_lt_of_le k.isLt k0_t1_abs.2.1
  have hb := inb 0
  have h2 := k0_off2_eq k
  unfold vecAt
  rw [show View.write (Elt F) (sB).view g (fetched d L fx w inb) Finset.univ = fetched d L fx w inb from View.write_whole_univ _ _ _]
  funext i
  unfold lanes
  refine congrArg fx (funext fun a => Fin.ext ?_)
  have hi : (i 0).val < 16 := (i 0).isLt
  rw [hn] at hb
  obtain rfl : a = (0 : Fin 1) := Subsingleton.elim (α := Fin 1) a 0
  have o1 : k0_off1 L w 0 = n := by rw [hn]; rfl
  have o2 : k0_off2 k 0 = 16 * k.val := by rw [h2]; rfl
  have hb' : n + 28000 ≤ 5376000 := hb
  show k0_off1 L w 0 + 1 * (k0_off2 k 0 + 1 * (i 0).val) = (n + 16 * k.val + (i 0).val) % 5376000
  omega

theorem trips_eq : k0_t1_loop.trips = 1750 := by decide

/-- A block's loop leaves the accumulator with the block's softplus added. -/
theorem accAt_fetched (fx : Buf (Elt F) (xLoc d)) (g : Buf (Elt F) ((sB).view.loc (V d (cV L) (jV L)))) (w : BitVec 32)
    (inb : ∀ a, k0_off1 L w a + S28000.size a ≤ S5376000.size a) (n : ℕ) (hn : k0_off1 L w = ![n]) (init : FVec F S16 .f32) (k : ℕ)
    (hk : k ≤ k0_t1_loop.trips) :
    accAt d L (View.write (Elt F) (sB).view g (fetched d L fx w inb) Finset.univ) init k = accOf fx n init k := by
  induction k with
  | zero => rfl
  | succ k ih =>
    rw [accAt_succ d L _ init ⟨k, hk⟩, accOf, ih (by omega), vecAt_fetched d L fx g w inb n hn]

theorem accAt_block (fx : Buf (Elt F) (xLoc d)) (g : Buf (Elt F) ((sB).view.loc (V d (cV L) (jV L)))) (r : Fin 6)
    (inb : ∀ a, k0_off1 L (BitVec.ofNat 32 (28000 * r.val)) a + S28000.size a ≤ S5376000.size a) (init : FVec F S16 .f32) :
    accAt d L (View.write (Elt F) (sB).view g (fetched d L fx (BitVec.ofNat 32 (28000 * r.val)) inb) Finset.univ) init k0_t1_loop.trips
      = accOf fx (168000 * (wL L).val + 28000 * r.val) init 1750 := by
  rw [accAt_fetched d L fx g _ inb (168000 * (wL L).val + 28000 * r.val) _ init _ (le_refl _), trips_eq]
  rw [k0_off1_eq L r]
  congr 1
  show _ = 168000 * (2 * (L 1).val + (L 0).val) + _
  omega

/-- One block of the task: the accumulator read back from scratch, the loop over the block, the accumulator stored. -/
theorem block_step (fx : Buf (Elt F) (xLoc d)) (g : Buf (Elt F) ((sB).view.loc (V d (cV L) (jV L)))) (r : Fin 6)
    (inb : ∀ a, k0_off1 L (BitVec.ofNat 32 (28000 * r.val)) a + S28000.size a ≤ S5376000.size a) (v : Vec F S16 .f32)
    (hv : v = taskAcc fx (wL L).val r.val) (h h' : S16.ShapeCasts S16) :
    shapeCast S16 (accAt d L (View.write (Elt F) (sB).view g (fetched d L fx (BitVec.ofNat 32 (28000 * r.val)) inb) Finset.univ)
      (shapeCast S16 v h) k0_t1_loop.trips) h' = taskAcc fx (wL L).val (r.val + 1) := by
  rw [shapeCast_self, shapeCast_self, accAt_block, hv]; rfl

/-- The task's row of the partial sums, read through the view the write-out goes to. -/
theorem row_value (x : Vec F S5376000 .f32) (fo : Buf (Elt F) (oLoc d)) (p : S16.Idx → Elt F .f32) (hp : p = taskAcc x (wL L).val 6) :
    ∀ i ∈ (oRowK L).view.set, ((oRowK L).view.writes (Elt F) fo [⟨Rect.whole S16, p⟩]) i = (partsOf x : Buf (Elt F) (oLoc d)) i := by
  intro i hi
  obtain ⟨y, -, rfl⟩ := Finset.mem_map.mp hi
  apply View.eq_of_read_eq
  trans p y
  · have hy : (Rect.whole S16).emb y = y := funext fun a => Fin.ext (by show 0 + 1 * (y a).val = (y a).val; omega)
    exact (congrArg ((oRowK L).view.read (Elt F) ((oRowK L).view.writes (Elt F) fo [⟨Rect.whole S16, p⟩])) hy.symm).trans
      (View.read_writes_cons_emb (oRowK L).view fo (Rect.whole S16) p [] y)
  · rw [hp]
    unfold oRowK
    rw [Memref.read_squeeze_slice (hc := (show S1x16.ShapeCasts S16 by decide))]
    refine Eq.trans ?_ (shapeCast_dropUnit_apply ![16] _ _ y).symm
    show taskAcc x (wL L).val 6 y = partsOf x ((rowK L).emb (Fin.cons ⟨0, Nat.one_pos⟩ y))
    unfold partsOf
    have e0 : (((rowK L).emb (Fin.cons ⟨0, Nat.one_pos⟩ y : S1x16.Idx)) 0).val = (wL L).val := by
      show k0_off8 L 0 + 1 * 0 = _
      rw [k0_off8_eq]; rfl
    have e1 : (((rowK L).emb (Fin.cons ⟨0, Nat.one_pos⟩ y : S1x16.Idx)) 1).val = (y 0).val := by
      show k0_off8 L 1 + 1 * (y 0).val = _
      rw [k0_off8_eq]; show 0 + 1 * (y 0).val = _; omega
    rw [e0]
    refine congrArg _ (funext fun a => Fin.ext ?_)
    rw [Subsingleton.elim a 0]
    exact e1.symm

theorem tile_body (hF : (K (F := F)).Facts) (q : PosShare TreeShare) (fx : Buf (Elt F) (xLoc d)) (fo : Buf (Elt F) (oLoc d))
    (O : CellTallies nD τ sig (HIx 1)) (W : Waits sig (HIx 1)) (hO : ∀ g, O g none = 0) :
    iprop(levAts (K (F := F)).L (K (F := F)).lev ∗ emp
        ∗ ((xLoc d ↦{q} fx) ∗ oRowPts d (wL L) fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__softplus_sum L xV (Memref.isWhole_whole _) oV (Memref.isWhole_whole _)
            sB (Memref.isWhole_whole _) sA (Memref.isWhole_whole _) cc0_scoped0 cc0_scoped1 cc0_scoped2 cc0_scoped3 cc0_scoped4 cc0_scoped5 cc0_scoped6)
          fun _ => iprop(((xLoc d ↦{q} fx) ∗ oRowPts d (wL L) (partsOf fx))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fb, Hb⟩, ⟨%fa, Ha⟩, Hbufs⟩, ⟨H0, H1, H2, H3, H4, H5, H6, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_x (F := F) d L q _).symm) $$ Hx
  ihave Ho' := (Entails.of_eq (pts_oRowK (F := F) d L _).symm) $$ Ho
  ihave Hb' := (Entails.of_eq (pts_sB (F := F) d L _).symm) $$ Hb
  ihave Ha' := (Entails.of_eq (pts_sA (F := F) d L _).symm) $$ Ha
  rw [cc0__softplus_sum_eq_skeleton]; unfold cc0__softplus_sum_skel
  rw [k0_part1_eq_skeleton]; unfold k0_part1_skel
  rw [wp_bind]
  sl_exec (disch := exact View.amount_pos _ _ (show 0 < S28000.numel by decide))
  have e1 : tile_body.sl.v16 d L fx fb = taskAcc fx (wL L).val 1 :=
    (View.readCov_full _ _ _ _ _).trans (block_step d L fx _ 0 _ _ (View.readCov_full _ _ _ _ _) _ _)
  have e2 : tile_body.sl.v24 d L fx fb = taskAcc fx (wL L).val 2 :=
    (View.readCov_full _ _ _ _ _).trans (block_step d L fx _ 1 _ _ e1 _ _)
  have e3 : tile_body.sl.v32 d L fx fb = taskAcc fx (wL L).val 3 :=
    (View.readCov_full _ _ _ _ _).trans (block_step d L fx _ 2 _ _ e2 _ _)
  have e4 : tile_body.sl.v40 d L fx fb = taskAcc fx (wL L).val 4 :=
    (View.readCov_full _ _ _ _ _).trans (block_step d L fx _ 3 _ _ e3 _ _)
  have e5 : tile_body.sl.v48 d L fx fb = taskAcc fx (wL L).val 5 :=
    (View.readCov_full _ _ _ _ _).trans (block_step d L fx _ 4 _ _ e4 _ _)
  have e6 : tile_body.sl.dma2_6 d L fx fb = taskAcc fx (wL L).val 6 :=
    (View.read_writes_full _ _ _ _ _).trans (block_step d L fx _ 5 _ _ e5 _ _)
  sl_step
  ihave Ho := (Entails.of_eq (pointsTo_congr (row_value d L fx fo _ e6))) $$ Ho'
  ihave Ho := (Entails.of_eq (pts_oRowK (F := F) d L _)) $$ Ho
  isplitl [Hx' Ho]
  · isplitl [Hx']
    · iexact Hx'
    · iexact Ho
  isplitl [Hb' Ha' Hbufs]
  · isplitl [Hb']
    · iexists _; iexact Hb'
    isplitl [Ha']
    · iexists _; iexact Ha'
    iexact Hbufs
  isplitl [H0 H1 H2 H3 H4 H5 H6 Hsems]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact Hsems
  iexists _
  isplitr
  swap
  · iexact HO
  · ipureintro
    intro p hp
    iterate 7
      rcases Finset.mem_insert.mp hp with h | hp
      · exact .inr (.inl (h ▸ rfl))
    exact .inl hp

end Tile

end Cert.Proof.ScKI

end
-- ==== Proof.BodyI.lean ====
/-
  What one grid point's run of the TensorCore call's body leaves in the output's staging buffer, as a function of the
  input windows' blocks.
-/
module

public import proofs.«01_k».proof.Proof.TileI
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- the rectangles below have axes of thousands of elements
set_option maxRecDepth 16384

noncomputable section

namespace Cert.Proof.ScKI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The values of the body -/

/-- The input windows' blocks at one grid point: class logits, predicted boxes, target boxes, target classes, anchors. -/
structure Blk (F : FTy → Type) where
  x0 : Vec F S1x8400x80 .f32
  x1 : Vec F S1x4x8400 .f32
  x2 : Vec F S1x100x4 .f32
  x3 : Vec F S1x1x100 .i32
  x4 : Vec F S2x8400 .f32

abbrev r0 : Rect S1x8400x80 := Rect.unit (s := S1x8400x80) ![0, 0, 0] S1x8400x80.size inb_S1x8400x80_S1x8400x80_0_0_0
abbrev r1 : Rect S1x4x8400 := Rect.unit (s := S1x4x8400) ![0, 0, 0] S1x4x8400.size inb_S1x4x8400_S1x4x8400_0_0_0
abbrev r2 : Rect S1x100x4 := Rect.unit (s := S1x100x4) ![0, 0, 0] S1x100x4.size inb_S1x100x4_S1x100x4_0_0_0
abbrev r3 : Rect S1x1x100 := Rect.unit (s := S1x1x100) ![0, 0, 0] S1x1x100.size inb_S1x1x100_S1x1x100_0_0_0
abbrev r4 : Rect S2x8400 := Rect.unit (s := S2x8400) ![0, 0] S2x8400.size inb_S2x8400_S2x8400_0_0
abbrev r5 : Rect S1x8x128 := Rect.unit (s := S1x8x128) ![0, 0, 0] S1x8x128.size inb_S1x8x128_S1x8x128_0_0_0

namespace Body
def v1 (x : Blk F) : FVec F S8400x80 .f32 :=
  k1_pay2 (View.ld x.x0 r0)
def v7 (x : Blk F) : IVec S1x100 32 :=
  k1_pay5 (View.ld x.x3 r3)
def v12 (x : Blk F) : FVec F S100x1 .f32 :=
  k1_pay6 (View.ld x.x2 r2)
def v13 (x : Blk F) : FVec F S100x1 .f32 :=
  k1_pay7 (View.ld x.x2 r2)
def v14 (x : Blk F) : FVec F S100x1 .f32 :=
  k1_pay8 (View.ld x.x2 r2)
def v15 (x : Blk F) : FVec F S100x1 .f32 :=
  k1_pay9 (View.ld x.x2 r2)
def v16 (x : Blk F) : FVec F S1x8400 .f32 :=
  k1_pay10 (View.ld x.x1 r1)
def v17 (x : Blk F) : FVec F S1x8400 .f32 :=
  k1_pay11 (View.ld x.x1 r1)
def v18 (x : Blk F) : FVec F S1x8400 .f32 :=
  k1_pay12 (View.ld x.x1 r1)
def v19 (x : Blk F) : FVec F S1x8400 .f32 :=
  k1_pay13 (View.ld x.x1 r1)
def v34 (x : Blk F) : IVec S100x8400 1 :=
  k1_pay14 (View.ld x.x2 r2) (View.ld x.x4 r4)
def v66 (x : Blk F) : FVec F S100x8400 .f32 :=
  k1_pay19 (v12 x) (v13 x) (v14 x) (v15 x) (v16 x) (v17 x) (v18 x) (v19 x) (k1_pay15 (View.ld x.x1 r1) (View.ld x.x2 r2)) (k1_pay16 (View.ld x.x1 r1) (View.ld x.x2 r2)) (k1_pay17 (View.ld x.x1 r1) (View.ld x.x2 r2)) (k1_pay18 (View.ld x.x2 r2))
def v114 (x : Blk F) : FVec F S100x8400 .f32 :=
  k1_pay23 (v12 x) (v13 x) (v15 x) (v16 x) (v17 x) (v19 x) (v66 x) (k1_pay20 (v12 x) (v13 x) (v14 x) (v15 x) (v16 x) (v17 x) (v18 x) (v19 x)) (k1_pay21 (v14 x)) (k1_pay22 (v18 x))
def v189 (x : Blk F) : FVec F S100x8400 .f32 :=
  k1_pay29 (k1_pay25 (v12 x) (v13 x) (v14 x) (v15 x)) (k1_pay26 (v12 x) (v13 x) (v14 x) (v15 x)) (k1_pay27 (v12 x) (v13 x) (v14 x) (v15 x)) (k1_pay28 (v12 x) (v13 x) (v14 x) (v15 x))
def v190 (x : Blk F) : FVec F S100x8400 .f32 :=
  k1_pay30 (v16 x) (v17 x) (v18 x) (v19 x)
def v204 (x : Blk F) : FVec F S100x8400 .f32 :=
  k1_pay31 (v66 x) (v114 x) (v189 x) (v190 x)
def v223 (x : Blk F) : FVec F S100x8400 .f32 :=
  k1_pay33 (v1 x) (v7 x) (v34 x) (v66 x) (v114 x) (v189 x) (v190 x)
def v225 (x : Blk F) : FVec F S100x1 .f32 :=
  k1_pay34 (v1 x) (v7 x) (v34 x) (v66 x) (v114 x) (v189 x) (v190 x)
def v282 (x : Blk F) : FVec F S100x8400 .f32 :=
  k1_pay36 (v223 x) (k1_pay35 (v1 x) (v7 x) (v34 x) (v66 x) (v114 x) (v189 x) (v190 x))
def v322 (x : Blk F) : FVec F S1x8400 .f32 :=
  k1_pay45 (v12 x) (v13 x) (v14 x) (v15 x) (v204 x) (v223 x) (v225 x) (v282 x)
def v323 (x : Blk F) : FVec F S1x8400 .f32 :=
  k1_pay46 (v12 x) (v13 x) (v14 x) (v15 x) (v204 x) (v223 x) (v225 x) (v282 x)
def v324 (x : Blk F) : FVec F S1x8400 .f32 :=
  k1_pay47 (v12 x) (v13 x) (v14 x) (v15 x) (v204 x) (v223 x) (v225 x) (v282 x)
def v325 (x : Blk F) : FVec F S1x8400 .f32 :=
  k1_pay48 (v12 x) (v13 x) (v14 x) (v15 x) (v204 x) (v223 x) (v225 x) (v282 x)
def v327 (x : Blk F) : FVec F S1x8400 .f32 :=
  k1_pay49 (v12 x) (v13 x) (v14 x) (v15 x) (v17 x) (v204 x) (v223 x) (v225 x) (v282 x)
def v329 (x : Blk F) : FVec F S1x8400 .f32 :=
  k1_pay50 (v12 x) (v13 x) (v14 x) (v15 x) (v19 x) (v204 x) (v223 x) (v225 x) (v282 x)
def v330 (x : Blk F) : FVec F S1x8400 .f32 :=
  k1_pay51 (v12 x) (v13 x) (v14 x) (v15 x) (v16 x) (v18 x) (v204 x) (v223 x) (v225 x) (v282 x)
end Body
open Body

/-- What the body stores, and what the output's staging buffer holds after the store. -/
def stored (x : Blk F) : Vec F S1x8x128 .f32 :=
  k1_pay1 (k1_pay43 (v12 x) (v13 x) (v14 x) (v15 x) (v204 x) (k1_pay32 (v1 x) (v7 x)) (v223 x) (v225 x) (v282 x)) (k1_pay44 (v12 x) (v13 x) (v14 x) (v15 x) (v204 x) (v223 x) (v225 x) (v282 x)) (k1_pay61 (k1_pay42 (v12 x) (v13 x) (v14 x) (v15 x) (v204 x) (v223 x) (v225 x) (v282 x)) (k1_pay52 (v16 x) (v17 x) (v18 x) (v19 x) (v322 x) (v323 x) (v324 x) (v325 x) (v327 x) (v329 x) (v330 x) (Scalar.ofBits .f32 0x00000000#32)) (k1_pay53 (v16 x) (v17 x) (v18 x) (v19 x) (v322 x) (v323 x) (v324 x) (v325 x) (v327 x) (v329 x) (v330 x) (Scalar.ofBits .f32 0x00000000#32)) (k1_pay55 (k1_pay54 (v16 x) (v17 x) (v18 x) (v19 x))) (k1_pay57 (v322 x) (v323 x) (v324 x) (v325 x)) (k1_pay58 (v322 x) (v323 x) (v324 x) (v325 x)) (k1_pay59 (v322 x) (v323 x) (v324 x) (v325 x)) (k1_pay60 (v322 x) (v323 x) (v324 x) (v325 x))) (iota .tc S8x128 32 [0] iota_S8x128_d0_w32) k1_pay62
def out (x : Blk F) : Vec F S1x8x128 .f32 := View.canon [⟨r5, stored x⟩]

theorem cover (p : Vec F S1x8x128 .f32) (y : S1x8x128.Idx) :
    ∃ pc ∈ ([⟨r5, p⟩] : List (View.Piece (Elt F) S1x8x128 .f32)), y ∈ pc.1.set :=
  View.cover_of_tiled [⟨r5, p⟩] S1x8x128.size (by rfl) y

end Cert.Proof.ScKI

end
-- ==== Proof.SoundI.lean ====
/-
  The TensorCore call's body, run at any grid point.
-/
module

public import proofs.«01_k».proof.Proof.BodyI

@[expose] public section

-- the rectangles below have axes of thousands of elements
set_option maxRecDepth 16384

noncomputable section

namespace Cert.Proof.ScKI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Body

set_option maxHeartbeats 17200000 in
theorem sound_kernel (c : Dev nD) (E : Set ℕ) (i : grid1.Coords) (arg1 : Memref sig .tc .vmem S1x8400x80 .f32) (harg1 : arg1.IsWhole) (arg2 : Memref sig .tc .vmem S1x4x8400 .f32) (harg2 : arg2.IsWhole) (arg3 : Memref sig .tc .vmem S1x100x4 .f32) (harg3 : arg3.IsWhole) (arg4 : Memref sig .tc .vmem S1x1x100 .i32) (harg4 : arg4.IsWhole) (arg5 : Memref sig .tc .vmem S2x8400 .f32) (harg5 : arg5.IsWhole) (arg6 : Memref sig .tc .vmem S1x8x128 .f32) (harg6 : arg6.IsWhole)
    (x : Blk F) (K : PUnit → sProp 𝕄) :
    iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ (∃ d, owns (c : Thread nD τ) arg6 fullShare d)
        ∗ (iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ owns (c : Thread nD τ) arg6 fullShare (out x)) -∗ K ⟨⟩))
      ⊢ wp frame (wpE (defs₀ (F := F)) Variants.none c none) E (cc1__yolo_kernel i arg1 harg1 arg2 harg2 arg3 harg3 arg4 harg4 arg5 harg5 arg6 harg6) K := by
  obtain ⟨x0, x1, x2, x3, x4⟩ := x
  dsimp only
  simp only [cc1__yolo_kernel_eq_skeleton]; unfold cc1__yolo_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover _)).trans ?_
  rfl

end Cert.Proof.ScKI

end
-- ==== Proof.RegI.lean ====
/-
  The proof data of the TensorCore call's pipeline, from any entry contents `W` of the arrays.
-/
module

public import proofs.«01_k».proof.Proof.SoundI
public import proofs.«01_k».proof.Proof.Gen.KernelIdeal.Launch
public import Idealize.ShloMosaic.Lib.Pipeline.RegionsLoop

@[expose] public section

-- the rectangles below have axes of thousands of elements
set_option maxRecDepth 16384

noncomputable section

namespace Cert.Proof.ScKI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The pipeline's proof data -/

variable (W : (c : Dev nD) → (b : Ref sig .tc) → Buf (Elt F) ((c : Thread nD τ).loc b)) (rec : Dev nD → Set (SemLoc sig × HIx 1))

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The input blocks at point `t`. -/
def blkAt (c : Dev nD) (t : Fin cfg1.N) : Blk F := ⟨iblk W c 0 t, iblk W c 1 t, iblk W c 2 t, iblk W c 3 t, iblk W c 4 t⟩

/-- An input window whose body leaves its block in place holds that block at every point. -/
theorem before_of {c : Dev nD} (dat : Dat τ (Elt F) (HIx 1) ℕ UU ℕ cfg1 c) (hA : ∀ w, dat.A w = W c (Pipeline.arrRef spec1 w)) (t : Fin cfg1.N) :
    ((∀ t, dat.after 0 t = iblk W c 0 t) → ∀ d, dat.before 0 t d = iblk W c 0 t)
    ∧ ((∀ t, dat.after 1 t = iblk W c 1 t) → ∀ d, dat.before 1 t d = iblk W c 1 t)
    ∧ ((∀ t, dat.after 2 t = iblk W c 2 t) → ∀ d, dat.before 2 t d = iblk W c 2 t)
    ∧ ((∀ t, dat.after 3 t = iblk W c 3 t) → ∀ d, dat.before 3 t d = iblk W c 3 t)
    ∧ ((∀ t, dat.after 4 t = iblk W c 4 t) → ∀ d, dat.before 4 t d = iblk W c 4 t) := by
  refine ⟨fun h d => ?_, fun h d => ?_, fun h d => ?_, fun h d => ?_, fun h d => ?_⟩
  all_goals
    refine (dat.before_in_eq_fetched _ rfl (fun _ => rfl) (fun _ _ _ => rfl) (fun t => by rw [h]; unfold Dat.blockOf iblk; rw [hA]; try rfl) t d).trans ?_
    unfold Dat.fetched Dat.blockOf iblk; rw [hA]; try rfl

abbrev Φc (c : Dev nD) : sProp 𝕄 := Pipeline.scopedRest (Ix := HIx 1) (Name := ℕ) (U := UU) (Lvl := ℕ) (Val := Elt F) spec1 c

def dats (_ : Fin 1) (c : Dev nD) : Dat τ (Elt F) (HIx 1) ℕ UU ℕ cfg1 c where
  A w := W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => out (blkAt W c t)
  Φ _ := Φc c
  q _ := fullShare
  owed _ := 0
  recorded _ := rec c

theorem A_eq (c : Dev nD) (w : Fin cfg1.W) : (dats W rec 0 c).A w = W c (Pipeline.arrRef spec1 w) := by
  dsimp only [dats]
theorem after_0 (c : Dev nD) (t : Fin cfg1.N) : (dats W rec 0 c).after 0 t = iblk W c 0 t := by dsimp only [dats]
theorem after_1 (c : Dev nD) (t : Fin cfg1.N) : (dats W rec 0 c).after 1 t = iblk W c 1 t := by dsimp only [dats]
theorem after_2 (c : Dev nD) (t : Fin cfg1.N) : (dats W rec 0 c).after 2 t = iblk W c 2 t := by dsimp only [dats]
theorem after_3 (c : Dev nD) (t : Fin cfg1.N) : (dats W rec 0 c).after 3 t = iblk W c 3 t := by dsimp only [dats]
theorem after_4 (c : Dev nD) (t : Fin cfg1.N) : (dats W rec 0 c).after 4 t = iblk W c 4 t := by dsimp only [dats]
theorem after_5 (c : Dev nD) (t : Fin cfg1.N) : (dats W rec 0 c).after 5 t = out (blkAt W c t) := by dsimp only [dats]

theorem before_0 (c : Dev nD) (t : Fin cfg1.N) (d) : (dats W rec 0 c).before 0 t d = iblk W c 0 t :=
  (before_of W (dats W rec 0 c) (A_eq W rec c) t).1 (after_0 W rec c) d
theorem before_1 (c : Dev nD) (t : Fin cfg1.N) (d) : (dats W rec 0 c).before 1 t d = iblk W c 1 t :=
  (before_of W (dats W rec 0 c) (A_eq W rec c) t).2.1 (after_1 W rec c) d
theorem before_2 (c : Dev nD) (t : Fin cfg1.N) (d) : (dats W rec 0 c).before 2 t d = iblk W c 2 t :=
  (before_of W (dats W rec 0 c) (A_eq W rec c) t).2.2.1 (after_2 W rec c) d
theorem before_3 (c : Dev nD) (t : Fin cfg1.N) (d) : (dats W rec 0 c).before 3 t d = iblk W c 3 t :=
  (before_of W (dats W rec 0 c) (A_eq W rec c) t).2.2.2.1 (after_3 W rec c) d
theorem before_4 (c : Dev nD) (t : Fin cfg1.N) (d) : (dats W rec 0 c).before 4 t d = iblk W c 4 t :=
  (before_of W (dats W rec 0 c) (A_eq W rec c) t).2.2.2.2 (after_4 W rec c) d

/-! ## The body obligation -/

def bodyPre (c : Dev nD) (t : Fin cfg1.N) : sProp 𝕄 :=
  iprop((dats W rec 0 c).Φ t.castSucc ∗ (dats W rec 0 c).owesAt none t.castSucc
    ∗ (∃ d, owns (c : Thread nD τ) (st1_0 t) fullShare ((dats W rec 0 c).before 0 t d))
    ∗ (∃ d, owns (c : Thread nD τ) (st1_1 t) fullShare ((dats W rec 0 c).before 1 t d))
    ∗ (∃ d, owns (c : Thread nD τ) (st1_2 t) fullShare ((dats W rec 0 c).before 2 t d))
    ∗ (∃ d, owns (c : Thread nD τ) (st1_3 t) fullShare ((dats W rec 0 c).before 3 t d))
    ∗ (∃ d, owns (c : Thread nD τ) (st1_4 t) fullShare ((dats W rec 0 c).before 4 t d))
    ∗ (∃ d, owns (c : Thread nD τ) (st1_5 t) fullShare ((dats W rec 0 c).before 5 t d)))

def bodyPost (c : Dev nD) (t : Fin cfg1.N) : sProp 𝕄 :=
  iprop((dats W rec 0 c).Φ t.succ ∗ (dats W rec 0 c).owesAt none t.succ
    ∗ owns (c : Thread nD τ) (st1_0 t) fullShare ((dats W rec 0 c).after 0 t)
    ∗ owns (c : Thread nD τ) (st1_1 t) fullShare ((dats W rec 0 c).after 1 t)
    ∗ owns (c : Thread nD τ) (st1_2 t) fullShare ((dats W rec 0 c).after 2 t)
    ∗ owns (c : Thread nD τ) (st1_3 t) fullShare ((dats W rec 0 c).after 3 t)
    ∗ owns (c : Thread nD τ) (st1_4 t) fullShare ((dats W rec 0 c).after 4 t)
    ∗ owns (c : Thread nD τ) (st1_5 t) fullShare ((dats W rec 0 c).after 5 t))

theorem sound_body (c : Dev nD) (t : Fin cfg1.N) :
    bodyPre W rec c t ⊢ wp frame (wpE (defs₀ (F := F)) Variants.none c none) Set.univ (bodyAt1 t) (fun _ => bodyPost W rec c t) := by
  unfold bodyPre bodyPost bodyAt1
  simp only [before_0, before_1, before_2, before_3, before_4]
  rw [show (dats W rec 0 c).Φ t.succ = (dats W rec 0 c).Φ t.castSucc from rfl,
    show (dats W rec 0 c).owesAt none t.succ = (dats W rec 0 c).owesAt none t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (blkAt W c t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg1.N) :
    defs₀ (F := F) .tc cfg1.body (cfg1.bodyArgs t (cfg1.slots t)) = bodyAt1 t := by
  unfold defs₀; rfl

theorem body_obligation (c : Dev nD) : BodyObligation (dats (F := F) W rec 0 c) (defs₀ (F := F)) Variants.none none Set.univ := fun t => by
  rw [bigSep_W1, bigSep_W1, defs₀_row]
  exact triple_restated (sound_body W rec c t) rfl .rfl fun _ => .rfl

/-! ## The region over the thread state -/

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dats W rec 0 c

/-- The result's array after the region. -/
def tcArr (c : Dev nD) : Buf (Elt F) ((c : Thread nD τ).loc main_v5) := (dats W rec 0 c).arrAt 5 cfg1.N

abbrev Lc : GSem nD τ sig → Finset (HIx 1) := (K (F := F)).L
abbrev lvc : GSem nD τ sig → HIx 1 → ℕ := (K (F := F)).lev

-- the valuation that the region leaves: the result's array at `tcArr`, and `W` elsewhere
variable (Wp : (c : Dev nD) → (b : Ref sig .tc) → Buf (Elt F) ((c : Thread nD τ).loc b))

set_option backward.isDefEq.respectTransparency.types false in
/-- The TensorCore call over the thread state: every unscoped buffer at `W c`, what it does not touch (`R c`), and
    the core owing nothing, its waits so far within `rec c`. -/
def reg (R : Dev nD → sProp 𝕄) (hWp : ∀ c, Wp c main_v5 = tcArr W rec c) (hWp_ne : ∀ c (b : Ref sig .tc), b ≠ main_v5 → Wp c b = W c b) :
    Pipeline.RegionSeg (pcfgs (F := F)) adm (pdats W rec) (none : HIx 1) defs₀ 𝒱₀ (Lc (F := F)) (lvc (F := F)) 0 where
  win := (launch1).win.to₀
  block_pos := (launch1).block_pos
  stage_whole := (launch1).stage_whole
  K := PEmpty
  osem k := k.elim
  ho := Pipeline.OwnSemFacts.none _
  hbody c := (body_obligation W rec c).loose
  hwaits := Pipeline.hwaits_of_owed_zero _ _ _ _ (Lc (F := F)) (lvc (F := F)) 0 fun _ _ => rfl
  pre c := iprop(unscopedBufs c (W c) ∗ R c ∗ ∃ Z : Waits sig (HIx 1), ⌜∀ p ∈ Z, p ∈ rec c⌝ ∗ owes (c : Thread nD τ) (0 : CellTallies nD τ sig (HIx 1)) Z)
  post c := iprop(unscopedBufs c (Wp c) ∗ R c ∗ ∃ Z : Waits sig (HIx 1), ⌜∀ p ∈ Z, p ∈ rec c ∪ cfg1.waitPairs none⌝ ∗ owes (c : Thread nD τ) (0 : CellTallies nD τ sig (HIx 1)) Z)
  X _ := BI.emp
  Y _ := BI.emp
  Z c := iprop(Pipeline.unscopedRest (Ix := HIx 1) (Name := ℕ) (U := UU) (Lvl := ℕ) spec1 c (W c) ∗ R c)
  hentry c := by
    rw [Pipeline.ownSems0_none]
    have hsplit := Pipeline.arrays_of_unscopedBufs (p := 0) (pcfgs (F := F)) adm (pdats W rec) (launch1).win (launch1).arr_whole c
      ((pdats W rec 0 c).share_full fun _ => rfl) (W c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Z, %hZ, HO⟩; iexists Z; isplitr; · ipureintro; exact fun p hp => Or.inl (hZ p hp)
      iexact HO
    isplitr; · iempintro
    isplitl [Hrest] <;> iassumption
  hin c := by
    rw [show (pdats W rec 0 c).Φ 0 = Φc c from rfl]
    iintro ⟨-, -, Hr⟩; iexact Hr
  hout c := by
    rw [Pipeline.ownSems0_none, show (pdats W rec 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats W rec) ((pdats W rec 0 c).share_full fun _ => rfl) (W c) (Wp c) ((pdats W rec 0 c).arrAt · cfg1.N)
      (fun w => by
        fin_cases w
        · exact ((pdats W rec 0 c).arrAt_in 0 rfl _).trans (hWp_ne c main_arg0 (by decide)).symm
        · exact ((pdats W rec 0 c).arrAt_in 1 rfl _).trans (hWp_ne c main_v0 (by decide)).symm
        · exact ((pdats W rec 0 c).arrAt_in 2 rfl _).trans (hWp_ne c main_arg2 (by decide)).symm
        · exact ((pdats W rec 0 c).arrAt_in 3 rfl _).trans (hWp_ne c main_v2 (by decide)).symm
        · exact ((pdats W rec 0 c).arrAt_in 4 rfl _).trans (hWp_ne c main_v1 (by decide)).symm
        · exact (hWp c).symm)
      (fun b hb => hWp_ne c b fun h => hb (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Z, %hZ, HO⟩; iexists Z
    isplitr; · ipureintro; exact fun p hp => hZ hp
    iexact HO

end Cert.Proof.ScKI

end
-- ==== Proof.LaunchI.lean ====
/-
  The launch from `main`.  The flat logits go out to the 32 SparseCore tasks as read shares, the output as its 32
  rows, and both come back; the TensorCore call runs over the arrays it windows; then the host combines the two
  outputs.  `run_main` states the program's result.
-/
module

public import proofs.«01_k».proof.Proof.RegI

@[expose] public section

set_option maxRecDepth 16384

noncomputable section

namespace Cert.Proof.ScKI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v3_scv : Memref Cert.KernelIdeal.sig Kind.scVector Space.hbm Cert.KernelIdeal.S5376000 EltTy.f32)
local notation "oV" => (Memref.whole Cert.KernelIdeal.main_v4_scv : Memref Cert.KernelIdeal.sig Kind.scVector Space.hbm Cert.KernelIdeal.S32x16 EltTy.f32)
local notation "sB" => (Memref.whole Cert.KernelIdeal.cc0_scratch0 : Memref Cert.KernelIdeal.sig Kind.scVector Space.vmem Cert.KernelIdeal.S28000 EltTy.f32)
local notation "sA" => (Memref.whole Cert.KernelIdeal.cc0_scratch1 : Memref Cert.KernelIdeal.sig Kind.scVector Space.vmem Cert.KernelIdeal.S16 EltTy.f32)

variable (m : (ℓ : Loc nD τ sig) → Buf (Elt F) ℓ)

/-! ## The host's operations and the contents they leave -/

abbrev x' : DevRef τ sig := Proc.devRef .tc (main_v3 : Ref sig .tc)
abbrev o' : DevRef τ sig := Proc.devRef .tc (main_v4 : Ref sig .tc)
abbrev p' : DevRef τ sig := Proc.devRef .tc (main_v5 : Ref sig .tc)
abbrev r' : DevRef τ sig := Proc.devRef .tc (main_v23 : Ref sig .tc)
abbrev a' : Fin 5 → DevRef τ sig := fun k => Proc.devRef .tc ((![main_arg0, main_arg1, main_arg2, main_arg3, main_arg4] : Fin 5 → Ref sig .tc) k)

/-- The operations before the calls, and those after them. -/
abbrev pre : List (HloOp τ sig (Elt F)) :=
  [StableHlo.unary main_arg1 main_v0 ((transpose S8x4x8400 [0, 2, 1] · transposes_S8x8400x4_S8x4x8400_0_2_1) : (⟨S8x8400x4, .f32⟩ : BufTy).Contents (Elt F) → (⟨S8x4x8400, .f32⟩ : BufTy).Contents (Elt F)),
   StableHlo.unary main_arg4 main_v1 ((transpose S2x8400 [1, 0] · transposes_S8400x2_S2x8400_1_0) : (⟨S8400x2, .f32⟩ : BufTy).Contents (Elt F) → (⟨S2x8400, .f32⟩ : BufTy).Contents (Elt F)),
   StableHlo.reshape main_arg3 main_v2 (rfl : (.i32 : EltTy) = .i32) shapeCasts_S8x100_S8x1x100,
   StableHlo.reshape main_arg0 main_v3 (rfl : (.f32 : EltTy) = .f32) shapeCasts_S8x8400x80_S5376000]
abbrev post : List (HloOp τ sig (Elt F)) :=
  [StableHlo.unary main_v5 main_v6 ((extractStridedSlice S8x4x1 ![0, 0, 0] · slices_S8x8x128_S8x4x1_0_0_0) : (⟨S8x8x128, .f32⟩ : BufTy).Contents (Elt F) → (⟨S8x4x1, .f32⟩ : BufTy).Contents (Elt F)),
   StableHlo.reshape main_v6 main_v7 (rfl : (.f32 : EltTy) = .f32) shapeCasts_S8x4x1_S8x4,
   StableHlo.nullary main_cst (constant S_ .f32 0x00000000#32),
   StableHlo.binary main_v4 main_cst main_v8 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.unary main_v7 main_v9 ((extractStridedSlice S8x1 ![0, 1] · slices_S8x4_S8x1_0_1) : (⟨S8x4, .f32⟩ : BufTy).Contents (Elt F) → (⟨S8x1, .f32⟩ : BufTy).Contents (Elt F)),
   StableHlo.reshape main_v9 main_v10 (rfl : (.f32 : EltTy) = .f32) shapeCasts_S8x1_S8,
   StableHlo.nullary main_cst_0 (constant S_ .f32 0x00000000#32),
   StableHlo.binary main_v10 main_cst_0 main_v11 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
   StableHlo.unary main_v7 main_v12 ((extractStridedSlice S8x1 ![0, 2] · slices_S8x4_S8x1_0_2) : (⟨S8x4, .f32⟩ : BufTy).Contents (Elt F) → (⟨S8x1, .f32⟩ : BufTy).Contents (Elt F)),
   StableHlo.reshape main_v12 main_v13 (rfl : (.f32 : EltTy) = .f32) shapeCasts_S8x1_S8,
   StableHlo.nullary main_cst_1 (constant S_ .f32 0x00000000#32),
   StableHlo.binary main_v13 main_cst_1 main_v14 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
   StableHlo.unary main_v7 main_v15 ((extractStridedSlice S8x1 ![0, 3] · slices_S8x4_S8x1_0_3) : (⟨S8x4, .f32⟩ : BufTy).Contents (Elt F) → (⟨S8x1, .f32⟩ : BufTy).Contents (Elt F)),
   StableHlo.reshape main_v15 main_v16 (rfl : (.f32 : EltTy) = .f32) shapeCasts_S8x1_S8,
   StableHlo.nullary main_cst_2 (constant S_ .f32 0x00000000#32),
   StableHlo.binary main_v16 main_cst_2 main_v17 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
   StableHlo.nullary main_cst_3 (constant S_ .f32 0x3089705F#32),
   StableHlo.binary main_v14 main_cst_3 main_v18 (maximumf : (⟨S_, .f32⟩ : BufTy).Contents (Elt F) → (⟨S_, .f32⟩ : BufTy).Contents (Elt F) → (⟨S_, .f32⟩ : BufTy).Contents (Elt F)),
   StableHlo.binary main_v8 main_v11 main_v19 (subf : (⟨S_, .f32⟩ : BufTy).Contents (Elt F) → (⟨S_, .f32⟩ : BufTy).Contents (Elt F) → (⟨S_, .f32⟩ : BufTy).Contents (Elt F)),
   StableHlo.nullary main_cst_4 (constant S_ .f32 0x3F000000#32),
   StableHlo.binary main_cst_4 main_v19 main_v20 (mulf : (⟨S_, .f32⟩ : BufTy).Contents (Elt F) → (⟨S_, .f32⟩ : BufTy).Contents (Elt F) → (⟨S_, .f32⟩ : BufTy).Contents (Elt F)),
   StableHlo.nullary main_cst_5 (constant S_ .f32 0x40F00000#32),
   StableHlo.binary main_cst_5 main_v17 main_v21 (mulf : (⟨S_, .f32⟩ : BufTy).Contents (Elt F) → (⟨S_, .f32⟩ : BufTy).Contents (Elt F) → (⟨S_, .f32⟩ : BufTy).Contents (Elt F)),
   StableHlo.binary main_v20 main_v21 main_v22 (addf : (⟨S_, .f32⟩ : BufTy).Contents (Elt F) → (⟨S_, .f32⟩ : BufTy).Contents (Elt F) → (⟨S_, .f32⟩ : BufTy).Contents (Elt F)),
   StableHlo.binary main_v22 main_v18 main_v23 (Host.divf : (⟨S_, .f32⟩ : BufTy).Contents (Elt F) → (⟨S_, .f32⟩ : BufTy).Contents (Elt F) → (⟨S_, .f32⟩ : BufTy).Contents (Elt F))]

theorem main_eq (d : Dev nD) : main (F := F) d
    = StableHlo.seq pre >>= fun _ => (K (F := F)).run d 0 >>= fun _ =>
        Prog.lift (.customCall (SparseCore.inner (Pipeline.entry 0)) ()) >>= fun _ => StableHlo.seq post := rfl

/-- The TensorCore's unscoped references. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = held (c : Thread nD τ) ucRefs W := by
  unfold unscopedBufs StableHlo.held ucRefs StableHlo.tcRefs
  rw [Finset.filter_map, bigSep_map]
  rfl

omit [FloatOps F] in
theorem mem_uc (b : Ref sig .tc) (h : (Proc.devRef (τ := τ) .tc b).isScoped = false) : Proc.devRef .tc b ∈ ucRefs :=
  Finset.mem_filter.mpr ⟨StableHlo.devRef_mem_tcRefs b, by rw [h]; decide⟩

omit [FloatOps F] in
theorem uc_sub {s : Finset (DevRef τ sig)} (h : s ⊆ StableHlo.tcRefs τ sig) (h' : ∀ b ∈ s, b.isScoped = false) : s ⊆ ucRefs :=
  fun b hb => Finset.mem_filter.mpr ⟨h hb, by rw [h' b hb]; decide⟩

theorem pre_sub : ∀ op ∈ pre (F := F), op.bufs ⊆ ucRefs := by
  simp only [pre, List.forall_mem_cons, List.not_mem_nil, false_imp_iff, implies_true, and_true]
  refine ⟨?_, ?_, ?_, ?_⟩ <;> exact uc_sub (by simp) (by
    simp only [StableHlo.nullary_bufs, StableHlo.unary_bufs, StableHlo.binary_bufs, StableHlo.reshape_bufs]; decide)
theorem post_sub : ∀ op ∈ post (F := F), op.bufs ⊆ ucRefs := by
  simp only [post, List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_⟩ <;> exact uc_sub (by simp) (by
    simp only [StableHlo.nullary_bufs, StableHlo.unary_bufs, StableHlo.binary_bufs, StableHlo.reshape_bufs]; decide)
theorem pre_fresh : ∀ op ∈ pre (F := F), op.fresh = ∅ := by
  simp only [pre, List.forall_mem_cons, List.not_mem_nil, false_imp_iff, implies_true, and_true]
  refine ⟨?_, ?_, ?_, ?_⟩ <;> rfl
theorem post_fresh : ∀ op ∈ post (F := F), op.fresh = ∅ := by
  simp only [post, List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_⟩ <;> rfl

abbrev aLoc (d : Dev nD) : Loc nD τ sig := (SparseCore.T d).loc main_arg0
abbrev rLoc (d : Dev nD) : Loc nD τ sig := (SparseCore.T d).loc main_v23

/-- The flat logits. -/
def flat (d : Dev nD) : Vec F S5376000 .f32 := shapeCast (s := S8x8400x80) S5376000 (m (aLoc d)) shapeCasts_S8x8400x80_S5376000

def V0 (d : Dev nD) : Valuation τ sig (Elt F) := fun b => m (d, b)
def V1 (d : Dev nD) : Valuation τ sig (Elt F) := StableHlo.after pre (V0 m d)
def V2 (d : Dev nD) : Valuation τ sig (Elt F) := Function.update (V1 m d) o' (partsOf (flat m d))

/-- The waits of the TensorCore before its call are of the SparseCore call. -/
def recs (c : Dev nD) : Set (SemLoc sig × HIx 1) := {p | (K (F := F)).lev (T c, p.1) p.2 ≤ 8}

/-- What the TensorCore call leaves of its result's array. -/
def tcOut (d : Dev nD) : Buf (Elt F) ((d : Thread nD τ).loc main_v5) := tcArr (fun c b => V2 m c b) (recs (F := F)) d
def V3 (d : Dev nD) : Valuation τ sig (Elt F) := Function.update (V2 m d) p' (tcOut m d)
def V4 (d : Dev nD) : Valuation τ sig (Elt F) := StableHlo.after post (V3 m d)

theorem V1_x (d : Dev nD) : V1 m d x' = flat m d := by
  unfold V1; after_results_simp; rfl
theorem V2_x (d : Dev nD) : V2 m d x' = flat m d := (Function.update_of_ne (by decide) _ _).trans (V1_x m d)
theorem V2_o (d : Dev nD) : V2 m d o' = partsOf (flat m d) := Function.update_self _ _ _
theorem V3_p (d : Dev nD) : V3 m d p' = tcOut m d := Function.update_self _ _ _
theorem V3_o (d : Dev nD) : V3 m d o' = partsOf (flat m d) := (Function.update_of_ne (by decide) _ _).trans (V2_o m d)

/-- The host's part after the calls: from the rows of the SparseCore's sums and the TensorCore's partials. -/
def hostOut (s : Vec F S32x16 .f32) (p : Vec F S8x8x128 .f32) : Vec F S_ .f32 :=
  let q : Vec F S8x4 .f32 := shapeCast S8x4 (extractStridedSlice S8x4x1 ![0, 0, 0] p slices_S8x8x128_S8x4x1_0_0_0) shapeCasts_S8x4x1_S8x4
  let z : Vec F S_ .f32 := constant S_ .f32 0x00000000#32
  let s2 := Host.reduceAdd (shapeCast S8 (extractStridedSlice S8x1 ![0, 1] q slices_S8x4_S8x1_0_1) shapeCasts_S8x1_S8) z reducesTo_S8_S_d0 h_S_
  let sw := Host.reduceAdd (shapeCast S8 (extractStridedSlice S8x1 ![0, 2] q slices_S8x4_S8x1_0_2) shapeCasts_S8x1_S8) z reducesTo_S8_S_d0 h_S_
  let si := Host.reduceAdd (shapeCast S8 (extractStridedSlice S8x1 ![0, 3] q slices_S8x4_S8x1_0_3) shapeCasts_S8x1_S8) z reducesTo_S8_S_d0 h_S_
  Host.divf (addf (mulf (constant S_ .f32 0x3F000000#32) (subf (Host.reduceAdd s z reducesTo_S32x16_S_d0_1 h_S_) s2))
    (mulf (constant S_ .f32 0x40F00000#32) si)) (maximumf sw (constant S_ .f32 0x3089705F#32))

/-- The program's result. -/
def Rv (d : Dev nD) : Vec F S_ .f32 := hostOut (partsOf (flat m d)) (tcOut m d)

theorem V4_r (d : Dev nD) : V4 m d r' = Rv m d := by
  unfold V4; after_results_simp
  rw [show V3 m d (Proc.devRef .tc main_v4) = partsOf (flat m d) from V3_o m d, show V3 m d (Proc.devRef .tc main_v5) = tcOut m d from V3_p m d]
  rfl

theorem V4_a (d : Dev nD) (k : Fin 5) : V4 m d (a' k) = m (d, a' k) := by
  have h3 : V4 m d (a' k) = V3 m d (a' k) := by
    unfold V4; fin_cases k <;> (dsimp [a']; after_results_simp)
  have h1 : V1 m d (a' k) = V0 m d (a' k) := by
    unfold V1; fin_cases k <;> (dsimp [a']; after_results_simp)
  have h2 : V3 m d (a' k) = V1 m d (a' k) :=
    (Function.update_of_ne ((by decide : ∀ k, a' k ≠ p') k) _ _).trans (Function.update_of_ne ((by decide : ∀ k, a' k ≠ o') k) _ _)
  exact h3.trans (h2.trans h1)

/-! ## What the tasks are given and give back -/

/-- The number of the task on SparseCore `c`, subcore `i`. -/
def wI (c : Fin 2) (i : Fin 16) : Fin 32 := ⟨2 * i.val + c.val, by omega⟩
abbrev goAt (d : Dev nD) (f : Buf (Elt F) (oLoc d)) (w : Fin 32) : sProp 𝕄 :=
  iprop((xLoc d ↦{Transfers.shareTok fullShare 32 w} flat m d) ∗ oRowPts d w f)

def P : (K (F := F)).Pay (nD := nD) (Val := Elt F) (Name := ℕ) (U := UU) where
  st := fun q d c => match q with | 0 => bigSep Finset.univ fun i : Fin 16 => goAt m d (V1 m d o') (wI (Fin.cast nCore_zero c) i)
  dn := fun q d c => match q with | 0 => bigSep Finset.univ fun i : Fin 16 => goAt m d (partsOf (flat m d)) (wI (Fin.cast nCore_zero c) i)
  go := fun q d c i => match q with | 0 => goAt m d (V1 m d o') (wI (Fin.cast nCore_zero c) (Fin.cast nSub_zero i))
  td := fun q d c i => match q with | 0 => goAt m d (partsOf (flat m d)) (wI (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goAt m d (V1 m d o') (wI (Fin.cast nCore_zero c) i)))
  dn q d c := match q with
    | 0 => (inferInstance : BI.Storable (upEmb : UEmb _ 𝕄) (bigSep Finset.univ fun i : Fin 16 => goAt m d (partsOf (flat m d)) (wI (Fin.cast nCore_zero c) i)))
  go q d c i := match q with
    | 0 => (inferInstance : BI.Storable (upEmb : UEmb _ 𝕄) (goAt m d (V1 m d o') (wI (Fin.cast nCore_zero c) (Fin.cast nSub_zero i))))
  td q d c i := match q with
    | 0 => (inferInstance : BI.Storable (upEmb : UEmb _ 𝕄) (goAt m d (partsOf (flat m d)) (wI (Fin.cast nCore_zero c) (Fin.cast nSub_zero i))))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__softplus_sum (coordsV c s)
          xV (Memref.isWhole_whole _) oV (Memref.isWhole_whole _) sB (Memref.isWhole_whole _) sA (Memref.isWhole_whole _)
          cc0_scoped0 cc0_scoped1 cc0_scoped2 cc0_scoped3 cc0_scoped4 cc0_scoped5 cc0_scoped6) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (Transfers.shareTok fullShare 32 (wI c i)) (flat m d) (V1 m d o') O W hO

/-! ## The rows and the shares split and join -/

omit [FloatOps F] in
theorem rowSet_eq (w : Fin 32) : rowSet w = (row w).set := by
  show ((View.whole (main_v4_scv : Ref sig .scVector)).slice (row w)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
omit [FloatOps F] in
theorem rows_cover : (Finset.univ : Finset (Fin 32)).biUnion rowSet = Finset.univ :=
  (Finset.biUnion_congr rfl fun i _ => rowSet_eq i).trans (Rect.biUnion_part hdiv)
omit [FloatOps F] in
theorem oPts_rows (d : Dev nD) (f : Buf (Elt F) (oLoc d)) :
    (oLoc d ↦{fullShare} f : sProp 𝕄) = bigSep Finset.univ fun w : Fin 32 => oRowPts d w f := by
  rw [← pointsTo_biUnion Finset.univ (ℓ := oLoc d) rowSet rows_disjoint, rows_cover]; try rfl

omit [FloatOps F] in
theorem bigSep_tasks (Φ : Fin 32 → sProp 𝕄) :
    bigSep Finset.univ Φ = bigSep Finset.univ fun c : Fin 2 => bigSep Finset.univ fun i : Fin 16 => Φ (wI c i) := by
  rw [bigSep_univ_equiv ((Equiv.prodComm (Fin 2) (Fin 16)).trans (finProdFinEquiv : Fin 16 × Fin 2 ≃ Fin 32)), bigSep_univ_prod]
  refine bigSep_congr fun c _ => bigSep_congr fun i _ => congrArg Φ (Fin.ext ?_)
  show c.val + 2 * i.val = 2 * i.val + c.val
  omega

/-- All tasks' inputs: the read shares of the logits and the output whole. -/
theorem tasks_eq (d : Dev nD) (f : Buf (Elt F) (oLoc d)) :
    (bigSep Finset.univ fun c : Fin 2 => bigSep Finset.univ fun i : Fin 16 => goAt m d f (wI c i))
      = (iprop((bigSep Finset.univ fun w : Fin 32 => xLoc d ↦{Transfers.shareTok fullShare 32 w} flat m d) ∗ oLoc d ↦{fullShare} f) : sProp 𝕄) := by
  rw [← bigSep_tasks (fun w => goAt m d f w), bigSep_sep', oPts_rows]

theorem vecSplit : (K (F := F)).VecSplit' (P m) 0 := by
  intro d c
  show (bigSep Finset.univ fun i : Fin 16 => goAt m d (V1 m d o') (wI (Fin.cast nCore_zero c) i)) ⊢ |={Set.univ}=> iprop(
      (bigSep Finset.univ fun i : Fin 16 => goAt m d (V1 m d o') (wI (Fin.cast nCore_zero c) i))
      ∗ ((bigSep Finset.univ fun i : Fin 16 => goAt m d (partsOf (flat m d)) (wI (Fin.cast nCore_zero c) i))
          -∗ bigSep Finset.univ fun i : Fin 16 => goAt m d (partsOf (flat m d)) (wI (Fin.cast nCore_zero c) i)))
  iintro H; imodintro
  isplitl [H]; · iexact H
  iintro H; iexact H

theorem st0_eq (d : Dev nD) :
    (bigSep Finset.univ fun c : Fin ((K (F := F)).nCore 0) => (P m).st 0 d c)
      = iprop((bigSep Finset.univ fun w : Fin 32 => xLoc d ↦{Transfers.shareTok fullShare 32 w} flat m d) ∗ oLoc d ↦{fullShare} V1 m d o') :=
  tasks_eq m d (V1 m d o')
theorem dn0_eq (d : Dev nD) :
    (bigSep Finset.univ fun c : Fin ((K (F := F)).nCore 0) => (P m).dn 0 d c)
      = iprop((bigSep Finset.univ fun w : Fin 32 => xLoc d ↦{Transfers.shareTok fullShare 32 w} flat m d) ∗ oLoc d ↦{fullShare} partsOf (flat m d)) :=
  tasks_eq m d (partsOf (flat m d))

/-! ## The launch element: the handshakes' rounds and the staging cells' -/

abbrev pinned : (p : Fin 1) → Pipeline.Cfg sig Λ₀ := Pipeline.pin (pcfgs (F := F)) adm
theorem pinned_inj : Function.Injective (Pipeline.cellOf (nD := nD) (τ := τ) (pinned (F := F))) := cellOf_inj

abbrev EP : Emb (UR sig nD τ) 𝕄 := (Emb.inl : Emb (UR sig nD τ) (UR sig nD τ × Counters)).trans embR
instance : (EP (F := F)).LandsIn (upEmb : UEmb _ 𝕄) := by unfold EP embR; infer_instance

def u₀ : UU := (initOf (K (F := F)).hsCells (K (F := F)).hsToks,
  (initOf (Pipeline.cells (pinned (F := F)) pinned_inj) (Pipeline.launchToks (pinned (F := F)) pinned_inj), 1))

/-- The staging cells' ghost state of the TensorCore of `d`. -/
def G (d : Dev nD) : sProp 𝕄 :=
  iprop(Pipeline.cellsGhost (pinned (F := F)) EP 0 d ∗ Pipeline.toksInit (pinned (F := F)) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (Pipeline.fund_ghost (pinned (F := F)) EP pinned_inj) $$ HP with ⟨Hc, Ht⟩
  imodintro
  isplitl [HH]; · iexact HH
  isplitl [Hc Ht]
  · unfold G
    rw [bigSep_sep']
    simp only [bigSep_univ_of_subsingleton (0 : Fin 1)]
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## `main` -/

omit [FloatOps F] in
theorem held_pair (d : Dev nD) (W : Valuation τ sig (Elt F)) :
    (held (T d) {x', o'} W : sProp 𝕄) = iprop((xLoc d ↦{fullShare} W x') ∗ (oLoc d ↦{fullShare} W o')) := by
  unfold held
  rw [SparseCore.bigSep_insert' (by decide), bigSep_singleton]

omit [FloatOps F] in
theorem pair_sub : ({x', o'} : Finset (DevRef τ sig)) ⊆ ucRefs := uc_sub (by decide) (by decide)

/-- Every unscoped buffer before the SparseCore call, and after it. -/
theorem held_V1 (d : Dev nD) :
    (held (T d) ucRefs (V1 m d) : sProp 𝕄)
      = iprop(((xLoc d ↦{fullShare} flat m d) ∗ (oLoc d ↦{fullShare} V1 m d o')) ∗ held (T d) (ucRefs \ {x', o'}) (V1 m d)) := by
  rw [StableHlo.held_sub_split (T d) pair_sub, held_pair, V1_x]
theorem held_V2 (d : Dev nD) :
    (held (T d) ucRefs (V2 m d) : sProp 𝕄)
      = iprop(((xLoc d ↦{fullShare} flat m d) ∗ (oLoc d ↦{fullShare} partsOf (flat m d))) ∗ held (T d) (ucRefs \ {x', o'}) (V1 m d)) := by
  rw [StableHlo.held_sub_split (T d) pair_sub, held_pair, V2_x, V2_o]
  rw [StableHlo.held_congr (T d) (V := V2 m d) (V' := V1 m d) fun b hb => Function.update_of_ne (fun h => by
    subst h; exact (Finset.mem_sdiff.mp hb).2 (by decide)) _ _]

/-- The result and the arguments. -/
abbrev fins : Finset (DevRef τ sig) := {r', a' 0, a' 1, a' 2, a' 3, a' 4}
omit [FloatOps F] in
theorem fins_sub : fins ⊆ ucRefs := uc_sub (by decide) (by decide)

abbrev FIN (d : Dev nD) : sProp 𝕄 := held (T d) fins (V4 m d)

omit [FloatOps F] in
theorem held_fins (d : Dev nD) (W : Valuation τ sig (Elt F)) :
    (held (T d) fins W : sProp 𝕄)
      = iprop((rLoc d ↦{fullShare} W r') ∗ (((d, a' 0) : Loc nD τ sig) ↦{fullShare} W (a' 0)) ∗ (((d, a' 1) : Loc nD τ sig) ↦{fullShare} W (a' 1))
          ∗ (((d, a' 2) : Loc nD τ sig) ↦{fullShare} W (a' 2)) ∗ (((d, a' 3) : Loc nD τ sig) ↦{fullShare} W (a' 3)) ∗ ((d, a' 4) : Loc nD τ sig) ↦{fullShare} W (a' 4)) := by
  unfold held fins
  rw [SparseCore.bigSep_insert' (by decide), SparseCore.bigSep_insert' (by decide), SparseCore.bigSep_insert' (by decide),
    SparseCore.bigSep_insert' (by decide), SparseCore.bigSep_insert' (by decide), bigSep_singleton]

/-- The TensorCore's state after the SparseCore call: it owes nothing more. -/
def stRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) :
    ((K (F := F)).tcSt EH d 1 : sProp 𝕄)
      = iprop((∃ Z : Waits sig (HIx 1), ⌜∀ p ∈ Z, p ∈ recs (F := F) d⌝ ∗ owes (d : Thread nD τ) (0 : CellTallies nD τ sig (HIx 1)) Z) ∗ stRest d) := by
  unfold SparseCore.Cfg.tcSt stRest
  rw [show (K (F := F)).Otc d 1 = (0 : CellTallies nD τ sig (HIx 1)) from by unfold SparseCore.Cfg.Otc; simp]
  rfl

/-- The region's level facts hold of the waits its loop adds. -/
theorem recs_waits (d : Dev nD) (p : SemLoc sig × HIx 1) (h : p ∈ recs (F := F) d ∪ cfg1.waitPairs none) : p ∈ recs (F := F) d := by
  rcases h with h | ⟨w, s, rfl⟩
  · exact h
  · show (K (F := F)).lev _ none ≤ 8
    rw [SparseCore.Cfg.lev_none]; omega

theorem region_wp (κ : GSem nD τ sig → ℕ) (d : Dev nD) (k : PUnit → Prog (TpuEff nD τ sig (Elt F) (SparseCore.Sig (ΛP (F := F)) 1) .tc) PUnit) (Q : PUnit → sProp 𝕄) :
    iprop((iprop(boundary (d : Thread nD τ) ∗ held (T d) ucRefs (V3 m d) ∗ (K (F := F)).tcSt EH d 1) -∗ wp frame (wpE ((K (F := F)).defs (D (F := F))) 𝒱 (T d) none) Set.univ (k ⟨⟩) Q)
      ∗ boundary (d : Thread nD τ) ∗ held (T d) ucRefs (V2 m d) ∗ (K (F := F)).tcSt EH d 1 ∗ levAts (K (F := F)).L (K (F := F)).lev ∗ G d)
    ⊢ wp frame (wpE ((K (F := F)).defs (D (F := F))) 𝒱 (T d) none) Set.univ
        (Prog.lift (.customCall (SparseCore.inner (Pipeline.entry 0)) ()) >>= k) Q := by
  rw [wp_bind, show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) from rfl]
  have hr := Pipeline.RegionSeg.wp (pcfgs (F := F)) adm (pdats (fun c b => V2 m c b) (recs (F := F))) (none : HIx 1) pinned_inj EP
    defs₀ 𝒱₀ (Lc (F := F)) (lvc (F := F))
    (reg (fun c b => V2 m c b) (recs (F := F)) (fun c b => V3 m c b) (fun d => stRest d)
      (fun c => V3_p m c) (fun c b hb => Function.update_of_ne (StableHlo.devRef_ne_of_ne hb) _ _)) d none (fun _ h => nomatch h)
    (fun u => .ret u) (fun u => wp frame (wpE ((K (F := F)).defs (D (F := F))) 𝒱 (T d) none) Set.univ (k u) Q)
  have hB : (iprop((iprop(boundary (d : Thread nD τ) ∗ held (d : Thread nD τ) ucRefs (V3 m d) ∗ stRest d
            ∗ ∃ Z : Waits sig (HIx 1), ⌜∀ p ∈ Z, p ∈ recs (F := F) d ∪ cfg1.waitPairs none⌝ ∗ owes (d : Thread nD τ) (0 : CellTallies nD τ sig (HIx 1)) Z)
          -∗ wp frame (wpE (D (F := F)) 𝒱 (T d) none) Set.univ (.ret ⟨⟩) (fun u => wp frame (wpE ((K (F := F)).defs (D (F := F))) 𝒱 (T d) none) Set.univ (k u) Q))
        ∗ boundary (d : Thread nD τ) ∗ (held (d : Thread nD τ) ucRefs (V2 m d) ∗ stRest d
            ∗ ∃ Z : Waits sig (HIx 1), ⌜∀ p ∈ Z, p ∈ recs (F := F) d⌝ ∗ owes (d : Thread nD τ) (0 : CellTallies nD τ sig (HIx 1)) Z)
        ∗ levAts (K (F := F)).L (K (F := F)).lev ∗ Pipeline.cellsGhost (pinned (F := F)) EP 0 d ∗ Pipeline.toksInit (pinned (F := F)) EP 0 d) : sProp 𝕄)
      ⊢ wp frame (wpE (D (F := F)) 𝒱 (T d) none) Set.univ (.op (.customCall (Pipeline.entry 0) ()) .ret)
          (fun u => wp frame (wpE ((K (F := F)).defs (D (F := F))) 𝒱 (T d) none) Set.univ (k u) Q) := by
    rw [← unscopedBufs_held, ← unscopedBufs_held]
    exact hr
  rw [tcSt_one]
  unfold G
  iintro ⟨Hk, Hb, Hh, ⟨HO, HS⟩, HL, Hc, Ht⟩
  iapply ((K (F := F)).wp_liftProg (D (F := F)) 𝒱 (T d) Set.univ none (.op (.customCall (Pipeline.entry 0) ()) .ret) _)
  iapply hB
  isplitl [Hk]
  · iintro ⟨Hb, Hh, HS, ⟨%Z, %hZ, HO⟩⟩
    rw [wp_ret]; imodintro
    iapply Hk
    isplitl [Hb]; · iexact Hb
    isplitl [Hh]; · iexact Hh
    isplitl [HO]
    · iexists Z; isplitr; · ipureintro; exact fun p hp => recs_waits d p (hZ p hp)
      iexact HO
    iexact HS
  isplitl [Hb]; · iexact Hb
  isplitl [Hh HS HO]
  · isplitl [Hh]; · iexact Hh
    isplitl [HS]; · iexact HS
    iexact HO
  isplitl [HL]; · iexact HL
  isplitl [Hc] <;> iassumption

theorem hmain (ρ : Dev nD → PrngReg) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) ucRefs (V0 m d) from unscopedBufs_held d (V0 m d), main_eq]
  iintro ⟨#Hctx, Hst, ⟨Hb, Hheld, Hts, -⟩, HG⟩
  iapply (StableHlo.wp_seq 𝒱 none Set.univ d ucRefs _ pre pre_sub pre_fresh (V0 m d)) $$ [Hb Hheld]
  · isplitl [Hb] <;> iassumption
  iintro ⟨Hb, Hheld⟩
  ihave Hh := (show (held (d : Thread nD τ) ucRefs (StableHlo.after pre (V0 m d)) : sProp 𝕄) ⊢ _ from Entails.of_eq (held_V1 (F := F) m d)) $$ Hheld
  icases Hh with ⟨⟨Hx, Ho⟩, Hrest⟩
  ihave Hx2 := (Transfers.pointsTo_toks_split fullShare 32) $$ Hx
  icases Hx2 with ⟨Hx0, Hxs⟩
  rw [wp_bind]
  iapply ((K (F := F)).wp_run (D (F := F)) 𝒱 (EH := EH) (P := P m) κ d 0) $$ [Hst Hx0 Hxs Ho Hb Hrest Hts HG]
  isplitr; · iexact Hctx
  isplitl [Hst]; · iexact Hst
  isplitl [Hxs Ho]
  · rw [st0_eq]
    isplitl [Hxs]; · iexact Hxs
    iexact Ho
  iintro ⟨Hst, Hdn⟩
  ihave Hdn' := (Entails.of_eq (dn0_eq m d)) $$ Hdn
  icases Hdn' with ⟨Hxs, Ho⟩
  ihave Hx := (Transfers.pointsTo_toks_join fullShare 32) $$ [Hx0 Hxs]
  · isplitl [Hx0] <;> iassumption
  ihave HL := ((K (F := F)).ctx_levAts (EH := EH) (P := P m) κ) $$ Hctx
  iapply (region_wp m κ d)
  isplitr [Hb Hx Ho Hrest Hst HL HG]
  swap
  · isplitl [Hb]; · iexact Hb
    isplitl [Hx Ho Hrest]
    · rw [held_V2]
      isplitl [Hx Ho]
      · isplitl [Hx] <;> iassumption
      iexact Hrest
    isplitl [Hst]; · iexact Hst
    isplitl [HL] <;> iassumption
  iintro ⟨Hb, Hheld, Hst⟩
  rw [← bind_pure (StableHlo.seq (post (F := F)))]
  iapply (StableHlo.wp_seq 𝒱 none Set.univ d ucRefs _ post post_sub post_fresh (V3 m d)) $$ [Hb Hheld]
  · isplitl [Hb] <;> iassumption
  iintro ⟨Hb, Hheld⟩
  rw [wp_pure]; imodintro
  isplitl [Hst]; · iexact Hst
  isplitl [Hheld]
  · ihave Hh := (show (held (d : Thread nD τ) ucRefs (StableHlo.after post (V3 m d)) : sProp 𝕄) ⊢ _ from
      Entails.of_eq (StableHlo.held_sub_split (T d) fins_sub (V4 m d))) $$ Hheld
    icases Hh with ⟨Hh, -⟩
    iexact Hh
  isplitl [Hb] <;> iassumption

def fq (d : Dev nD) (s' : Phys nD τ sig (Elt F)) : Prop :=
  s'.mem.mem (rLoc d) = Rv m d ∧ ∀ k, s'.mem.mem (d, a' k) = m (d, a' k)

theorem read_one (s' : Phys nD τ sig (Elt F)) (ℓ : Loc nD τ sig) (f : Buf (Elt F) ℓ) (R : sProp 𝕄) :
    iprop(((ℓ ↦{fullShare} f) ∗ R) ∗ SI s') ⊢ (iprop(⌜s'.mem.mem ℓ = f⌝ ∗ (R ∗ SI s')) : sProp 𝕄) := by
  iintro ⟨⟨Ha, HR⟩, HSI⟩
  ihave H := (persistent_entails_right (SI_pointsTo_agree (st := s') (ℓ := ℓ) (I := Finset.univ) (q := fullShare) (f := f))) $$ [HSI Ha]
  · isplitl [HSI] <;> iassumption
  icases H with ⟨%ha, HSI, -⟩
  isplitr; · ipureintro; exact funext fun i => ha i (Finset.mem_univ i)
  isplitl [HR] <;> iassumption

theorem hfin (d : Dev nD) (s' : Phys nD τ sig (Elt F)) : iprop(FIN m d ∗ SI s') ⊢ (⌜fq m d s'⌝ : sProp 𝕄) := by
  unfold FIN
  rw [held_fins, V4_r, V4_a, V4_a, V4_a, V4_a, V4_a]
  iintro H
  ihave H := (read_one s' _ _ _) $$ H
  icases H with ⟨%hr, H⟩
  ihave H := (read_one s' _ _ _) $$ H
  icases H with ⟨%h0, H⟩
  ihave H := (read_one s' _ _ _) $$ H
  icases H with ⟨%h1, H⟩
  ihave H := (read_one s' _ _ _) $$ H
  icases H with ⟨%h2, H⟩
  ihave H := (read_one s' _ _ _) $$ H
  icases H with ⟨%h3, ⟨Ha, HSI⟩⟩
  ihave H := (SI_pointsTo_agree (st := s') (ℓ := (d, a' 4)) (I := Finset.univ) (q := fullShare) (f := m (d, a' 4))) $$ [HSI Ha]
  · isplitl [HSI] <;> iassumption
  icases H with %h4
  ipureintro
  refine ⟨hr, fun k => ?_⟩
  fin_cases k
  · exact h0
  · exact h1
  · exact h2
  · exact h3
  · exact funext fun i => h4 i (Finset.mem_univ i)

/-! ## The program's run -/

def QC : PUnit × MemSt nD τ sig (Elt F) → Prop :=
  fun r => (∀ c : Dev nD, r.2.mem (rLoc c) = Rv m c ∧ ∀ k, r.2.mem (c, a' k) = m (c, a' k)) ∧ r.2.sem = fun _ => 0

/-- From any memory the program ends with its arguments kept, its result the host's combination of what the two
    calls leave, and every semaphore at zero. -/
theorem run_main [∀ e, Nonempty (Elt F e)] (ρ : Dev nD → PrngReg) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.Proof.ScKI

end
-- ==== Proof.Reals.lean ====
/-
  The loss over the reals: one anchor's and one target's box regression term, the fit that stands for arctan by powers
  and by Horner's rule, and the operations of the extended reals at real arguments.
-/
module

public import Idealize.ShloMosaic.Lib.Pointwise
public import Idealize.ShloMosaic.Lib.IdealHost

@[expose] public section

noncomputable section

namespace Cert.Proof.Loss

open Idealize.ShloMosaic

/-! ## Words that are real numbers -/

/-- The real number that a float's word denotes. -/
def K (b : BitVec 32) : ℝ := (Ideal.ofBits .f32 b).toReal

theorem ofBits_K (b : BitVec 32) (h : (b.extractLsb' 23 8).toNat ≠ 255) : Ideal.ofBits .f32 b = (K b : EReal) := by
  have : ∃ r : ℝ, Ideal.ofBits .f32 b = (r : EReal) := by
    unfold Ideal.ofBits Ideal.ieee
    simp only
    rw [if_neg (by simpa using h)]
    split_ifs <;> exact ⟨_, rfl⟩
  obtain ⟨r, hr⟩ := this
  rw [K, hr, EReal.toReal_coe]

/-- A normal word's value, from its exponent and significand. -/
theorem K_normal (b : BitVec 32) (s : Bool) (ex fr : ℕ) (hs : (b.extractLsb' 31 1 == 1#1) = s) (he : (b.extractLsb' 23 8).toNat = ex)
    (hf : (b.extractLsb' 0 23).toNat = fr) (h0 : ex ≠ 0) (h1 : ex ≠ 255) :
    K b = (if s then -1 else 1) * ((2 ^ 23 + fr : ℕ) : ℝ) * (2 : ℝ) ^ ((ex : ℤ) - 127 - 23) := by
  have : Ideal.ofBits .f32 b = (((if s then -1 else 1) * ((2 ^ 23 + fr : ℕ) : ℝ) * (2 : ℝ) ^ ((ex : ℤ) - 127 - 23) : ℝ) : EReal) := by
    unfold Ideal.ofBits Ideal.ieee
    simp only
    rw [he, if_neg (by simpa using h1), if_neg h0, hs, hf]
    norm_num
  rw [K, this, EReal.toReal_coe]

theorem K_pos (b : BitVec 32) (ex fr : ℕ) (hs : (b.extractLsb' 31 1 == 1#1) = false) (he : (b.extractLsb' 23 8).toNat = ex)
    (hf : (b.extractLsb' 0 23).toNat = fr) (h0 : ex ≠ 0) (h1 : ex ≠ 255) : 0 < K b := by
  rw [K_normal b false ex fr hs he hf h0 h1]
  simp only [Bool.false_eq_true, if_false, one_mul]
  positivity

theorem eps_pos : 0 < K 0x3089705F#32 := K_pos _ 97 618591 (by decide) (by decide) (by decide) (by decide) (by decide)
theorem tiny_pos : 0 < K 0x0DA24260#32 := K_pos _ 27 2245216 (by decide) (by decide) (by decide) (by decide) (by decide)
theorem coef_pos : 0 < K 0x3ECF817B#32 := K_pos _ 125 5210491 (by decide) (by decide) (by decide) (by decide) (by decide)
theorem K_half : K 0x3F000000#32 = 1 / 2 := by
  rw [K_normal _ false 126 0 (by decide) (by decide) (by decide) (by decide) (by decide)]; norm_num [zpow_neg]
theorem K_one : K 0x3F800000#32 = 1 := by
  rw [K_normal _ false 127 0 (by decide) (by decide) (by decide) (by decide) (by decide)]; norm_num [zpow_neg]
theorem K_two : K 0x40000000#32 = 2 := by
  rw [K_normal _ false 128 0 (by decide) (by decide) (by decide) (by decide) (by decide)]; norm_num [zpow_neg]
theorem K_six : K 0x40C00000#32 = 6 := by
  rw [K_normal _ false 129 4194304 (by decide) (by decide) (by decide) (by decide) (by decide)]; norm_num [zpow_neg]
theorem K_negone : K 0xBF800000#32 = -1 := by
  rw [K_normal _ true 127 0 (by decide) (by decide) (by decide) (by decide) (by decide)]; norm_num [zpow_neg]
theorem K_zero : K 0x00000000#32 = 0 := by
  rw [K, Ideal.ofBits_zero_f32]; rfl
theorem ofBits_bot : Ideal.ofBits .f32 0xFF800000#32 = ⊥ := by
  unfold Ideal.ofBits Ideal.ieee
  simp only
  rw [if_pos (by decide), if_pos (by decide), if_pos (by decide)]
theorem ofBits_top : Ideal.ofBits .f32 0x7F800000#32 = ⊤ := by
  unfold Ideal.ofBits Ideal.ieee
  simp only
  rw [if_pos (by decide), if_pos (by decide), if_neg (by decide)]

/-! ## Operations at real arguments -/

theorem div_real {y : ℝ} (h : y ≠ 0) (x : ℝ) : Ideal.div (x : EReal) (y : EReal) = ((x / y : ℝ) : EReal) := by
  rw [Ideal.div_coe h, ← EReal.coe_mul, mul_one_div]

theorem max_real (x y : ℝ) : max (x : EReal) (y : EReal) = ((max x y : ℝ) : EReal) := (EReal.coe_strictMono.monotone.map_max).symm
theorem min_real (x y : ℝ) : min (x : EReal) (y : EReal) = ((min x y : ℝ) : EReal) := (EReal.coe_strictMono.monotone.map_min).symm
theorem exp_real (x : ℝ) : Ideal.exp (x : EReal) = (Real.exp x : EReal) := rfl
theorem add_real (x y : ℝ) : (x : EReal) + (y : EReal) = ((x + y : ℝ) : EReal) := (EReal.coe_add x y).symm
theorem sub_real (x y : ℝ) : (x : EReal) - (y : EReal) = ((x - y : ℝ) : EReal) := (EReal.coe_sub x y).symm
theorem mul_real (x y : ℝ) : (x : EReal) * (y : EReal) = ((x * y : ℝ) : EReal) := (EReal.coe_mul x y).symm
theorem neg_real (x : ℝ) : -(x : EReal) = ((-x : ℝ) : EReal) := (EReal.coe_neg x).symm
theorem sum_real {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- The comparison's bit is set exactly when the comparison holds. -/
theorem select_bool {α : Type} (p : Bool) (a b : α) : Scalar.select (BitVec.ofBool p) a b = if p then a else b := by
  cases p <;> rfl

theorem select_olt {α : Type} (x y : ℝ) (a b : α) : Scalar.select (Ideal.cmp .olt (x : EReal) (y : EReal)) a b = if x < y then a else b := by
  unfold Ideal.cmp; simp only [select_bool, decide_eq_true_eq, EReal.coe_lt_coe_iff]
theorem select_ole {α : Type} (x y : ℝ) (a b : α) : Scalar.select (Ideal.cmp .ole (x : EReal) (y : EReal)) a b = if x ≤ y then a else b := by
  unfold Ideal.cmp; simp only [select_bool, decide_eq_true_eq, EReal.coe_le_coe_iff]
theorem select_oge {α : Type} (x y : ℝ) (a b : α) : Scalar.select (Ideal.cmp .oge (x : EReal) (y : EReal)) a b = if y ≤ x then a else b := by
  unfold Ideal.cmp; simp only [select_bool, decide_eq_true_eq, EReal.coe_le_coe_iff]
theorem select_oeq {α : Type} (x y : ℝ) (a b : α) : Scalar.select (Ideal.cmp .oeq (x : EReal) (y : EReal)) a b = if x = y then a else b := by
  unfold Ideal.cmp; simp only [select_bool, decide_eq_true_eq, EReal.coe_eq_coe_iff]

theorem ite_real (p : Prop) [Decidable p] (x y : ℝ) : (if p then (x : EReal) else (y : EReal)) = ((if p then x else y : ℝ) : EReal) := by
  split_ifs <;> rfl

/-- The greatest of finitely many reals, folded from minus infinity. -/
theorem fold_max_real {n : ℕ} [NeZero n] (f : Fin n → ℝ) :
    Finset.univ.fold max (⊥ : EReal) (fun k => (f k : EReal)) = ((⨆ k, f k : ℝ) : EReal) := by
  have e : Finset.univ.fold max (⊥ : EReal) (fun k => (f k : EReal)) = Finset.univ.sup fun k => (f k : EReal) := rfl
  rw [e]
  refine le_antisymm (Finset.sup_le fun k _ => EReal.coe_le_coe_iff.mpr (le_ciSup (Set.finite_range f).bddAbove k)) ?_
  obtain ⟨k, hk⟩ := exists_eq_ciSup_of_finite (f := f)
  rw [← hk]
  exact Finset.le_sup (f := fun k => (f k : EReal)) (Finset.mem_univ k)

/-! ## The fit that stands for arctan -/

/-- The fit at `r` in [0, 1] by Horner's rule. -/
def fit (r : ℝ) : ℝ :=
  r * (((((((K 0xBB84D7E7#32 * (r * r) + K 0x3CB31652#32) * (r * r) + K 0xBD6501C4#32) * (r * r) + K 0x3DC577DF#32) * (r * r)
    + K 0xBE0E6C63#32) * (r * r) + K 0x3E4C40A6#32) * (r * r) + K 0xBEAAA61C#32) * (r * r) + K 0x3F7FFFF5#32)

/-- Its argument: `z`, or `1 / z` beyond 1. -/
def arg (z : ℝ) : ℝ := if z ≤ 1 then z else 1 / z

def atan (z : ℝ) : ℝ := if z ≤ 1 then fit (arg z) else K 0x3FC90FDB#32 - fit (arg z)

/-! ## The complete overlap of two boxes -/

/-- The part of the overlap that both boxes share, the area of the boxes' union, and their quotient. -/
def inter (a b : Fin 4 → ℝ) : ℝ := max (min (a 2) (b 2) - max (a 0) (b 0)) 0 * max (min (a 3) (b 3) - max (a 1) (b 1)) 0
def area (a : Fin 4 → ℝ) : ℝ := (a 2 - a 0) * (a 3 - a 1)
def iou (a b : Fin 4 → ℝ) : ℝ := inter a b / (area a + area b - inter a b + K 0x3089705F#32)
/-- The squared distance of the boxes' centres, and the squared diagonal of the box around both. -/
def cent (a b : Fin 4 → ℝ) : ℝ := ((a 2 + a 0) / 2 - (b 2 + b 0) / 2) ^ 2 + ((a 3 + a 1) / 2 - (b 3 + b 1) / 2) ^ 2
def diag (a b : Fin 4 → ℝ) : ℝ :=
  (max (a 2) (b 2) - min (a 0) (b 0)) ^ 2 + (max (a 3) (b 3) - min (a 1) (b 1)) ^ 2 + K 0x3089705F#32
/-- How far the boxes' aspects differ. -/
def slope (a : Fin 4 → ℝ) : ℝ := (a 2 - a 0) / (a 3 - a 1 + K 0x3089705F#32)
def asp (a b : Fin 4 → ℝ) : ℝ := K 0x3ECF817B#32 * (atan (slope a) - atan (slope b)) ^ 2
def ciou (a b : Fin 4 → ℝ) : ℝ :=
  iou a b - cent a b / diag a b - asp a b / (asp a b - iou a b + 1 + K 0x3089705F#32) * asp a b

/-- The corners are in order. -/
def Ordered (a : Fin 4 → ℝ) : Prop := a 0 ≤ a 2 ∧ a 1 ≤ a 3

theorem inter_nonneg (a b : Fin 4 → ℝ) : 0 ≤ inter a b := mul_nonneg (le_max_right _ _) (le_max_right _ _)

theorem inter_le_left {a b : Fin 4 → ℝ} (ha : Ordered a) : inter a b ≤ area a := by
  refine mul_le_mul ?_ ?_ (le_max_right _ _) (by linarith [ha.1])
  · exact max_le (sub_le_sub (min_le_left _ _) (le_max_left _ _)) (by linarith [ha.1])
  · exact max_le (sub_le_sub (min_le_left _ _) (le_max_left _ _)) (by linarith [ha.2])

theorem inter_le_right {a b : Fin 4 → ℝ} (hb : Ordered b) : inter a b ≤ area b := by
  refine mul_le_mul ?_ ?_ (le_max_right _ _) (by linarith [hb.1])
  · exact max_le (sub_le_sub (min_le_right _ _) (le_max_right _ _)) (by linarith [hb.1])
  · exact max_le (sub_le_sub (min_le_right _ _) (le_max_right _ _)) (by linarith [hb.2])

theorem union_pos {a b : Fin 4 → ℝ} (ha : Ordered a) (hb : Ordered b) : 0 < area a + area b - inter a b + K 0x3089705F#32 := by
  linarith [inter_le_left (b := b) ha, inter_le_right (a := a) hb, eps_pos, inter_nonneg a b]

theorem iou_lt_one {a b : Fin 4 → ℝ} (ha : Ordered a) (hb : Ordered b) : iou a b < 1 := by
  rw [iou, div_lt_one (union_pos ha hb)]
  linarith [inter_le_left (b := b) ha, inter_le_right (a := a) hb, eps_pos]

theorem diag_pos (a b : Fin 4 → ℝ) : 0 < diag a b := by
  unfold diag; have := eps_pos; positivity

theorem slope_pos {a : Fin 4 → ℝ} (ha : Ordered a) : 0 < a 3 - a 1 + K 0x3089705F#32 := by linarith [ha.2, eps_pos]

theorem asp_nonneg (a b : Fin 4 → ℝ) : 0 ≤ asp a b := mul_nonneg coef_pos.le (sq_nonneg _)

theorem alpha_pos {a b : Fin 4 → ℝ} (ha : Ordered a) (hb : Ordered b) : 0 < asp a b - iou a b + 1 + K 0x3089705F#32 := by
  linarith [asp_nonneg a b, iou_lt_one ha hb, eps_pos]

theorem ciou_le_one {a b : Fin 4 → ℝ} (ha : Ordered a) (hb : Ordered b) : ciou a b ≤ 1 := by
  have h1 := iou_lt_one ha hb
  have h2 : 0 ≤ cent a b / diag a b := div_nonneg (by unfold cent; positivity) (diag_pos a b).le
  have h3 : 0 ≤ asp a b / (asp a b - iou a b + 1 + K 0x3089705F#32) * asp a b :=
    mul_nonneg (div_nonneg (asp_nonneg a b) (alpha_pos ha hb).le) (asp_nonneg a b)
  unfold ciou; linarith

end Cert.Proof.Loss

end
-- ==== Proof.Edges.lean ====
/-
  Pairs of boxes over the extended reals, each in order or finite: unless both are finite and in order, their overlap is 0.
-/
module

public import proofs.«01_k».proof.Proof.Reals

@[expose] public section

noncomputable section

namespace Cert.Proof.Loss

open Idealize.ShloMosaic

/-- A box's corners as real numbers. -/
def re (a : Fin 4 → EReal) : Fin 4 → ℝ := fun k => (a k).toReal
/-- The corners are real numbers. -/
def Bounded (a : Fin 4 → EReal) : Prop := ∀ k, a k = (re a k : EReal)
/-- The corners are in order. -/
def Sorted (a : Fin 4 → EReal) : Prop := a 0 ≤ a 2 ∧ a 1 ≤ a 3
/-- A box out of order is at least finite. -/
def Tame (a : Fin 4 → EReal) : Prop := Sorted a ∨ Bounded a
/-- Both boxes are finite and in order. -/
structure Good (a b : Fin 4 → EReal) : Prop where
  left : Bounded a
  right : Bounded b
  sortedLeft : Sorted a
  sortedRight : Sorted b

theorem ordered_of {a : Fin 4 → EReal} (h : Bounded a) (hs : Sorted a) : Ordered (re a) := by
  unfold Sorted at hs
  rw [h 0, h 1, h 2, h 3] at hs
  exact ⟨EReal.coe_le_coe_iff.mp hs.1, EReal.coe_le_coe_iff.mp hs.2⟩

theorem Good.ordLeft {a b : Fin 4 → EReal} (h : Good a b) : Ordered (re a) := ordered_of h.left h.sortedLeft
theorem Good.ordRight {a b : Fin 4 → EReal} (h : Good a b) : Ordered (re b) := ordered_of h.right h.sortedRight

/-- A number that is no real is infinite. -/
theorem infinite_of {x : EReal} (h : x ≠ (x.toReal : EReal)) : x = ⊥ ∨ x = ⊤ := by
  induction x with
  | bot => exact Or.inl rfl
  | top => exact Or.inr rfl
  | coe r => exact absurd (EReal.toReal_coe r ▸ rfl) h

theorem exists_infinite {a : Fin 4 → EReal} (h : ¬ Bounded a) :
    ((a 0 = ⊥ ∨ a 0 = ⊤) ∨ (a 2 = ⊥ ∨ a 2 = ⊤)) ∨ ((a 1 = ⊥ ∨ a 1 = ⊤) ∨ (a 3 = ⊥ ∨ a 3 = ⊤)) := by
  obtain ⟨k, hk⟩ := not_forall.mp h
  have := infinite_of hk
  match k, this with
  | 0, e => exact Or.inl (Or.inl e)
  | 1, e => exact Or.inr (Or.inl e)
  | 2, e => exact Or.inl (Or.inr e)
  | 3, e => exact Or.inr (Or.inr e)

/-- An infinite interval reaches to an infinity of its side. -/
theorem reaches {x y : EReal} (h : x ≤ y) (hi : (x = ⊥ ∨ x = ⊤) ∨ (y = ⊥ ∨ y = ⊤)) : x = ⊥ ∨ y = ⊤ := by
  rcases hi with (rfl | rfl) | (rfl | rfl)
  · exact Or.inl rfl
  · exact Or.inr (top_le_iff.mp h)
  · exact Or.inl (le_bot_iff.mp h)
  · exact Or.inr rfl

theorem square_nonneg (x : EReal) : 0 ≤ x * x := by
  induction x with
  | bot => simp
  | top => simp
  | coe r => rw [← EReal.coe_mul]; exact EReal.coe_nonneg.mpr (mul_self_nonneg r)

theorem square_top {x : EReal} (h : x = ⊥ ∨ x = ⊤) : x * x = ⊤ := by
  rcases h with rfl | rfl <;> simp

/-- The side of the box around an infinite interval and any other. -/
theorem span_top {x y u v : EReal} (h : x = ⊥ ∨ y = ⊤) : max y v - min x u = ⊥ ∨ max y v - min x u = ⊤ := by
  rcases h with rfl | rfl
  · rw [min_eq_left bot_le]
    induction max y v with
    | bot => exact Or.inl rfl
    | top => exact Or.inr rfl
    | coe r => exact Or.inr rfl
  · rw [max_eq_left le_top]
    induction min x u with
    | bot => exact Or.inr rfl
    | top => exact Or.inl rfl
    | coe r => exact Or.inr rfl

def diagE (a b : Fin 4 → EReal) : EReal :=
  (max (a 2) (b 2) - min (a 0) (b 0)) * (max (a 2) (b 2) - min (a 0) (b 0))
    + (max (a 3) (b 3) - min (a 1) (b 1)) * (max (a 3) (b 3) - min (a 1) (b 1)) + Ideal.ofBits .f32 0x3089705F#32

theorem diagE_comm (a b : Fin 4 → EReal) : diagE a b = diagE b a := by
  unfold diagE; simp only [max_comm (a _), min_comm (a _)]

theorem top_add_nonneg {x : EReal} (h : 0 ≤ x) : ⊤ + x = ⊤ := EReal.top_add_of_ne_bot (by rintro rfl; simp at h)

theorem diagE_left {a : Fin 4 → EReal} (b : Fin 4 → EReal) (h : ¬ Bounded a) (ht : Tame a) : diagE a b = ⊤ := by
  have hs := ht.resolve_right h
  unfold diagE
  rw [ofBits_K 0x3089705F#32 (by decide)]
  rcases exists_infinite h with hx | hy
  · rw [square_top (span_top (reaches hs.1 hx)), top_add_nonneg (square_nonneg _), EReal.top_add_coe]
  · rw [square_top (span_top (reaches hs.2 hy)), add_comm, add_comm _ ⊤, top_add_nonneg (square_nonneg _), EReal.coe_add_top]

theorem diagE_top {a b : Fin 4 → EReal} (h : ¬ (Bounded a ∧ Bounded b)) (ha : Tame a) (hb : Tame b) : diagE a b = ⊤ := by
  by_cases h1 : Bounded a
  · rw [diagE_comm]; exact diagE_left _ (fun h2 => h ⟨h1, h2⟩) hb
  · exact diagE_left _ h1 ha

theorem diagE_pos (a b : Fin 4 → EReal) : 0 < diagE a b := by
  unfold diagE
  rw [ofBits_K 0x3089705F#32 (by decide)]
  exact lt_of_lt_of_le (EReal.coe_pos.mpr eps_pos) (le_add_of_nonneg_left (add_nonneg (square_nonneg _) (square_nonneg _)))

def interE (a b : Fin 4 → EReal) : EReal :=
  max (min (a 2) (b 2) - max (a 0) (b 0)) 0 * max (min (a 3) (b 3) - max (a 1) (b 1)) 0
def areaE (a : Fin 4 → EReal) : EReal := (a 2 - a 0) * (a 3 - a 1)
def iouE (a b : Fin 4 → EReal) : EReal :=
  Ideal.div (interE a b) (areaE a + areaE b - interE a b + Ideal.ofBits .f32 0x3089705F#32)

theorem gap_pos {x y : EReal} (h : max (x - y) 0 ≠ 0) : y < x := by
  by_contra hn
  exact h (max_eq_right (EReal.sub_nonpos.mpr (not_lt.mp hn)))

theorem div_infinite (x : EReal) {y : EReal} (h : y = ⊥ ∨ y = ⊤) : Ideal.div x y = 0 := by
  rcases h with rfl | rfl <;> simp [Ideal.div]

theorem area_top {a : Fin 4 → EReal} (h : ¬ Bounded a) (h0 : a 0 < a 2) (h1 : a 1 < a 3) : areaE a = ⊤ := by
  have key : ∀ {x y : EReal}, x < y → (x = ⊥ ∨ y = ⊤) → y - x = ⊤ := by
    intro x y hlt hi
    rcases hi with rfl | rfl
    · induction y with
      | bot => exact absurd hlt (lt_irrefl _)
      | top => rfl
      | coe r => rfl
    · induction x with
      | bot => rfl
      | top => exact absurd hlt (lt_irrefl _)
      | coe r => rfl
  unfold areaE
  rcases exists_infinite h with hx | hy
  · rw [key h0 (reaches h0.le hx)]; exact EReal.top_mul_of_pos (EReal.sub_pos.mpr h1)
  · rw [key h1 (reaches h1.le hy)]; exact EReal.mul_top_of_pos (EReal.sub_pos.mpr h0)

theorem area_nonneg {a : Fin 4 → EReal} (h0 : a 0 < a 2) (h1 : a 1 < a 3) : 0 ≤ areaE a :=
  mul_nonneg (EReal.sub_pos.mpr h0).le (EReal.sub_pos.mpr h1).le

theorem iouE_nonpos {a b : Fin 4 → EReal} (h : ¬ Good a b) : iouE a b ≤ 0 := by
  by_cases hi : interE a b = 0
  · unfold iouE Ideal.div
    rw [hi]
    split_ifs with h1 h2
    · exact absurd h2 (lt_irrefl _)
    · exact bot_le
    · simp
  · have hx := gap_pos (left_ne_zero_of_mul hi)
    have hy := gap_pos (right_ne_zero_of_mul hi)
    obtain ⟨⟨a0, _⟩, ⟨_, b0⟩⟩ := (lt_min_iff.mp hx).imp max_lt_iff.mp max_lt_iff.mp
    obtain ⟨⟨a1, _⟩, ⟨_, b1⟩⟩ := (lt_min_iff.mp hy).imp max_lt_iff.mp max_lt_iff.mp
    have hsum : areaE a + areaE b = ⊤ := by
      by_cases ha : Bounded a
      · have hb : ¬ Bounded b := fun hb => h ⟨ha, hb, ⟨a0.le, a1.le⟩, ⟨b0.le, b1.le⟩⟩
        rw [area_top hb b0 b1, add_comm]
        exact top_add_nonneg (area_nonneg a0 a1)
      · rw [area_top ha a0 a1]
        exact top_add_nonneg (area_nonneg b0 b1)
    refine (div_infinite _ ?_).le
    rw [hsum, ofBits_K 0x3089705F#32 (by decide)]
    have hn : 0 ≤ interE a b := mul_nonneg (le_max_right _ _) (le_max_right _ _)
    generalize interE a b = z at hn ⊢
    induction z with
    | bot => simp at hn
    | top => exact Or.inl rfl
    | coe r => exact Or.inr rfl

/-- Quotients and products of what is not negative. -/
theorem div_nonneg_of {x y : EReal} (hx : 0 ≤ x) (hy : 0 < y) : 0 ≤ Ideal.div x y := by
  rw [Ideal.div, if_neg hy.ne']
  exact mul_nonneg hx (EReal.inv_nonneg_of_nonneg hy.le)

theorem sub_nonpos_of {x y : EReal} (hx : x ≤ 0) (hy : 0 ≤ y) : x - y ≤ 0 := EReal.sub_nonpos.mpr (hx.trans hy)

theorem none_of {i e v : EReal} (hi : i ≤ 0) (he : 0 ≤ e) (hv : 0 ≤ v) :
    i - e - Ideal.div v (v - i + 1 + Ideal.ofBits .f32 0x3089705F#32) * v ≤ 0 := by
  have h1 : 0 ≤ v - i := by
    have : 0 ≤ -i := EReal.neg_nonneg.mpr hi
    exact add_nonneg hv this
  have h2 : 0 < v - i + 1 + Ideal.ofBits .f32 0x3089705F#32 := by
    rw [ofBits_K 0x3089705F#32 (by decide)]
    refine lt_of_lt_of_le zero_lt_one (le_trans ?_ (le_add_of_nonneg_right (EReal.coe_nonneg.mpr eps_pos.le)))
    exact le_add_of_nonneg_left h1
  exact sub_nonpos_of (sub_nonpos_of hi he) (mul_nonneg (div_nonneg_of hv h2) hv)

/-- The boxes' difference of aspects, squared and scaled, is not negative. -/
theorem scaled_square (s : EReal) : 0 ≤ Ideal.ofBits .f32 0x3ECF817B#32 * (s * s) := by
  rw [ofBits_K 0x3ECF817B#32 (by decide)]
  exact mul_nonneg (EReal.coe_nonneg.mpr coef_pos.le) (square_nonneg s)

/-! ## Boxes that are finite and in order -/

theorem iouE_real {a b : Fin 4 → EReal} (h : Good a b) : iouE a b = (iou (re a) (re b) : EReal) := by
  have ha := h.left
  have hb := h.right
  unfold iouE interE areaE
  rw [ha 0, ha 1, ha 2, ha 3, hb 0, hb 1, hb 2, hb 3, ofBits_K 0x3089705F#32 (by decide)]
  simp only [← EReal.coe_zero, max_real, min_real, add_real, sub_real, mul_real]
  exact div_real (union_pos h.ordLeft h.ordRight).ne' _

/-- The squared distance of the boxes' centres, by the difference of their coordinates. -/
def farE (a b : Fin 4 → EReal) : EReal :=
  (Ideal.div (a 2 + a 0) (Ideal.ofBits .f32 0x40000000#32) - Ideal.div (b 2 + b 0) (Ideal.ofBits .f32 0x40000000#32))
      * (Ideal.div (a 2 + a 0) (Ideal.ofBits .f32 0x40000000#32) - Ideal.div (b 2 + b 0) (Ideal.ofBits .f32 0x40000000#32))
    + (Ideal.div (a 3 + a 1) (Ideal.ofBits .f32 0x40000000#32) - Ideal.div (b 3 + b 1) (Ideal.ofBits .f32 0x40000000#32))
      * (Ideal.div (a 3 + a 1) (Ideal.ofBits .f32 0x40000000#32) - Ideal.div (b 3 + b 1) (Ideal.ofBits .f32 0x40000000#32))

theorem farE_nonneg (a b : Fin 4 → EReal) : 0 ≤ farE a b := add_nonneg (square_nonneg _) (square_nonneg _)

theorem farE_real {a b : Fin 4 → EReal} (ha : Bounded a) (hb : Bounded b) : farE a b = (cent (re a) (re b) : EReal) := by
  unfold farE
  rw [ha 0, ha 1, ha 2, ha 3, hb 0, hb 1, hb 2, hb 3, ofBits_K 0x40000000#32 (by decide), K_two]
  simp only [add_real, sub_real, mul_real, div_real (two_ne_zero (α := ℝ))]
  unfold cent
  congr 1
  ring

theorem diagE_real {a b : Fin 4 → EReal} (ha : Bounded a) (hb : Bounded b) : diagE a b = (diag (re a) (re b) : EReal) := by
  unfold diagE
  rw [ha 0, ha 1, ha 2, ha 3, hb 0, hb 1, hb 2, hb 3, ofBits_K 0x3089705F#32 (by decide)]
  simp only [max_real, min_real, add_real, sub_real, mul_real]
  unfold diag
  congr 1
  ring

/-- The complete overlap of two boxes from their common part, distance and difference of aspects. -/
def ciouE (i e v : EReal) : EReal := i - e - Ideal.div v (v - i + 1 + Ideal.ofBits .f32 0x3089705F#32) * v

theorem ciouE_real {a b : Fin 4 → EReal} (h : Good a b) {c v : EReal} (hc : c = (cent (re a) (re b) : EReal))
    (hv : v = (asp (re a) (re b) : EReal)) : ciouE (iouE a b) (Ideal.div c (diagE a b)) v = (ciou (re a) (re b) : EReal) := by
  unfold ciouE
  rw [iouE_real h, hc, diagE_real h.left h.right, hv, ofBits_K 0x3089705F#32 (by decide), div_real (diag_pos _ _).ne', ← EReal.coe_one]
  simp only [add_real, sub_real]
  rw [div_real (alpha_pos h.ordLeft h.ordRight).ne', mul_real, sub_real]
  rfl

end Cert.Proof.Loss

end
-- ==== Proof.Spec.lean ====
/-
  The assignment of one image's anchors to its targets and the sums that the loss takes over it. Whatever the logits and boxes, an
  overlap, a fitness and a weight are real numbers.
-/
module

public import proofs.«01_k».proof.Proof.Edges

@[expose] public section

noncomputable section

namespace Cert.Proof.Loss

open Idealize.ShloMosaic

/-- One image's inputs: the class logits, the predicted boxes, the targets' boxes and classes, the anchors. -/
structure Data where
  X : Fin 8400 → Fin 80 → EReal
  P : Fin 8400 → Fin 4 → EReal
  T : Fin 100 → Fin 4 → EReal
  C : Fin 100 → Fin 80
  N : Fin 8400 → Fin 2 → EReal

namespace Data
variable (d : Data)
open Classical

/-- The anchor lies inside the target's box. -/
def Valid (t : Fin 100) (a : Fin 8400) : Prop :=
  ((d.T t 0 < d.N a 0 ∧ d.N a 0 < d.T t 2) ∧ d.T t 1 < d.N a 1) ∧ d.N a 1 < d.T t 3
def overlap (t : Fin 100) (a : Fin 8400) : ℝ := if Good (d.T t) (d.P a) then max (ciou (re (d.T t)) (re (d.P a))) 0 else 0
/-- The square root of the probability that the anchor predicts for the target's class. -/
def root (t : Fin 100) (a : Fin 8400) : ℝ := (Ideal.rsqrt (1 + Ideal.exp (0 - d.X a (d.C t)))).toReal
/-- How suitable the anchor is for the target. -/
def fitness (t : Fin 100) (a : Fin 8400) : ℝ :=
  if d.Valid t a then
    d.overlap t a * d.overlap t a * (d.overlap t a * d.overlap t a) * (d.overlap t a * d.overlap t a) * d.root t a
  else 0
def best (t : Fin 100) : ℝ := ⨆ a, d.fitness t a
/-- The greatest fitness below `m`, or -1. -/
def next (t : Fin 100) (m : ℝ) : ℝ := ⨆ a, if d.fitness t a < m then d.fitness t a else -1
def bar (t : Fin 100) : ℝ := max ((d.next t)^[9] (d.best t)) (K 0x0DA24260#32)
/-- The anchor is one of those that the target keeps. -/
def Chosen (t : Fin 100) (a : Fin 8400) : Prop := d.bar t ≤ d.fitness t a
def kept (t : Fin 100) (a : Fin 8400) : ℝ := if d.Chosen t a then d.fitness t a else 0
def peak (t : Fin 100) : ℝ := ⨆ a, if d.Chosen t a then d.overlap t a else 0
def scale (t : Fin 100) : ℝ := d.peak t / (d.best t + K 0x3089705F#32)
def top (a : Fin 8400) : ℝ := ⨆ t, d.kept t a

theorem exists_owner (a : Fin 8400) : ∃ o : Fin 100, d.kept o a = d.top a ∧ ∀ t < o, d.kept t a ≠ d.top a := by
  obtain ⟨k, hk⟩ := exists_eq_ciSup_of_finite (f := fun t => d.kept t a)
  have hne : (Finset.univ.filter fun t => d.kept t a = d.top a).Nonempty := ⟨k, Finset.mem_filter.mpr ⟨Finset.mem_univ _, hk⟩⟩
  refine ⟨Finset.min' _ hne, (Finset.mem_filter.mp (Finset.min'_mem _ hne)).2, fun t ht he => ?_⟩
  exact absurd (Finset.min'_le _ t (Finset.mem_filter.mpr ⟨Finset.mem_univ _, he⟩)) (not_le.mpr ht)

/-- The first target that keeps the anchor at the greatest fitness. -/
def owner (a : Fin 8400) : Fin 100 := (d.exists_owner a).choose
theorem kept_owner (a : Fin 8400) : d.kept (d.owner a) a = d.top a := (d.exists_owner a).choose_spec.1
theorem owner_first (a : Fin 8400) (t : Fin 100) (h : t < d.owner a) : d.kept t a ≠ d.top a := (d.exists_owner a).choose_spec.2 t h

def weight (a : Fin 8400) : ℝ := d.top a * d.scale (d.owner a)
def hit : EReal := ∑ a, d.X a (d.C (d.owner a)) * (d.weight a : EReal)
def total : ℝ := ∑ a, d.weight a
def misfit : ℝ := ∑ a, (1 - ciou (re (d.P a)) (re (d.T (d.owner a)))) * d.weight a

/-- Every box's corners are in order or finite. -/
def Tidy : Prop := (∀ a, Tame (d.P a)) ∧ ∀ t, Tame (d.T t)

theorem overlap_nonneg (t : Fin 100) (a : Fin 8400) : 0 ≤ d.overlap t a := by
  unfold overlap; split_ifs; exacts [le_max_right _ _, le_rfl]
theorem root_real (r : ℝ) : Ideal.rsqrt (1 + Ideal.exp (0 - (r : EReal))) = (((Real.sqrt (1 + Real.exp (0 - r)))⁻¹ : ℝ) : EReal) := by
  rw [← EReal.coe_zero, ← EReal.coe_one, sub_real, exp_real, add_real, rsqrt_real (by positivity)]
theorem root_top : Ideal.rsqrt (1 + Ideal.exp (0 - ⊤)) = 1 := by
  have e : (0 : EReal) - ⊤ = ⊥ := rfl
  rw [e, Ideal.exp_bot, add_zero, ← EReal.coe_one, rsqrt_real one_pos, Real.sqrt_one, inv_one]
theorem root_bot : Ideal.rsqrt (1 + Ideal.exp (0 - ⊥)) = 0 := by
  have e : (0 : EReal) - ⊥ = ⊤ := rfl
  have e1 : (1 : EReal) + ⊤ = ⊤ := rfl
  rw [e, Ideal.exp_top, e1, Ideal.rsqrt_top]
theorem root_coe (t : Fin 100) (a : Fin 8400) : Ideal.rsqrt (1 + Ideal.exp (0 - d.X a (d.C t))) = (d.root t a : EReal) := by
  unfold root
  induction d.X a (d.C t) with
  | bot => rw [root_bot]; rfl
  | top => rw [root_top]; rfl
  | coe r => rw [root_real]; rfl
theorem root_nonneg (t : Fin 100) (a : Fin 8400) : 0 ≤ d.root t a := by
  unfold root
  induction d.X a (d.C t) with
  | bot => rw [root_bot]; exact le_rfl
  | top => rw [root_top]; exact zero_le_one
  | coe r => rw [root_real]; show (0 : ℝ) ≤ (Real.sqrt _)⁻¹; positivity
theorem fitness_nonneg (t : Fin 100) (a : Fin 8400) : 0 ≤ d.fitness t a := by
  unfold fitness
  have hr := d.root_nonneg t a
  have ho := d.overlap_nonneg t a
  split_ifs
  · positivity
  · exact le_rfl
theorem fitness_le_best (t : Fin 100) (a : Fin 8400) : d.fitness t a ≤ d.best t := le_ciSup (Set.finite_range _).bddAbove a
theorem best_nonneg (t : Fin 100) : 0 ≤ d.best t := (d.fitness_nonneg t 0).trans (d.fitness_le_best t 0)
theorem best_pos (t : Fin 100) : 0 < d.best t + K 0x3089705F#32 := by linarith [d.best_nonneg t, eps_pos]
theorem kept_nonneg (t : Fin 100) (a : Fin 8400) : 0 ≤ d.kept t a := by
  unfold kept; split_ifs; exacts [d.fitness_nonneg t a, le_rfl]
theorem kept_le_top (t : Fin 100) (a : Fin 8400) : d.kept t a ≤ d.top a := le_ciSup (f := fun t => d.kept t a) (Set.finite_range _).bddAbove t
theorem top_nonneg (a : Fin 8400) : 0 ≤ d.top a := (d.kept_nonneg 0 a).trans (d.kept_le_top 0 a)

/-- An anchor of some weight and its target have good boxes, and the anchor's logit is not minus infinity. -/
theorem of_weight (a : Fin 8400) (h : d.weight a ≠ 0) : Good (d.P a) (d.T (d.owner a)) ∧ d.X a (d.C (d.owner a)) ≠ ⊥ := by
  have hf : d.fitness (d.owner a) a ≠ 0 := fun h0 => h (by
    have : d.kept (d.owner a) a = 0 := by unfold kept; rw [h0, ite_self]
    unfold weight
    rw [← d.kept_owner a, this, zero_mul])
  refine ⟨by_contra fun hn => hf ?_, fun hx => hf ?_⟩
  · have : d.overlap (d.owner a) a = 0 := if_neg fun hg => hn ⟨hg.right, hg.left, hg.sortedRight, hg.sortedLeft⟩
    unfold fitness
    rw [this]
    simp
  · have : d.root (d.owner a) a = 0 := by unfold root; rw [hx, root_bot]; rfl
    unfold fitness
    rw [this]
    simp

end Data

end Cert.Proof.Loss

end
-- ==== Proof.Boxes.lean ====
/-
  The matrices that the TensorCore call's body computes of one image's targets and anchors: validity,
  overlap, logits and fitness.
-/
module

public import proofs.«01_k».proof.Proof.BodyI
public import proofs.«01_k».proof.Proof.Spec

@[expose] public section

set_option maxRecDepth 16384

noncomputable section

namespace Cert.Proof.KerV

open Idealize.ShloMosaic Cert.KernelIdeal Cert.KernelIdeal.Gen Cert.Proof.ScKI Cert.Proof.Loss

/-- The blocks hold the image's inputs. -/
structure Reads (x : Blk Ideal) (d : Data) : Prop where
  x0 : ∀ a c, x.x0 (ix3 0 a c) = d.X a c
  x1 : ∀ k a, x.x1 (ix3 0 k a) = d.P a k
  x2 : ∀ t k, x.x2 (ix3 0 t k) = d.T t k
  x3 : ∀ t, x.x3 (ix3 0 0 t) = BitVec.ofNat 32 (d.C t).val
  x4 : ∀ k a, x.x4 (ix2 k a) = d.N a k

section
variable {x : Blk Ideal} {d : Data}

theorem v1_at (h : Reads x d) (a : Fin 8400) (c : Fin 80) : Body.v1 x (ix2 a c) = d.X a c := by
  pointwise [Body.v1, k1_pay2]; exact h.x0 a c
theorem v7_at (h : Reads x d) (t : Fin 100) : Body.v7 x (ix2 0 t) = BitVec.ofNat 32 (d.C t).val := by
  pointwise [Body.v7, k1_pay5]; exact h.x3 t
theorem v12_at (h : Reads x d) (t : Fin 100) : Body.v12 x (ix2 t 0) = d.T t 0 := by
  pointwise [Body.v12, k1_pay6, k1_pay4]; exact h.x2 t 0
theorem v13_at (h : Reads x d) (t : Fin 100) : Body.v13 x (ix2 t 0) = d.T t 1 := by
  pointwise [Body.v13, k1_pay7, k1_pay4]; exact h.x2 t 1
theorem v14_at (h : Reads x d) (t : Fin 100) : Body.v14 x (ix2 t 0) = d.T t 2 := by
  pointwise [Body.v14, k1_pay8, k1_pay4]; exact h.x2 t 2
theorem v15_at (h : Reads x d) (t : Fin 100) : Body.v15 x (ix2 t 0) = d.T t 3 := by
  pointwise [Body.v15, k1_pay9, k1_pay4]; exact h.x2 t 3
theorem v16_at (h : Reads x d) (a : Fin 8400) : Body.v16 x (ix2 0 a) = d.P a 0 := by
  pointwise [Body.v16, k1_pay10, k1_pay3]; exact h.x1 0 a
theorem v17_at (h : Reads x d) (a : Fin 8400) : Body.v17 x (ix2 0 a) = d.P a 1 := by
  pointwise [Body.v17, k1_pay11, k1_pay3]; exact h.x1 1 a
theorem v18_at (h : Reads x d) (a : Fin 8400) : Body.v18 x (ix2 0 a) = d.P a 2 := by
  pointwise [Body.v18, k1_pay12, k1_pay3]; exact h.x1 2 a
theorem v19_at (h : Reads x d) (a : Fin 8400) : Body.v19 x (ix2 0 a) = d.P a 3 := by
  pointwise [Body.v19, k1_pay13, k1_pay3]; exact h.x1 3 a

open Classical in
theorem v34_at (h : Reads x d) (t : Fin 100) (a : Fin 8400) : Body.v34 x (ix2 t a) = BitVec.ofBool (decide (d.Valid t a)) := by
  pointwise [Body.v34, k1_pay14, k1_pay6, k1_pay7, k1_pay8, k1_pay9, k1_pay4]
  simp only [h.x2, h.x4]
  unfold Data.Valid
  by_cases h0 : d.T t 0 < d.N a 0 <;> by_cases h1 : d.N a 0 < d.T t 2 <;> by_cases h2 : d.T t 1 < d.N a 1 <;>
    by_cases h3 : d.N a 1 < d.T t 3 <;> simp [h0, h1, h2, h3, IntOp.andi]

theorem v66_at (h : Reads x d) (t : Fin 100) (a : Fin 8400) : Body.v66 x (ix2 t a) = iouE (d.T t) (d.P a) := by
  pointwise [Body.v66, k1_pay19, k1_pay15, k1_pay16, k1_pay17, k1_pay18, k1_pay6, k1_pay7, k1_pay8, k1_pay9, k1_pay10, k1_pay11, k1_pay12, k1_pay4, k1_pay3]
  simp only [h.x1, h.x2, v12_at h, v13_at h, v14_at h, v15_at h, v16_at h, v17_at h, v18_at h, v19_at h]
  rfl

/-- The squared distance of the boxes' centres as the body computes it. -/
def centE (a b : Fin 4 → EReal) : EReal :=
  let x := (a 0 + a 2) * Ideal.ofBits .f32 0x3F000000#32
  let y := (a 1 + a 3) * Ideal.ofBits .f32 0x3F000000#32
  let u := (b 0 + b 2) * Ideal.ofBits .f32 0x3F000000#32
  let v := (b 1 + b 3) * Ideal.ofBits .f32 0x3F000000#32
  x * x + y * y + (u * u + v * v) - Ideal.ofBits .f32 0x40000000#32 * (x * u + y * v)

theorem centE_real {a b : Fin 4 → EReal} (ha : Bounded a) (hb : Bounded b) : centE a b = (cent (Loss.re a) (Loss.re b) : EReal) := by
  unfold centE
  rw [ha 0, ha 1, ha 2, ha 3, hb 0, hb 1, hb 2, hb 3, ofBits_K 0x3F000000#32 (by decide), ofBits_K 0x40000000#32 (by decide), K_half, K_two]
  simp only [add_real, sub_real, mul_real]
  unfold cent
  congr 1
  ring

/-- The quotient of distance and diagonal is not negative. -/
theorem far_nonneg {a b : Fin 4 → EReal} (ha : Tame a) (hb : Tame b) : 0 ≤ Ideal.div (centE a b) (diagE a b) := by
  by_cases h : Bounded a ∧ Bounded b
  · refine div_nonneg_of ?_ (diagE_pos a b)
    rw [centE_real h.1 h.2]
    exact EReal.coe_nonneg.mpr (by unfold cent; positivity)
  · rw [diagE_top h ha hb, div_infinite _ (Or.inr rfl)]

theorem v114_at (h : Reads x d) (t : Fin 100) (a : Fin 8400) :
    Body.v114 x (ix2 t a) = iouE (d.T t) (d.P a) - Ideal.div (centE (d.T t) (d.P a)) (diagE (d.T t) (d.P a)) := by
  pointwise [Body.v114, k1_pay20, k1_pay21, k1_pay22, k1_pay23]
  simp only [v66_at h, v12_at h, v13_at h, v14_at h, v15_at h, v16_at h, v17_at h, v18_at h, v19_at h, Finset.univ_unique,
    Finset.sum_singleton]
  rfl

/-- The fit that stands for arctan as the body computes it. -/
def atanE (z : EReal) : EReal :=
  let r := if z ≤ 1 then z else Ideal.div 1 z
  let p := r * (((((((Ideal.ofBits .f32 0xBB84D7E7#32 * (r * r) + Ideal.ofBits .f32 0x3CB31652#32) * (r * r) + Ideal.ofBits .f32 0xBD6501C4#32)
    * (r * r) + Ideal.ofBits .f32 0x3DC577DF#32) * (r * r) + Ideal.ofBits .f32 0xBE0E6C63#32) * (r * r) + Ideal.ofBits .f32 0x3E4C40A6#32)
    * (r * r) + Ideal.ofBits .f32 0xBEAAA61C#32) * (r * r) + Ideal.ofBits .f32 0x3F7FFFF5#32)
  if z ≤ 1 then p else Ideal.ofBits .f32 0x3FC90FDB#32 - p

theorem atanE_real (z : ℝ) : atanE (z : EReal) = (Loss.atan z : EReal) := by
  have hr : (if (z : EReal) ≤ 1 then (z : EReal) else Ideal.div 1 (z : EReal)) = (arg z : EReal) := by
    unfold arg
    rw [← EReal.coe_one]
    simp only [EReal.coe_le_coe_iff]
    split_ifs with hz
    · rfl
    · rw [div_real (by linarith)]
  unfold atanE Loss.atan
  simp only [hr]
  simp only [ofBits_K 0xBB84D7E7#32 (by decide), ofBits_K 0x3CB31652#32 (by decide), ofBits_K 0xBD6501C4#32 (by decide),
    ofBits_K 0x3DC577DF#32 (by decide), ofBits_K 0xBE0E6C63#32 (by decide), ofBits_K 0x3E4C40A6#32 (by decide),
    ofBits_K 0xBEAAA61C#32 (by decide), ofBits_K 0x3F7FFFF5#32 (by decide), ofBits_K 0x3FC90FDB#32 (by decide),
    ← EReal.coe_one, EReal.coe_le_coe_iff, add_real, sub_real, mul_real, ite_real]
  rfl

/-- The fit at a box's aspect. -/
def slantE (a : Fin 4 → EReal) : EReal := atanE (Ideal.div (a 2 - a 0) (a 3 - a 1 + Ideal.ofBits .f32 0x3089705F#32))

theorem slantE_real {a : Fin 4 → EReal} (h : Bounded a) (ho : Ordered (Loss.re a)) : slantE a = (Loss.atan (slope (Loss.re a)) : EReal) := by
  unfold slantE
  rw [h 0, h 1, h 2, h 3, ofBits_K 0x3089705F#32 (by decide), sub_real, sub_real, add_real, div_real (slope_pos ho).ne']
  exact atanE_real _

theorem v189_at (h : Reads x d) (t : Fin 100) (a : Fin 8400) : Body.v189 x (ix2 t a) = slantE (d.T t) := by
  have e : Body.v189 x (ix2 t a) = atanE (Ideal.div (Body.v14 x (ix2 t 0) - Body.v12 x (ix2 t 0))
      (Body.v15 x (ix2 t 0) - Body.v13 x (ix2 t 0) + Ideal.ofBits .f32 0x3089705F#32)) := by
    pointwise [Body.v189, k1_pay29, k1_pay28, k1_pay27, k1_pay26, k1_pay25, k1_pay24]
    rfl
  rw [e, v12_at h, v13_at h, v14_at h, v15_at h]
  rfl

theorem v190_at (h : Reads x d) (t : Fin 100) (a : Fin 8400) : Body.v190 x (ix2 t a) = slantE (d.P a) := by
  have e : Body.v190 x (ix2 t a) = atanE (Ideal.div (Body.v18 x (ix2 0 a) - Body.v16 x (ix2 0 a))
      (Body.v19 x (ix2 0 a) - Body.v17 x (ix2 0 a) + Ideal.ofBits .f32 0x3089705F#32)) := by
    pointwise [Body.v190, k1_pay30]
    rfl
  rw [e, v16_at h, v17_at h, v18_at h, v19_at h]
  rfl

/-- The difference of the boxes' aspects, squared and scaled, from their fits. -/
def aspE (s t : EReal) : EReal := Ideal.ofBits .f32 0x3ECF817B#32 * (s - t) * (s - t)

theorem aspE_real (a b : Fin 4 → ℝ) : aspE (Loss.atan (slope a) : EReal) (Loss.atan (slope b) : EReal) = (asp a b : EReal) := by
  unfold aspE asp
  rw [ofBits_K 0x3ECF817B#32 (by decide)]
  simp only [sub_real, mul_real]
  congr 1; ring

theorem slant_real {a b : Fin 4 → EReal} (h : Good a b) : aspE (slantE a) (slantE b) = (asp (Loss.re a) (Loss.re b) : EReal) := by
  rw [slantE_real h.left h.ordLeft, slantE_real h.right h.ordRight, aspE_real]

theorem pay31_at (h : Reads x d) (hd : d.Tidy) (t : Fin 100) (a : Fin 8400) :
    k1_pay31 (Body.v66 x) (Body.v114 x) (Body.v189 x) (Body.v190 x) (ix2 t a) = (d.overlap t a : EReal) := by
  have e : k1_pay31 (Body.v66 x) (Body.v114 x) (Body.v189 x) (Body.v190 x) (ix2 t a)
      = max (ciouE (iouE (d.T t) (d.P a)) (Ideal.div (centE (d.T t) (d.P a)) (diagE (d.T t) (d.P a))) (aspE (slantE (d.T t)) (slantE (d.P a)))) 0 := by
    pointwise [k1_pay31]
    rw [v66_at h, v114_at h, v189_at h, v190_at h]
    rfl
  rw [e]
  unfold Data.overlap
  split_ifs with hg
  · rw [ciouE_real hg (centE_real hg.left hg.right) (slant_real hg), ← EReal.coe_zero, max_real]
  · refine max_eq_right (none_of (iouE_nonpos hg) (far_nonneg (hd.2 t) (hd.1 a)) ?_)
    unfold aspE
    rw [mul_assoc]
    exact scaled_square _

theorem v204_at (h : Reads x d) (hd : d.Tidy) (t : Fin 100) (a : Fin 8400) : Body.v204 x (ix2 t a) = (d.overlap t a : EReal) :=
  pay31_at h hd t a

/-- The 0/1 number of an equality of words. -/
theorem onehot (u v : BitVec 32) : (FloatOps.sitofp .f32 (BitVec.setWidth 32 (IntOp.cmpi .eq u v)) : Ideal .f32) = if u = v then (1 : EReal) else 0 := by
  have e : IntOp.cmpi .eq u v = BitVec.ofBool (decide (u = v)) := by
    unfold IntOp.cmpi
    by_cases h : u = v
    · simp [h]
    · simp [h, beq_eq_false_iff_ne.mpr h]
  rw [e]
  by_cases h : u = v
  · rw [decide_eq_true h, if_pos h]
    show ((((1#32 : BitVec 32).toInt : ℝ)) : EReal) = 1
    norm_num
  · rw [decide_eq_false h, if_neg h]
    show ((((0#32 : BitVec 32).toInt : ℝ)) : EReal) = 0
    norm_num

theorem ofNat_inj {m n : ℕ} (hm : m < 2 ^ 32) (hn : n < 2 ^ 32) : BitVec.ofNat 32 m = BitVec.ofNat 32 n ↔ m = n := by
  constructor
  · intro h
    have := congrArg BitVec.toNat h
    rwa [BitVec.toNat_ofNat, BitVec.toNat_ofNat, Nat.mod_eq_of_lt hm, Nat.mod_eq_of_lt hn] at this
  · rintro rfl; rfl

theorem pay32_at (h : Reads x d) (t : Fin 100) (a : Fin 8400) : k1_pay32 (Body.v1 x) (Body.v7 x) (ix2 t a) = d.X a (d.C t) := by
  pointwise [k1_pay32]
  simp only [onehot, v7_at h, v1_at h]
  rw [Finset.sum_eq_single (d.C t)]
  · rw [if_pos rfl, one_mul]
  · intro c _ hc
    rw [if_neg, zero_mul]
    intro he
    exact hc (Fin.ext ((ofNat_inj (by omega) (by omega)).mp he)).symm
  · exact fun hn => absurd (Finset.mem_univ _) hn

open Classical in
theorem pay33_at (h : Reads x d) (hd : d.Tidy) (t : Fin 100) (a : Fin 8400) :
    k1_pay33 (Body.v1 x) (Body.v7 x) (Body.v34 x) (Body.v66 x) (Body.v114 x) (Body.v189 x) (Body.v190 x) (ix2 t a) = (d.fitness t a : EReal) := by
  pointwise [k1_pay33]
  rw [v34_at h, pay31_at h hd, pay32_at h, d.root_coe, ← EReal.coe_zero]
  simp only [mul_real, select_bool, decide_eq_true_eq, ite_real]
  rfl

theorem v223_at (h : Reads x d) (hd : d.Tidy) (t : Fin 100) (a : Fin 8400) : Body.v223 x (ix2 t a) = (d.fitness t a : EReal) :=
  pay33_at h hd t a

end

end Cert.Proof.KerV

end
-- ==== Proof.Assign.lean ====
/-
  How the TensorCore call's body assigns one image's anchors to its targets, over the reals.
-/
module

public import proofs.«01_k».proof.Proof.Boxes

@[expose] public section

set_option maxRecDepth 16384

noncomputable section

namespace Cert.Proof.KerV

open Idealize.ShloMosaic Cert.KernelIdeal Cert.KernelIdeal.Gen Cert.Proof.ScKI Cert.Proof.Loss

theorem minsi_toInt (u v : BitVec 32) : (IntOp.minsi u v).toInt = min u.toInt v.toInt := by
  unfold IntOp.minsi
  by_cases h : u.slt v = true
  · rw [if_pos h, min_eq_left (le_of_lt (BitVec.slt_iff_toInt_lt.mp h))]
  · rw [if_neg h, min_eq_right (not_lt.mp fun h' => h (BitVec.slt_iff_toInt_lt.mpr h'))]

/-- The least index that has a property, as the running minimum of words finds it. -/
theorem fold_first (p : Fin 100 → Prop) [DecidablePred p] (o : Fin 100) (ho : p o) (hf : ∀ t < o, ¬ p t) :
    Finset.fold IntOp.minsi (2147483647#32) (fun k : Fin 100 => if p k then BitVec.ofNat 32 k.val else 100#32) Finset.univ
      = BitVec.ofNat 32 o.val := by
  have hn : ∀ k : Fin 100, (BitVec.ofNat 32 k.val).toInt = (k.val : ℤ) := fun k => by
    rw [BitVec.toInt_ofNat']; simp only [Int.bmod_def]; omega
  apply BitVec.eq_of_toInt_eq
  rw [← Finset.fold_hom (m := BitVec.toInt) (op' := min) (fun u v => minsi_toInt u v), hn]
  apply le_antisymm
  · rw [Finset.fold_min_le]
    exact .inr ⟨o, Finset.mem_univ _, by rw [if_pos ho, hn]⟩
  · rw [Finset.le_fold_min]
    refine ⟨?_, fun k _ => ?_⟩
    · show (o.val : ℤ) ≤ 2147483647
      omega
    · split_ifs with hk
      · rw [hn]
        have := not_lt.mp fun h => hf k h hk
        exact_mod_cast this
      · show (o.val : ℤ) ≤ 100
        omega

section
variable {x : Blk Ideal} {d : Data}
open Classical

theorem v225_at (h : Reads x d) (hd : d.Tidy) (t : Fin 100) : Body.v225 x (ix2 t 0) = (d.best t : EReal) := by
  pointwise [Body.v225, k1_pay34]
  simp only [pay33_at h hd, ofBits_bot, fold_max_real]
  rfl

theorem pay35_at (h : Reads x d) (hd : d.Tidy) (t : Fin 100) :
    k1_pay35 (Body.v1 x) (Body.v7 x) (Body.v34 x) (Body.v66 x) (Body.v114 x) (Body.v189 x) (Body.v190 x) (ix2 t 0)
      = ((d.next t)^[2] (d.best t) : EReal) := by
  pointwise [k1_pay35, k1_pay34]
  simp only [pay33_at h hd, ofBits_bot, ofBits_K 0xBF800000#32 (by decide), K_negone, EReal.coe_lt_coe_iff, ite_real, fold_max_real]
  rfl

theorem v282_at (h : Reads x d) (hd : d.Tidy) (t : Fin 100) (a : Fin 8400) : Body.v282 x (ix2 t a) = (d.bar t : EReal) := by
  pointwise [Body.v282, k1_pay36]
  simp only [pay35_at h hd, v223_at h hd, ofBits_bot, ofBits_K 0xBF800000#32 (by decide), ofBits_K 0x0DA24260#32 (by decide), K_negone,
    EReal.coe_lt_coe_iff, ite_real, fold_max_real, max_real]
  rfl

theorem pay38_at (h : Reads x d) (hd : d.Tidy) (t : Fin 100) (a : Fin 8400) :
    k1_pay38 (Body.v223 x) (Body.v282 x) (ix2 t a) = (d.kept t a : EReal) := by
  pointwise [k1_pay38, k1_pay37]
  simp only [v223_at h hd, v282_at h hd, ← EReal.coe_zero, EReal.coe_le_coe_iff, ite_real]
  rfl

theorem pay39_at (h : Reads x d) (hd : d.Tidy) (a : Fin 8400) : k1_pay39 (Body.v223 x) (Body.v282 x) (ix2 0 a) = (d.top a : EReal) := by
  pointwise [k1_pay39]
  simp only [pay38_at h hd, ofBits_bot, fold_max_real]
  rfl

theorem pay40_at (h : Reads x d) (hd : d.Tidy) (t : Fin 100) (a : Fin 8400) :
    k1_pay40 (Body.v223 x) (Body.v282 x) (ix2 t a) = if t = d.owner a then (1 : EReal) else 0 := by
  pointwise [k1_pay40]
  simp only [pay38_at h hd, pay39_at h hd, EReal.coe_eq_coe_iff]
  rw [onehot, fold_first (fun k => d.kept k a = d.top a) (d.owner a) (d.kept_owner a) (d.owner_first a)]
  simp only [ofNat_inj (m := t.val) (n := (d.owner a).val) (by omega) (by omega), Fin.ext_iff]

end

end Cert.Proof.KerV

end
-- ==== Proof.Reading.lean ====
/-
  The steps of the TensorCore call's body after the assignment, read at an index.
-/
module

public import proofs.«01_k».proof.Proof.Boxes

@[expose] public section

set_option maxRecDepth 16384

noncomputable section

namespace Cert.Proof.KerV

open Idealize.ShloMosaic Cert.KernelIdeal Cert.KernelIdeal.Gen Cert.Proof.ScKI Cert.Proof.Loss

/-- A sum against the owner's 0/1 numbers. -/
theorem pick (f : Fin 100 → EReal) (o : Fin 100) : ∑ t, f t * (if t = o then (1 : EReal) else 0) = f o := by
  rw [Finset.sum_eq_single o]
  · rw [if_pos rfl, mul_one]
  · intro t _ ht; rw [if_neg ht, mul_zero]
  · exact fun hn => absurd (Finset.mem_univ _) hn

section
variable (v12 v13 v14 v15 v225 : FVec Ideal S100x1 .f32) (v204 v211 v223 v282 : FVec Ideal S100x8400 .f32)
  (v16 v17 v18 v19 g0 g1 g2 g3 v327 v329 v330 : FVec Ideal S1x8400 .f32)

theorem pay37_read (t : Fin 100) (a : Fin 8400) :
    k1_pay37 v223 v282 (ix2 t a) = BitVec.ofBool (decide (v282 (ix2 t a) ≤ v223 (ix2 t a))) := by
  pointwise [k1_pay37]

theorem pay41_row4 (a : Fin 8400) : k1_pay41 v12 v13 v14 v15 v204 v223 v225 v282 (ix2 4 a)
    = ∑ t, Ideal.div (Finset.fold max (Ideal.ofBits .f32 0xFF800000#32) (fun a' => Scalar.select (k1_pay37 v223 v282 (ix2 t a')) (v204 (ix2 t a')) 0) Finset.univ)
        (v225 (ix2 t 0) + Ideal.ofBits .f32 0x3089705F#32) * k1_pay40 v223 v282 (ix2 t a) := by
  pointwise [k1_pay41]
theorem pay45_read (a : Fin 8400) : k1_pay45 v12 v13 v14 v15 v204 v223 v225 v282 (ix2 0 a) = ∑ t, v12 (ix2 t 0) * k1_pay40 v223 v282 (ix2 t a) := by
  pointwise [k1_pay45, k1_pay41]
theorem pay46_read (a : Fin 8400) : k1_pay46 v12 v13 v14 v15 v204 v223 v225 v282 (ix2 0 a) = ∑ t, v13 (ix2 t 0) * k1_pay40 v223 v282 (ix2 t a) := by
  pointwise [k1_pay46, k1_pay41]
theorem pay47_read (a : Fin 8400) : k1_pay47 v12 v13 v14 v15 v204 v223 v225 v282 (ix2 0 a) = ∑ t, v14 (ix2 t 0) * k1_pay40 v223 v282 (ix2 t a) := by
  pointwise [k1_pay47, k1_pay41]
theorem pay48_read (a : Fin 8400) : k1_pay48 v12 v13 v14 v15 v204 v223 v225 v282 (ix2 0 a) = ∑ t, v15 (ix2 t 0) * k1_pay40 v223 v282 (ix2 t a) := by
  pointwise [k1_pay48, k1_pay41]
theorem pay49_read (a : Fin 8400) : k1_pay49 v12 v13 v14 v15 v17 v204 v223 v225 v282 (ix2 0 a)
    = max (v17 (ix2 0 a)) (k1_pay46 v12 v13 v14 v15 v204 v223 v225 v282 (ix2 0 a)) := by pointwise [k1_pay49]
theorem pay50_read (a : Fin 8400) : k1_pay50 v12 v13 v14 v15 v19 v204 v223 v225 v282 (ix2 0 a)
    = min (v19 (ix2 0 a)) (k1_pay48 v12 v13 v14 v15 v204 v223 v225 v282 (ix2 0 a)) := by pointwise [k1_pay50]
theorem pay51_read (a : Fin 8400) : k1_pay51 v12 v13 v14 v15 v16 v18 v204 v223 v225 v282 (ix2 0 a)
    = min (v18 (ix2 0 a)) (k1_pay47 v12 v13 v14 v15 v204 v223 v225 v282 (ix2 0 a))
      - max (v16 (ix2 0 a)) (k1_pay45 v12 v13 v14 v15 v204 v223 v225 v282 (ix2 0 a)) := by pointwise [k1_pay51]
theorem pay42_read (a : Fin 8400) : k1_pay42 v12 v13 v14 v15 v204 v223 v225 v282 (ix2 0 a)
    = k1_pay39 v223 v282 (ix2 0 a) * k1_pay41 v12 v13 v14 v15 v204 v223 v225 v282 (ix2 4 a) := by pointwise [k1_pay42]
theorem pay43_read : k1_pay43 v12 v13 v14 v15 v204 v211 v223 v225 v282
    = ∑ a, (∑ t, v211 (ix2 t a) * k1_pay40 v223 v282 (ix2 t a)) * k1_pay42 v12 v13 v14 v15 v204 v223 v225 v282 (ix2 0 a) := by
  pointwise [k1_pay43]
  simp only [Finset.univ_unique, Finset.sum_singleton]
theorem pay44_read : k1_pay44 v12 v13 v14 v15 v204 v223 v225 v282 = ∑ a, k1_pay42 v12 v13 v14 v15 v204 v223 v225 v282 (ix2 0 a) := by
  pointwise [k1_pay44]
  simp only [Finset.univ_unique, Finset.sum_singleton]
theorem pay52_read (z : EReal) (a : Fin 8400) : k1_pay52 v16 v17 v18 v19 g0 g1 g2 g3 v327 v329 v330 z (ix2 0 a)
    = Ideal.div (max (v330 (ix2 0 a)) z * max (v329 (ix2 0 a) - v327 (ix2 0 a)) 0)
      ((v18 (ix2 0 a) - v16 (ix2 0 a)) * (v19 (ix2 0 a) - v17 (ix2 0 a)) + (g2 (ix2 0 a) - g0 (ix2 0 a)) * (g3 (ix2 0 a) - g1 (ix2 0 a))
        - max (v330 (ix2 0 a)) z * max (v329 (ix2 0 a) - v327 (ix2 0 a)) 0 + Ideal.ofBits .f32 0x3089705F#32) := by
  pointwise [k1_pay52]
theorem pay53_read (z : EReal) (a : Fin 8400) : k1_pay53 v16 v17 v18 v19 g0 g1 g2 g3 v327 v329 v330 z (ix2 0 a)
    = k1_pay52 v16 v17 v18 v19 g0 g1 g2 g3 v327 v329 v330 z (ix2 0 a) - Ideal.div
      ((Ideal.div (v18 (ix2 0 a) + v16 (ix2 0 a)) (Ideal.ofBits .f32 0x40000000#32) - Ideal.div (g2 (ix2 0 a) + g0 (ix2 0 a)) (Ideal.ofBits .f32 0x40000000#32))
        * (Ideal.div (v18 (ix2 0 a) + v16 (ix2 0 a)) (Ideal.ofBits .f32 0x40000000#32) - Ideal.div (g2 (ix2 0 a) + g0 (ix2 0 a)) (Ideal.ofBits .f32 0x40000000#32))
        + (Ideal.div (v19 (ix2 0 a) + v17 (ix2 0 a)) (Ideal.ofBits .f32 0x40000000#32) - Ideal.div (g3 (ix2 0 a) + g1 (ix2 0 a)) (Ideal.ofBits .f32 0x40000000#32))
        * (Ideal.div (v19 (ix2 0 a) + v17 (ix2 0 a)) (Ideal.ofBits .f32 0x40000000#32) - Ideal.div (g3 (ix2 0 a) + g1 (ix2 0 a)) (Ideal.ofBits .f32 0x40000000#32)))
      ((max (v18 (ix2 0 a)) (g2 (ix2 0 a)) - min (v16 (ix2 0 a)) (g0 (ix2 0 a))) * (max (v18 (ix2 0 a)) (g2 (ix2 0 a)) - min (v16 (ix2 0 a)) (g0 (ix2 0 a)))
        + (max (v19 (ix2 0 a)) (g3 (ix2 0 a)) - min (v17 (ix2 0 a)) (g1 (ix2 0 a))) * (max (v19 (ix2 0 a)) (g3 (ix2 0 a)) - min (v17 (ix2 0 a)) (g1 (ix2 0 a)))
        + Ideal.ofBits .f32 0x3089705F#32) := by
  pointwise [k1_pay53]
theorem pay55_read (a : Fin 8400) : k1_pay55 (k1_pay54 v16 v17 v18 v19) (ix2 0 a)
    = atanE (Ideal.div (v18 (ix2 0 a) - v16 (ix2 0 a)) (v19 (ix2 0 a) - v17 (ix2 0 a) + Ideal.ofBits .f32 0x3089705F#32)) := by
  pointwise [k1_pay55, k1_pay54]
  rfl

theorem pay61_read (V O C S : FVec Ideal S1x8400 .f32) :
    k1_pay61 V O C S (k1_pay57 g0 g1 g2 g3) (k1_pay58 g0 g1 g2 g3) (k1_pay59 g0 g1 g2 g3) (k1_pay60 g0 g1 g2 g3)
      = ∑ a, (1 - (C (ix2 0 a) - Ideal.div
          (aspE (S (ix2 0 a)) (atanE (Ideal.div (g2 (ix2 0 a) - g0 (ix2 0 a)) (g3 (ix2 0 a) - g1 (ix2 0 a) + Ideal.ofBits .f32 0x3089705F#32))))
          (aspE (S (ix2 0 a)) (atanE (Ideal.div (g2 (ix2 0 a) - g0 (ix2 0 a)) (g3 (ix2 0 a) - g1 (ix2 0 a) + Ideal.ofBits .f32 0x3089705F#32)))
            - O (ix2 0 a) + 1 + Ideal.ofBits .f32 0x3089705F#32)
          * aspE (S (ix2 0 a)) (atanE (Ideal.div (g2 (ix2 0 a) - g0 (ix2 0 a)) (g3 (ix2 0 a) - g1 (ix2 0 a) + Ideal.ofBits .f32 0x3089705F#32)))))
          * V (ix2 0 a) := by
  pointwise [k1_pay61, k1_pay60, k1_pay59, k1_pay58, k1_pay57, k1_pay56]
  simp only [Finset.univ_unique, Finset.sum_singleton]
  rfl

theorem pay1_read (p q r : EReal) : k1_pay1 (F := Ideal) p q r (iota .tc S8x128 32 [0] iota_S8x128_d0_w32) k1_pay62 (ix3 0 1 0) = p
    ∧ k1_pay1 (F := Ideal) p q r (iota .tc S8x128 32 [0] iota_S8x128_d0_w32) k1_pay62 (ix3 0 2 0) = q
    ∧ k1_pay1 (F := Ideal) p q r (iota .tc S8x128 32 [0] iota_S8x128_d0_w32) k1_pay62 (ix3 0 3 0) = r := by
  have e12 : IntOp.cmpi .eq (1#32 : BitVec 32) 2#32 = 0#1 := by decide
  have e13 : IntOp.cmpi .eq (1#32 : BitVec 32) 3#32 = 0#1 := by decide
  have e21 : IntOp.cmpi .eq (2#32 : BitVec 32) 1#32 = 0#1 := by decide
  have e23 : IntOp.cmpi .eq (2#32 : BitVec 32) 3#32 = 0#1 := by decide
  have e31 : IntOp.cmpi .eq (3#32 : BitVec 32) 1#32 = 0#1 := by decide
  have e32 : IntOp.cmpi .eq (3#32 : BitVec 32) 2#32 = 0#1 := by decide
  have s0 : ∀ y : EReal, Scalar.select (0#1) y 0 = (0 : EReal) := fun y => rfl
  refine ⟨?_, ?_, ?_⟩ <;> pointwise [k1_pay1, k1_pay62] <;>
    simp only [e12, e13, e21, e23, e31, e32, s0, add_zero, zero_add]

end

end Cert.Proof.KerV

end
-- ==== Proof.Sums.lean ====
/-
  What the TensorCore call's body stores of one image: the three sums over the anchors.
-/
module

public import proofs.«01_k».proof.Proof.Assign
public import proofs.«01_k».proof.Proof.Reading

@[expose] public section

set_option maxRecDepth 16384

noncomputable section

namespace Cert.Proof.KerV

open Idealize.ShloMosaic Cert.KernelIdeal Cert.KernelIdeal.Gen Cert.Proof.ScKI Cert.Proof.Loss

section
variable {x : Blk Ideal} {d : Data}
open Classical

theorem pay37_at (h : Reads x d) (hd : d.Tidy) (t : Fin 100) (a : Fin 8400) :
    k1_pay37 (Body.v223 x) (Body.v282 x) (ix2 t a) = BitVec.ofBool (decide (d.Chosen t a)) := by
  rw [pay37_read, v223_at h hd, v282_at h hd]
  simp only [EReal.coe_le_coe_iff]
  rfl

theorem pay41_scale (h : Reads x d) (hd : d.Tidy) (a : Fin 8400) :
    k1_pay41 (Body.v12 x) (Body.v13 x) (Body.v14 x) (Body.v15 x) (Body.v204 x) (Body.v223 x) (Body.v225 x) (Body.v282 x) (ix2 4 a)
      = (d.scale (d.owner a) : EReal) := by
  rw [pay41_row4]
  simp only [pay40_at h hd]
  rw [pick]
  simp only [pay37_at h hd, v204_at h hd, v225_at h hd, ofBits_bot, ofBits_K 0x3089705F#32 (by decide),
    ← EReal.coe_zero, select_bool, decide_eq_true_eq, ite_real, fold_max_real, add_real]
  exact div_real (d.best_pos _).ne' _

theorem v322_at (h : Reads x d) (hd : d.Tidy) (a : Fin 8400) : Body.v322 x (ix2 0 a) = d.T (d.owner a) 0 := by
  refine (pay45_read ..).trans ?_
  simp only [pay40_at h hd, pick, v12_at h]
theorem v323_at (h : Reads x d) (hd : d.Tidy) (a : Fin 8400) : Body.v323 x (ix2 0 a) = d.T (d.owner a) 1 := by
  refine (pay46_read ..).trans ?_
  simp only [pay40_at h hd, pick, v13_at h]
theorem v324_at (h : Reads x d) (hd : d.Tidy) (a : Fin 8400) : Body.v324 x (ix2 0 a) = d.T (d.owner a) 2 := by
  refine (pay47_read ..).trans ?_
  simp only [pay40_at h hd, pick, v14_at h]
theorem v325_at (h : Reads x d) (hd : d.Tidy) (a : Fin 8400) : Body.v325 x (ix2 0 a) = d.T (d.owner a) 3 := by
  refine (pay48_read ..).trans ?_
  simp only [pay40_at h hd, pick, v15_at h]
theorem v327_at (h : Reads x d) (hd : d.Tidy) (a : Fin 8400) : Body.v327 x (ix2 0 a) = max (d.P a 1) (d.T (d.owner a) 1) := by
  refine (pay49_read ..).trans ?_
  rw [v17_at h]
  exact congrArg _ (v323_at h hd a)
theorem v329_at (h : Reads x d) (hd : d.Tidy) (a : Fin 8400) : Body.v329 x (ix2 0 a) = min (d.P a 3) (d.T (d.owner a) 3) := by
  refine (pay50_read ..).trans ?_
  rw [v19_at h]
  exact congrArg _ (v325_at h hd a)
theorem v330_at (h : Reads x d) (hd : d.Tidy) (a : Fin 8400) :
    Body.v330 x (ix2 0 a) = min (d.P a 2) (d.T (d.owner a) 2) - max (d.P a 0) (d.T (d.owner a) 0) := by
  refine (pay51_read ..).trans ?_
  rw [v16_at h, v18_at h]
  exact congrArg₂ (fun u v => min _ u - max _ v) (v324_at h hd a) (v322_at h hd a)

theorem pay42_at (h : Reads x d) (hd : d.Tidy) (a : Fin 8400) :
    k1_pay42 (Body.v12 x) (Body.v13 x) (Body.v14 x) (Body.v15 x) (Body.v204 x) (Body.v223 x) (Body.v225 x) (Body.v282 x) (ix2 0 a)
      = (d.weight a : EReal) := by
  rw [pay42_read, pay39_at h hd, pay41_scale h hd]
  exact mul_real _ _

theorem pay43_eq (h : Reads x d) (hd : d.Tidy) :
    k1_pay43 (Body.v12 x) (Body.v13 x) (Body.v14 x) (Body.v15 x) (Body.v204 x) (k1_pay32 (Body.v1 x) (Body.v7 x)) (Body.v223 x) (Body.v225 x) (Body.v282 x)
      = d.hit := by
  rw [pay43_read]
  simp only [pay42_at h hd, pay40_at h hd, pay32_at h]
  simp only [pick]
  rfl

theorem pay44_eq (h : Reads x d) (hd : d.Tidy) :
    k1_pay44 (Body.v12 x) (Body.v13 x) (Body.v14 x) (Body.v15 x) (Body.v204 x) (Body.v223 x) (Body.v225 x) (Body.v282 x) = (d.total : EReal) := by
  rw [pay44_read]
  simp only [pay42_at h hd, sum_real]
  rfl

theorem pay52_at (h : Reads x d) (hd : d.Tidy) (a : Fin 8400) :
    k1_pay52 (Body.v16 x) (Body.v17 x) (Body.v18 x) (Body.v19 x) (Body.v322 x) (Body.v323 x) (Body.v324 x) (Body.v325 x) (Body.v327 x) (Body.v329 x)
      (Body.v330 x) (0 : EReal) (ix2 0 a) = iouE (d.P a) (d.T (d.owner a)) := by
  rw [pay52_read]
  simp only [v16_at h, v17_at h, v18_at h, v19_at h, v322_at h hd, v323_at h hd, v324_at h hd, v325_at h hd, v327_at h hd, v329_at h hd, v330_at h hd]
  rfl

theorem pay53_at (h : Reads x d) (hd : d.Tidy) (a : Fin 8400) :
    k1_pay53 (Body.v16 x) (Body.v17 x) (Body.v18 x) (Body.v19 x) (Body.v322 x) (Body.v323 x) (Body.v324 x) (Body.v325 x) (Body.v327 x) (Body.v329 x)
      (Body.v330 x) (0 : EReal) (ix2 0 a) = iouE (d.P a) (d.T (d.owner a))
        - Ideal.div (farE (d.P a) (d.T (d.owner a))) (diagE (d.P a) (d.T (d.owner a))) := by
  rw [pay53_read, pay52_at h hd]
  simp only [v16_at h, v17_at h, v18_at h, v19_at h, v322_at h hd, v323_at h hd, v324_at h hd, v325_at h hd]
  rfl

theorem pay55_at (h : Reads x d) (a : Fin 8400) :
    k1_pay55 (k1_pay54 (Body.v16 x) (Body.v17 x) (Body.v18 x) (Body.v19 x)) (ix2 0 a) = slantE (d.P a) := by
  rw [pay55_read, v16_at h, v17_at h, v18_at h, v19_at h]
  rfl

theorem pay61_at (h : Reads x d) (hd : d.Tidy) (V O C S : FVec Ideal S1x8400 .f32)
    (hV : ∀ a, V (ix2 0 a) = (d.weight a : EReal)) (hO : ∀ a, O (ix2 0 a) = iouE (d.P a) (d.T (d.owner a)))
    (hC : ∀ a, C (ix2 0 a) = iouE (d.P a) (d.T (d.owner a)) - Ideal.div (farE (d.P a) (d.T (d.owner a))) (diagE (d.P a) (d.T (d.owner a))))
    (hS : ∀ a, S (ix2 0 a) = slantE (d.P a)) :
    k1_pay61 V O C S (k1_pay57 (Body.v322 x) (Body.v323 x) (Body.v324 x) (Body.v325 x)) (k1_pay58 (Body.v322 x) (Body.v323 x) (Body.v324 x) (Body.v325 x))
      (k1_pay59 (Body.v322 x) (Body.v323 x) (Body.v324 x) (Body.v325 x)) (k1_pay60 (Body.v322 x) (Body.v323 x) (Body.v324 x) (Body.v325 x))
      = (d.misfit : EReal) := by
  rw [pay61_read]
  unfold Data.misfit
  rw [← sum_real]
  refine Finset.sum_congr rfl fun a _ => ?_
  rw [hV]
  by_cases hw : d.weight a = 0
  · rw [hw, EReal.coe_zero, mul_zero, mul_zero, EReal.coe_zero]
  · have hg := (d.of_weight a hw).1
    rw [← mul_real, ← sub_real, ← ciouE_real hg (farE_real hg.left hg.right) (slant_real hg), EReal.coe_one, v322_at h hd, v323_at h hd, v324_at h hd, v325_at h hd, hO, hC, hS]
    rfl

theorem zero_bits : (Scalar.ofBits .f32 0x00000000#32 : Ideal .f32) = (0 : EReal) := by
  pointwise []

theorem stored_eq (h : Reads x d) (hd : d.Tidy) :
    stored x (ix3 0 1 0) = d.hit ∧ stored x (ix3 0 2 0) = (d.total : EReal) ∧ stored x (ix3 0 3 0) = (d.misfit : EReal) := by
  unfold stored
  rw [pay43_eq h hd, pay44_eq h hd, zero_bits, pay61_at h hd _ _ _ _ (pay42_at h hd) (pay52_at h hd) (pay53_at h hd) (pay55_at h)]
  exact pay1_read _ _ _

end

end Cert.Proof.KerV

end
-- ==== Proof.Soft.lean ====
/-
  The SparseCore kernel's sum over the extended reals: its 32 rows of 16 partial sums add up to the sum over all logits of
  max(x, 0) + p(exp(-|x|)), with p the degree-8 polynomial, which the kernel evaluates by Horner's rule and the
  reference term by term.
-/
module

public import proofs.«01_k».proof.Proof.LaunchI
public import Idealize.ShloMosaic.Lib.ValueIdx
public import Idealize.ShloMosaic.Lib.ValueIdxRank1
public import Idealize.ShloMosaic.Lib.IdealHost

@[expose] public section

noncomputable section

namespace Cert.Proof.Soft

open Idealize.ShloMosaic
open Idealize.ShloMosaic.ValueIdx (idxEquiv1)
open Idealize.ShloMosaic.Ideal (ofBits_zero_f32 ofBits_one_f32)
open Cert.Proof.ScKI (ixFlat ixLane lanes accOf taskAcc partsOf flat)
open Cert.KernelIdeal (S16 S32x16 S5376000 S8x8400x80 S_)

/-! ## One logit -/

/-- A 32-bit pattern whose exponent field is not all ones denotes a real number. -/
theorem ofBits_real (b : BitVec 32) (h : (b.extractLsb' 23 8).toNat ≠ 255) : ∃ r : ℝ, Ideal.ofBits .f32 b = (r : EReal) := by
  unfold Ideal.ofBits Ideal.ieee
  simp only
  rw [if_neg (by simpa using h)]
  split_ifs <;> exact ⟨_, rfl⟩

/-- exp(-|x|) is a real number, for every extended real x. -/
theorem exp_negabs_real (x : EReal) : ∃ r : ℝ, Ideal.exp (-(max x (-x))) = (r : EReal) := by
  induction x with
  | bot => exact ⟨0, (congrArg Ideal.exp (show -(max (⊥ : EReal) (-⊥)) = ⊥ by simp)).trans rfl⟩
  | top => exact ⟨0, (congrArg Ideal.exp (show -(max (⊤ : EReal) (-⊤)) = ⊥ by simp)).trans rfl⟩
  | coe a =>
    rcases le_total (a : EReal) (-(a : EReal)) with h | h
    · rw [max_eq_right h, neg_neg]; exact ⟨Real.exp a, rfl⟩
    · rw [max_eq_left h, ← EReal.coe_neg]; exact ⟨Real.exp (-a), rfl⟩

/-- The polynomial at z by Horner's rule, as the kernel writes it. -/
def horner (z : EReal) : EReal :=
  (((((((Ideal.ofBits .f32 0xBBC70EB8#32 * z + Ideal.ofBits .f32 0x3D0CF9CC#32) * z + Ideal.ofBits .f32 0xBDBD0E3C#32) * z
    + Ideal.ofBits .f32 0x3E28BC95#32) * z + Ideal.ofBits .f32 0xBE74EE27#32) * z + Ideal.ofBits .f32 0x3EA9A491#32) * z
    + Ideal.ofBits .f32 0xBEFFE5EE#32) * z + Ideal.ofBits .f32 0x3F7FFF71#32) * z + Ideal.ofBits .f32 0x33C36677#32

/-- The polynomial at z term by term, as the reference writes it. -/
def powers (z : EReal) : EReal :=
  0 + Ideal.ofBits .f32 0x33C36677#32 * 1 + Ideal.ofBits .f32 0x3F7FFF71#32 * z + Ideal.ofBits .f32 0xBEFFE5EE#32 * (z * z)
    + Ideal.ofBits .f32 0x3EA9A491#32 * (z * z * z) + Ideal.ofBits .f32 0xBE74EE27#32 * (z * z * (z * z))
    + Ideal.ofBits .f32 0x3E28BC95#32 * (z * (z * z * (z * z))) + Ideal.ofBits .f32 0xBDBD0E3C#32 * (z * z * (z * z * (z * z)))
    + Ideal.ofBits .f32 0x3D0CF9CC#32 * (z * (z * z) * (z * z * (z * z))) + Ideal.ofBits .f32 0xBBC70EB8#32 * (z * z * (z * z) * (z * z * (z * z)))

theorem horner_eq_powers (r : ℝ) : horner (r : EReal) = powers (r : EReal) := by
  unfold horner powers
  obtain ⟨c0, h0⟩ := ofBits_real 0x33C36677#32 (by decide)
  obtain ⟨c1, h1⟩ := ofBits_real 0x3F7FFF71#32 (by decide)
  obtain ⟨c2, h2⟩ := ofBits_real 0xBEFFE5EE#32 (by decide)
  obtain ⟨c3, h3⟩ := ofBits_real 0x3EA9A491#32 (by decide)
  obtain ⟨c4, h4⟩ := ofBits_real 0xBE74EE27#32 (by decide)
  obtain ⟨c5, h5⟩ := ofBits_real 0x3E28BC95#32 (by decide)
  obtain ⟨c6, h6⟩ := ofBits_real 0xBDBD0E3C#32 (by decide)
  obtain ⟨c7, h7⟩ := ofBits_real 0x3D0CF9CC#32 (by decide)
  obtain ⟨c8, h8⟩ := ofBits_real 0xBBC70EB8#32 (by decide)
  rw [h0, h1, h2, h3, h4, h5, h6, h7, h8, mul_one, zero_add]
  norm_cast
  ring

/-- The softplus of one logit, as the kernel and as the reference write it. -/
def sp (x : EReal) : EReal := max x 0 + horner (Ideal.exp (-(max x (-x))))
theorem sp_eq (x : EReal) : sp x = max x 0 + powers (Ideal.exp (-(max x (-x)))) := by
  obtain ⟨r, hr⟩ := exp_negabs_real x
  unfold sp
  rw [hr, horner_eq_powers]

/-! ## The kernel's sums -/

theorem pay7_apply (acc : FVec Ideal S16 .f32) (v : Vec Ideal S16 .f32) (i : S16.Idx) :
    Cert.KernelIdeal.Gen.k0_pay7 acc v i = acc i + sp (v i) := by
  unfold Cert.KernelIdeal.Gen.k0_pay7
  simp only [shapeCast_self]
  show acc i + (max (v i) (Ideal.ofBits .f32 0x00000000#32) + _) = _
  rw [ofBits_zero_f32]
  unfold sp horner
  rw [← zero_sub (max (v i) (-(v i))), ← ofBits_zero_f32]
  rfl

theorem pay5_apply (i : S16.Idx) : (Cert.KernelIdeal.Gen.k0_pay5 : FVec Ideal S16 .f32) i = 0 := by
  unfold Cert.KernelIdeal.Gen.k0_pay5
  simp only [shapeCast_self]
  exact ofBits_zero_f32

/-- The softplus of entry `n` of the flat logits. -/
def spAt (x : Vec Ideal S5376000 .f32) (n : ℕ) : EReal := sp (x (ixFlat (n % 5376000) (Nat.mod_lt _ (by decide))))

theorem accOf_apply (x : Vec Ideal S5376000 .f32) (n : ℕ) (init : FVec Ideal S16 .f32) (i : S16.Idx) (k : ℕ) :
    accOf x n init k i = init i + ∑ j ∈ Finset.range k, spAt x (n + 16 * j + (i 0).val) := by
  induction k with
  | zero => simp [accOf]
  | succ k ih => rw [Finset.sum_range_succ, ← add_assoc, ← ih]; exact pay7_apply _ _ _

theorem taskAcc_apply (x : Vec Ideal S5376000 .f32) (w : ℕ) (i : S16.Idx) (b : ℕ) :
    taskAcc x w b i = ∑ b' ∈ Finset.range b, ∑ j ∈ Finset.range 1750, spAt x (168000 * w + 28000 * b' + 16 * j + (i 0).val) := by
  induction b with
  | zero => exact pay5_apply i
  | succ b ih => rw [Finset.sum_range_succ, ← ih]; exact accOf_apply _ _ _ _ _

/-- A sum over the numbers below a product, block by block. -/
theorem sum_range_blocks (g : ℕ → EReal) (A B : ℕ) :
    ∑ a ∈ Finset.range A, ∑ b ∈ Finset.range B, g (B * a + b) = ∑ n ∈ Finset.range (B * A), g n := by
  induction A with
  | zero => simp
  | succ A ih => rw [Finset.sum_range_succ, ih, Nat.mul_succ, Finset.sum_range_add]

theorem parts_sum (x : Vec Ideal S5376000 .f32) :
    ∑ j : S32x16.Idx, partsOf x j = ∑ n ∈ Finset.range 5376000, spAt x n := by
  have hcover (w : ℕ) : ∑ l ∈ Finset.range 16, ∑ b ∈ Finset.range 6, ∑ j ∈ Finset.range 1750, spAt x (168000 * w + 28000 * b + 16 * j + l)
      = ∑ n ∈ Finset.range 168000, spAt x (168000 * w + n) := by
    rw [Finset.sum_comm]
    have e (b : ℕ) : ∑ l ∈ Finset.range 16, ∑ j ∈ Finset.range 1750, spAt x (168000 * w + 28000 * b + 16 * j + l)
        = ∑ n ∈ Finset.range 28000, spAt x (168000 * w + (28000 * b + n)) := by
      rw [Finset.sum_comm, show 28000 = 16 * 1750 from rfl, ← sum_range_blocks (fun n => spAt x (168000 * w + (16 * 1750 * b + n))) 1750 16]
      exact Finset.sum_congr rfl fun j _ => Finset.sum_congr rfl fun l _ => congrArg (spAt x) (by ring)
    rw [Finset.sum_congr rfl fun b _ => e b]
    exact sum_range_blocks (fun n => spAt x (168000 * w + n)) 6 28000
  have hrow (a : Fin 32) : ∑ l : Fin 16, partsOf x (ValueIdx.ix2 a l) = ∑ n ∈ Finset.range 168000, spAt x (168000 * a.val + n) := by
    rw [← hcover, ← Fin.sum_univ_eq_sum_range (fun l => ∑ b ∈ Finset.range 6, ∑ j ∈ Finset.range 1750, spAt x (168000 * a.val + 28000 * b + 16 * j + l)) 16]
    exact Finset.sum_congr rfl fun l _ => taskAcc_apply x a.val (ixLane l.val l.isLt) 6
  have h0 : ∑ j : S32x16.Idx, partsOf x j = ∑ a : Fin 32, ∑ l : Fin 16, partsOf x (ValueIdx.ix2 a l) := ValueIdx.sum_idx2 (n0 := 32) (n1 := 16) (partsOf x)
  rw [h0, Finset.sum_congr rfl fun a _ => hrow a, Fin.sum_univ_eq_sum_range (fun a => ∑ n ∈ Finset.range 168000, spAt x (168000 * a + n)) 32]
  exact sum_range_blocks (spAt x) 32 168000

theorem flat_sum (x : Vec Ideal S5376000 .f32) : ∑ n ∈ Finset.range 5376000, spAt x n = ∑ i : S5376000.Idx, sp (x i) := by
  rw [← Fin.sum_univ_eq_sum_range (spAt x) 5376000]
  refine Eq.trans (Finset.sum_congr rfl fun i _ => ?_) (Equiv.sum_comp (idxEquiv1 (n := 5376000)).symm fun i : S5376000.Idx => sp (x i))
  refine congrArg (fun i => sp (x i)) (funext fun a => Fin.ext ?_)
  rw [Subsingleton.elim (α := Fin 1) a 0]
  exact Nat.mod_eq_of_lt i.isLt

/-- The host's sum of the SparseCore kernel's output: the sum over all logits. -/
theorem parts_total (x : FVec Ideal S8x8400x80 .f32) (hc : S8x8400x80.ShapeCasts S5376000) :
    ∑ j : S32x16.Idx, partsOf (F := Ideal) (shapeCast S5376000 x hc) j = ∑ i : S8x8400x80.Idx, sp (x i) := by
  rw [parts_sum, flat_sum]
  exact Equiv.sum_comp (Shape.reshapeEquiv hc) fun i => sp (x i)

end Cert.Proof.Soft

end
-- ==== Proof.Blocks.lean ====
/-
  The TensorCore call's blocks: what each grid point reads of its operands' arrays, and what it leaves of its result's.
-/
module

public import proofs.«01_k».proof.Proof.LaunchI
public import proofs.«01_k».proof.Proof.Sums
public import proofs.«01_k».proof.Proof.Soft
public import Idealize.ShloMosaic.Lib.Pipeline.ValueKit

@[expose] public section

set_option maxRecDepth 16384

noncomputable section

namespace Cert.Proof.KerV

open Idealize.ShloMosaic Idealize.ShloMosaic.TcCoe Cert.KernelIdeal Cert.KernelIdeal.Gen Cert.Proof.ScKI Cert.Proof.Loss

theorem points : cfg1.N = 8 := by decide
/-- The image that a grid point takes. -/
def image (t : Fin cfg1.N) : Fin 8 := t.cast points

theorem idx0 : ∀ t : Fin grid1.N, win1_0.index t 0 = t.val ∧ win1_0.index t 1 = 0 ∧ win1_0.index t 2 = 0 := by decide +kernel
theorem idx1 : ∀ t : Fin grid1.N, win1_1.index t 0 = t.val ∧ win1_1.index t 1 = 0 ∧ win1_1.index t 2 = 0 := by decide +kernel
theorem idx2 : ∀ t : Fin grid1.N, win1_2.index t 0 = t.val ∧ win1_2.index t 1 = 0 ∧ win1_2.index t 2 = 0 := by decide +kernel
theorem idx3 : ∀ t : Fin grid1.N, win1_3.index t 0 = t.val ∧ win1_3.index t 1 = 0 ∧ win1_3.index t 2 = 0 := by decide +kernel
theorem idx4 : ∀ t : Fin grid1.N, win1_4.index t 0 = 0 ∧ win1_4.index t 1 = 0 := by decide +kernel
theorem idx5 : ∀ t : Fin grid1.N, win1_5.index t 0 = t.val ∧ win1_5.index t 1 = 0 ∧ win1_5.index t 2 = 0 := by decide +kernel

section
variable {F : FTy → Type} [FloatOps F]
variable (W : (c : Dev nD) → (b : Ref sig .tc) → Buf (Elt F) ((c : Thread nD τ).loc b)) (rec : Dev nD → Set (SemLoc sig × SparseCore.Cfg.HIx 1))

theorem read0 (c : Dev nD) (t : Fin cfg1.N) (a : Fin 8400) (k : Fin 80) :
    (blkAt W c t).x0 (ix3 0 a k) = W c main_arg0 (ix3 (image t) a k) := by
  show ((cfg1.win 0).blk t).view.read (Elt F) (W c main_arg0) (ix3 0 a k) = _
  rw [View.read_apply]
  show W c main_arg0 ((win1_0.rect t).emb (ix3 0 a k)) = _
  refine congrArg (W c main_arg0) (funext fun ax => Fin.ext ?_)
  obtain ⟨h0, h1, h2⟩ := idx0 t
  match ax with
  | ⟨0, _⟩ => refine (win1_0.rect_emb_val t _ 0).trans ?_; rw [h0]; exact Nat.mul_one _
  | ⟨1, _⟩ => exact win1_0.rect_emb_val_of_index_zero t 1 h1 _
  | ⟨2, _⟩ => exact win1_0.rect_emb_val_of_index_zero t 2 h2 _

theorem read1 (c : Dev nD) (t : Fin cfg1.N) (k : Fin 4) (a : Fin 8400) :
    (blkAt W c t).x1 (ix3 0 k a) = W c main_v0 (ix3 (image t) k a) := by
  show ((cfg1.win 1).blk t).view.read (Elt F) (W c main_v0) (ix3 0 k a) = _
  rw [View.read_apply]
  show W c main_v0 ((win1_1.rect t).emb (ix3 0 k a)) = _
  refine congrArg (W c main_v0) (funext fun ax => Fin.ext ?_)
  obtain ⟨h0, h1, h2⟩ := idx1 t
  match ax with
  | ⟨0, _⟩ => refine (win1_1.rect_emb_val t _ 0).trans ?_; rw [h0]; exact Nat.mul_one _
  | ⟨1, _⟩ => exact win1_1.rect_emb_val_of_index_zero t 1 h1 _
  | ⟨2, _⟩ => exact win1_1.rect_emb_val_of_index_zero t 2 h2 _

theorem read2 (c : Dev nD) (t : Fin cfg1.N) (u : Fin 100) (k : Fin 4) :
    (blkAt W c t).x2 (ix3 0 u k) = W c main_arg2 (ix3 (image t) u k) := by
  show ((cfg1.win 2).blk t).view.read (Elt F) (W c main_arg2) (ix3 0 u k) = _
  rw [View.read_apply]
  show W c main_arg2 ((win1_2.rect t).emb (ix3 0 u k)) = _
  refine congrArg (W c main_arg2) (funext fun ax => Fin.ext ?_)
  obtain ⟨h0, h1, h2⟩ := idx2 t
  match ax with
  | ⟨0, _⟩ => refine (win1_2.rect_emb_val t _ 0).trans ?_; rw [h0]; exact Nat.mul_one _
  | ⟨1, _⟩ => exact win1_2.rect_emb_val_of_index_zero t 1 h1 _
  | ⟨2, _⟩ => exact win1_2.rect_emb_val_of_index_zero t 2 h2 _

theorem read3 (c : Dev nD) (t : Fin cfg1.N) (u : Fin 100) :
    (blkAt W c t).x3 (ix3 0 0 u) = W c main_v2 (ix3 (image t) 0 u) := by
  show ((cfg1.win 3).blk t).view.read (Elt F) (W c main_v2) (ix3 0 0 u) = _
  rw [View.read_apply]
  show W c main_v2 ((win1_3.rect t).emb (ix3 0 0 u)) = _
  refine congrArg (W c main_v2) (funext fun ax => Fin.ext ?_)
  obtain ⟨h0, h1, h2⟩ := idx3 t
  match ax with
  | ⟨0, _⟩ => refine (win1_3.rect_emb_val t _ 0).trans ?_; rw [h0]; exact Nat.mul_one _
  | ⟨1, _⟩ => exact win1_3.rect_emb_val_of_index_zero t 1 h1 _
  | ⟨2, _⟩ => exact win1_3.rect_emb_val_of_index_zero t 2 h2 _

theorem read4 (c : Dev nD) (t : Fin cfg1.N) (k : Fin 2) (a : Fin 8400) :
    (blkAt W c t).x4 (ix2 k a) = W c main_v1 (ix2 k a) := by
  show ((cfg1.win 4).blk t).view.read (Elt F) (W c main_v1) (ix2 k a) = _
  rw [View.read_apply]
  show W c main_v1 ((win1_4.rect t).emb (ix2 k a)) = _
  refine congrArg (W c main_v1) (funext fun ax => Fin.ext ?_)
  obtain ⟨h0, h1⟩ := idx4 t
  match ax with
  | ⟨0, _⟩ => exact win1_4.rect_emb_val_of_index_zero t 0 h0 _
  | ⟨1, _⟩ => exact win1_4.rect_emb_val_of_index_zero t 1 h1 _

theorem out_eq [∀ e, Nonempty (Elt F e)] (x : Blk F) : out x = stored x :=
  View.canon_cons_unit_zero (funext (by decide)) _ _ _

/-- The grid points write different images' blocks. -/
theorem apart5 (t t' : Fin cfg1.N) (_ : (cfg1.win 5).flush t = true) (_ : (cfg1.win 5).flush t' = true) (h : t ≠ t') :
    Disjoint ((cfg1.win 5).blk t).view.set ((cfg1.win 5).blk t').view.set :=
  (cfg1.win 5).disjoint_blk (fun e => h (Fin.ext (by
    have := congrFun e 0
    rwa [show (cfg1.win 5).index t 0 = t.val from (idx5 t).1, show (cfg1.win 5).index t' 0 = t'.val from (idx5 t').1] at this)))

theorem array5 [∀ e, Nonempty (Elt F e)] (c : Dev nD) (t : Fin cfg1.N) (r : Fin 8) (l : Fin 128) :
    tcArr W rec c (ix3 (image t) r l) = stored (blkAt W c t) (ix3 0 r l) := by
  have h := (dats W rec 0 c).arrAt_emb_eq_flushed 5 apart5 t (flush1_5 t) (ix3 0 r l)
  rw [Pipeline.Dat.flushed_apply, after_5, out_eq] at h
  refine Eq.trans ?_ h
  show tcArr W rec c _ = tcArr W rec c ((win1_5.rect t).emb (ix3 0 r l))
  refine congrArg (tcArr W rec c) (funext fun ax => Fin.ext ?_)
  obtain ⟨h0, h1, h2⟩ := idx5 t
  match ax with
  | ⟨0, _⟩ => symm; refine (win1_5.rect_emb_val t _ 0).trans ?_; rw [h0]; exact Nat.mul_one _
  | ⟨1, _⟩ => exact (win1_5.rect_emb_val_of_index_zero t 1 h1 (ix3 0 r l)).symm
  | ⟨2, _⟩ => exact (win1_5.rect_emb_val_of_index_zero t 2 h2 (ix3 0 r l)).symm

end

/-! ## The program's arguments -/

/-- The five arguments on a device hold the images' numbers. -/
structure Holds (m : (ℓ : Loc nD τ sig) → Buf (Elt Ideal) ℓ) (c : Dev nD) (d : Fin 8 → Data) : Prop where
  x0 : ∀ b a k, m ((c.tc : Thread nD τ).loc main_arg0) (ix3 b a k) = (d b).X a k
  x1 : ∀ b a k, m ((c.tc : Thread nD τ).loc main_arg1) (ix3 b a k) = (d b).P a k
  x2 : ∀ b t k, m ((c.tc : Thread nD τ).loc main_arg2) (ix3 b t k) = (d b).T t k
  x3 : ∀ b t, m ((c.tc : Thread nD τ).loc main_arg3) (ix2 b t) = BitVec.ofNat 32 ((d b).C t).val
  x4 : ∀ b a k, m ((c.tc : Thread nD τ).loc main_arg4) (ix2 a k) = (d b).N a k

section
variable {m : (ℓ : Loc nD τ sig) → Buf (Elt Ideal) ℓ} {c : Dev nD} {d : Fin 8 → Data}

theorem V2_of (b : DevRef τ sig) (h : b ≠ o') : V2 m c b = V1 m c b := Function.update_of_ne h _ _

theorem in0 : V2 m c (Proc.devRef .tc main_arg0) = m ((c.tc : Thread nD τ).loc main_arg0) := by
  rw [V2_of _ (by decide)]; unfold V1; after_results_simp; rfl
theorem in2 : V2 m c (Proc.devRef .tc main_arg2) = m ((c.tc : Thread nD τ).loc main_arg2) := by
  rw [V2_of _ (by decide)]; unfold V1; after_results_simp; rfl
theorem in_v0 : V2 m c (Proc.devRef .tc main_v0)
    = transpose S8x4x8400 [0, 2, 1] (m ((c.tc : Thread nD τ).loc main_arg1)) transposes_S8x8400x4_S8x4x8400_0_2_1 := by
  rw [V2_of _ (by decide)]; unfold V1; after_results_simp; rfl
theorem in_v1 : V2 m c (Proc.devRef .tc main_v1)
    = transpose S2x8400 [1, 0] (m ((c.tc : Thread nD τ).loc main_arg4)) transposes_S8400x2_S2x8400_1_0 := by
  rw [V2_of _ (by decide)]; unfold V1; after_results_simp; rfl
theorem in_v2 : V2 m c (Proc.devRef .tc main_v2)
    = shapeCast (s := S8x100) S8x1x100 (m ((c.tc : Thread nD τ).loc main_arg3)) shapeCasts_S8x100_S8x1x100 := by
  rw [V2_of _ (by decide)]; unfold V1; after_results_simp; rfl

theorem swap_at (x : FVec Ideal S8x8400x4 .f32) (b : Fin 8) (k : Fin 4) (a : Fin 8400) :
    transpose S8x4x8400 [0, 2, 1] x transposes_S8x8400x4_S8x4x8400_0_2_1 (ix3 b k a) = x (ix3 b a k) := by
  pointwise []
theorem turn_at (x : FVec Ideal S8400x2 .f32) (k : Fin 2) (a : Fin 8400) :
    transpose S2x8400 [1, 0] x transposes_S8400x2_S2x8400_1_0 (ix2 k a) = x (ix2 a k) := by
  pointwise []
theorem row_at (x : IVec S8x100 32) (b : Fin 8) (t : Fin 100) :
    shapeCast (s := S8x100) S8x1x100 x shapeCasts_S8x100_S8x1x100 (ix3 b 0 t) = x (ix2 b t) := by
  pointwise []

theorem reads (h : Holds m c d) (t : Fin cfg1.N) : Reads (blkAt (fun c b => V2 m c b) c t) (d (image t)) where
  x0 a k := (read0 _ c t a k).trans ((congrFun in0 _).trans (h.x0 _ a k))
  x1 k a := (read1 _ c t k a).trans ((congrFun in_v0 _).trans ((swap_at _ _ k a).trans (h.x1 _ a k)))
  x2 u k := (read2 _ c t u k).trans ((congrFun in2 _).trans (h.x2 _ u k))
  x3 u := (read3 _ c t u).trans ((congrFun in_v2 _).trans ((row_at _ _ u).trans (h.x3 _ u)))
  x4 k a := (read4 _ c t k a).trans ((congrFun in_v1 _).trans ((turn_at _ k a).trans (h.x4 (image t) a k)))

theorem partials (h : Holds m c d) (hd : ∀ b, (d b).Tidy) (b : Fin 8) :
    tcOut m c (ix3 b 1 0) = (d b).hit ∧ tcOut m c (ix3 b 2 0) = ((d b).total : EReal)
      ∧ tcOut m c (ix3 b 3 0) = ((d b).misfit : EReal) := by
  obtain ⟨t, rfl⟩ : ∃ t, image t = b := ⟨b.cast points.symm, rfl⟩
  have e := fun r : Fin 8 => array5 (fun c b => V2 m c b) (recs (F := Ideal)) c t r 0
  have s := stored_eq (reads h t) (hd _)
  exact ⟨(e 1).trans s.1, (e 2).trans s.2.1, (e 3).trans s.2.2⟩

/-! ## The result -/

theorem host_read (s : FVec Ideal S32x16 .f32) (p : FVec Ideal S8x8x128 .f32) :
    hostOut (F := Ideal) s p ix0 = Ideal.div
      (Ideal.ofBits .f32 0x3F000000#32 * ((∑ i : Fin 32, ∑ j : Fin 16, s (ix2 i j)) - ∑ b : Fin 8, p (ix3 b 1 0))
        + Ideal.ofBits .f32 0x40F00000#32 * ∑ b : Fin 8, p (ix3 b 3 0))
      (max (∑ b : Fin 8, p (ix3 b 2 0)) (Ideal.ofBits .f32 0x3089705F#32)) := by
  pointwise [hostOut]

theorem total_soft (h : Holds m c d) :
    ∑ i : Fin 32, ∑ j : Fin 16, partsOf (flat m c) (ix2 i j) = ∑ b, ∑ a, ∑ k, Soft.sp ((d b).X a k) := by
  rw [← sum_idx2 (fun j : S32x16.Idx => partsOf (flat m c) j)]
  refine (Soft.parts_total _ _).trans ?_
  rw [sum_idx3]
  exact Finset.sum_congr rfl fun b _ => Finset.sum_congr rfl fun a _ => Finset.sum_congr rfl fun k _ => congrArg Soft.sp (h.x0 b a k)

theorem value (h : Holds m c d) (hd : ∀ b, (d b).Tidy) :
    Rv m c ix0 = Ideal.div ((K 0x3F000000#32 : EReal) * (∑ b, ∑ a, ∑ k, Soft.sp ((d b).X a k) - ∑ b, (d b).hit)
      + (K 0x40F00000#32 : EReal) * ((∑ b, (d b).misfit : ℝ) : EReal)) ((max (∑ b, (d b).total) (K 0x3089705F#32) : ℝ) : EReal) := by
  refine (host_read _ _).trans ?_
  rw [total_soft h]
  simp only [(partials h hd _).1, (partials h hd _).2.1, (partials h hd _).2.2, sum_real]
  rw [ofBits_K 0x3F000000#32 (by decide), ofBits_K 0x40F00000#32 (by decide), ofBits_K 0x3089705F#32 (by decide), max_real]

end

end Cert.Proof.KerV

end
-- ==== Proof.Order.lean ====
/-
  The ten greatest of a row and the first greatest, as a stable sort finds them, against repeated maxima.
-/
module

public import proofs.«01_k».proof.Proof.Spec
public import Idealize.ShloMosaic.Lib.SortFacts

@[expose] public section

noncomputable section

namespace Cert.Proof.Loss

open Idealize.ShloMosaic

/-- The relation a descending sort of `f` uses. -/
def above {n : ℕ} (f : Fin n → EReal) (k k' : Fin n) : Bool := BitVec.ofBool (decide (f k' < f k)) == 1#1

theorem above_iff {n : ℕ} (f : Fin n → EReal) (k k' : Fin n) : above f k k' = true ↔ f k' < f k := by
  unfold above
  by_cases h : f k' < f k <;> simp [h]

theorem above_false {n : ℕ} (f : Fin n → EReal) (k k' : Fin n) : above f k k' = false ↔ f k ≤ f k' := by
  rw [← not_lt, ← above_iff f k k', Bool.not_eq_true]

theorem sorted_antitone {n : ℕ} (f : Fin n → EReal) (i j : Fin n) (h : i ≤ j) : f (sortedFrom (above f) j) ≤ f (sortedFrom (above f) i) := by
  rcases h.lt_or_eq with h | rfl
  · exact (above_false f _ _).mp (sortedFrom_noInversion (above f) (above f)
      (fun a b hab => (above_false f b a).mpr ((above_iff f a b).mp hab).le) (fun _ _ h => h)
      (fun a b c hab hbc => (above_false f a c).mpr (((above_false f a b).mp hab).trans ((above_false f b c).mp hbc))) i j h)
  · exact le_rfl

theorem head_first {n : ℕ} (f : Fin n → EReal) (l : List (Fin n)) (hl : l.Pairwise (· < ·)) (h : Fin n)
    (hh : (stableSort (above f) l).head? = some h) : h ∈ l ∧ (∀ b ∈ l, f b ≤ f h) ∧ ∀ b ∈ l, b < h → f b < f h := by
  induction l generalizing h with
  | nil => simp [stableSort] at hh
  | cons a l ih =>
    rw [List.pairwise_cons] at hl
    unfold stableSort at hh
    rcases hs : stableSort (above f) l with _ | ⟨c, r⟩
    · have hl0 : l = [] := List.length_eq_zero_iff.mp (by rw [← (perm_stableSort (above f) l).length_eq, hs]; rfl)
      subst hl0
      rw [hs] at hh
      have : a = h := by simpa [insertBefore] using hh
      subst this
      simp
    · obtain ⟨hc, hm, hf⟩ := ih hl.2 c (by rw [hs]; rfl)
      rw [hs] at hh
      unfold insertBefore at hh
      by_cases hca : above f c a = true
      · rw [if_pos hca] at hh
        have : c = h := by simpa using hh
        subst this
        have hlt := (above_iff f c a).mp hca
        refine ⟨List.mem_cons_of_mem _ hc, fun b hb => ?_, fun b hb hbc => ?_⟩
        · rcases List.mem_cons.mp hb with rfl | hb
          · exact hlt.le
          · exact hm b hb
        · rcases List.mem_cons.mp hb with rfl | hb
          · exact hlt
          · exact hf b hb hbc
      · rw [if_neg hca] at hh
        have : a = h := by simpa using hh
        subst this
        have hle := (above_false f c a).mp (by simpa using hca)
        refine ⟨List.mem_cons_self, fun b hb => ?_, fun b hb hba => ?_⟩
        · rcases List.mem_cons.mp hb with rfl | hb
          · exact le_rfl
          · exact (hm b hb).trans hle
        · rcases List.mem_cons.mp hb with rfl | hb
          · exact absurd hba (lt_irrefl _)
          · exact absurd hba (hl.1 b hb).not_gt

/-- The element that a descending sort puts first is the first of the greatest. -/
theorem sorted_first {n : ℕ} [NeZero n] (f : Fin n → EReal) (b : Fin n) :
    f b ≤ f (sortedFrom (above f) 0) ∧ (b < sortedFrom (above f) 0 → f b < f (sortedFrom (above f) 0)) := by
  have hh : (stableSort (above f) (List.finRange n)).head? = some (sortedFrom (above f) 0) := by
    unfold sortedFrom sortPositions
    rw [List.head?_eq_getElem?, List.get_eq_getElem]
    exact List.getElem?_eq_getElem _
  obtain ⟨_, hm, hf⟩ := head_first f _ (List.pairwise_lt_finRange n) _ hh
  exact ⟨hm b (List.mem_finRange b), hf b (List.mem_finRange b)⟩

namespace Data
variable (d : Data)
open Classical

/-- The place of an anchor when a target's anchors are sorted by fitness. -/
def rank (t : Fin 100) (k : Fin 8400) : Fin 8400 := sortedFrom (above fun a => (d.fitness t a : EReal)) k
/-- The first ten fitnesses of each target do not tie unless the eleventh is 0, and none but 0 is below the least bar. -/
def Clear : Prop := ∀ t, (∀ k : Fin 9, d.fitness t (d.rank t ⟨k.val + 1, by omega⟩) < d.fitness t (d.rank t ⟨k.val, by omega⟩)
      ∨ d.fitness t (d.rank t 10) = 0)
    ∧ ∀ k : Fin 10, K 0x0DA24260#32 ≤ d.fitness t (d.rank t ⟨k.val, by omega⟩) ∨ d.fitness t (d.rank t ⟨k.val, by omega⟩) = 0

theorem rank_le (t : Fin 100) {i j : Fin 8400} (h : i ≤ j) : d.fitness t (d.rank t j) ≤ d.fitness t (d.rank t i) :=
  EReal.coe_le_coe_iff.mp (sorted_antitone (fun a => (d.fitness t a : EReal)) i j h)
theorem exists_rank (t : Fin 100) (a : Fin 8400) : ∃ k, d.rank t k = a := sortedFrom_surjective _ a
theorem best_eq (t : Fin 100) : d.best t = d.fitness t (d.rank t 0) := by
  apply le_antisymm
  · refine ciSup_le fun a => ?_
    obtain ⟨k, rfl⟩ := d.exists_rank t a
    exact d.rank_le t (Fin.zero_le k)
  · exact d.fitness_le_best t _

/-- What is strictly less than something at most the k-th fitness is at most the next. -/
theorem next_le (t : Fin 100) (k : ℕ) (hk : k + 1 < 8400) (x : ℝ) (hx : x ≤ d.fitness t (d.rank t ⟨k, by omega⟩)) :
    d.next t x ≤ d.fitness t (d.rank t ⟨k + 1, hk⟩) := by
  refine ciSup_le fun a => ?_
  split_ifs with ha
  · obtain ⟨j, rfl⟩ := d.exists_rank t a
    refine d.rank_le t ?_
    by_contra hj
    have : j ≤ ⟨k, by omega⟩ := by rw [Fin.le_def]; rw [Fin.le_def] at hj; simp only at hj ⊢; omega
    exact absurd (ha.trans_le hx) (not_lt.mpr (d.rank_le t this))
  · linarith [d.fitness_nonneg t (d.rank t ⟨k + 1, hk⟩)]

theorem chain_le (t : Fin 100) (k : ℕ) (hk : k ≤ 9) : (d.next t)^[k] (d.best t) ≤ d.fitness t (d.rank t ⟨k, by omega⟩) := by
  induction k with
  | zero => exact (d.best_eq t).le
  | succ k ih =>
    rw [Function.iterate_succ_apply']
    exact d.next_le t k (by omega) _ (ih (by omega))

theorem chain_eq (t : Fin 100)
    (h : ∀ k : Fin 9, d.fitness t (d.rank t ⟨k.val + 1, by omega⟩) < d.fitness t (d.rank t ⟨k.val, by omega⟩)) (k : ℕ) (hk : k ≤ 9) :
    (d.next t)^[k] (d.best t) = d.fitness t (d.rank t ⟨k, by omega⟩) := by
  induction k with
  | zero => exact d.best_eq t
  | succ k ih =>
    rw [Function.iterate_succ_apply', ih (by omega)]
    refine le_antisymm (d.next_le t k (by omega) _ le_rfl) ?_
    have := le_ciSup (f := fun a => if d.fitness t a < d.fitness t (d.rank t ⟨k, by omega⟩) then d.fitness t a else -1)
      (Set.finite_range _).bddAbove (d.rank t ⟨k + 1, by omega⟩)
    simp only [if_pos (h ⟨k, by omega⟩)] at this
    exact this

theorem chosen_iff (h : d.Clear) (t : Fin 100) (a : Fin 8400) :
    d.Chosen t a ↔ d.fitness t (d.rank t 9) ≤ d.fitness t a ∧ 0 < d.fitness t a := by
  unfold Chosen bar
  by_cases h10 : d.fitness t (d.rank t 10) = 0
  · have hle : (d.next t)^[9] (d.best t) ≤ d.fitness t (d.rank t 9) := d.chain_le t 9 le_rfl
    obtain ⟨j, rfl⟩ := d.exists_rank t a
    have hj : 0 < d.fitness t (d.rank t j) → j.val < 10 := by
      intro h0
      by_contra hj
      have : (10 : Fin 8400) ≤ j := by rw [Fin.le_def]; exact not_lt.mp hj
      have := d.rank_le t this
      linarith
    refine ⟨fun h' => ?_, fun h' => max_le (hle.trans h'.1) ?_⟩
    · have h0 := tiny_pos.trans_le ((le_max_right _ _).trans h')
      exact ⟨d.rank_le t (by rw [Fin.le_def]; exact Nat.le_of_lt_succ (hj h0)), h0⟩
    · exact ((h t).2 ⟨j.val, hj h'.2⟩).resolve_right h'.2.ne'
  · have h9 : 0 < d.fitness t (d.rank t 9) :=
      ((d.fitness_nonneg t _).lt_of_ne (Ne.symm h10)).trans_le (d.rank_le t (by rw [Fin.le_def]; decide))
    have e : (d.next t)^[9] (d.best t) = d.fitness t (d.rank t 9) :=
      d.chain_eq t (fun k => ((h t).1 k).resolve_right h10) 9 le_rfl
    have hb : _ ≤ d.fitness t (d.rank t 9) ∨ d.fitness t (d.rank t 9) = 0 := (h t).2 ⟨9, by omega⟩
    rw [e, max_eq_left (hb.resolve_right h9.ne')]
    exact ⟨fun h' => ⟨h', h9.trans_le h'⟩, fun h' => h'.1⟩

theorem sup_kept (h : d.Clear) (t : Fin 100) : (⨆ a, d.kept t a) = d.best t := by
  apply le_antisymm
  · refine ciSup_le fun a => ?_
    unfold kept
    split_ifs
    · exact d.fitness_le_best t a
    · exact d.best_nonneg t
  · have hle := le_ciSup (f := fun a => d.kept t a) (Set.finite_range _).bddAbove (d.rank t 0)
    refine le_trans ?_ hle
    rw [d.best_eq t]
    rcases (d.fitness_nonneg t (d.rank t 0)).lt_or_eq with h0 | h0
    · have : d.Chosen t (d.rank t 0) := (d.chosen_iff h t _).mpr ⟨d.rank_le t (Fin.zero_le _), h0⟩
      simp only [kept, if_pos this, le_rfl]
    · rw [← h0]; exact d.kept_nonneg _ _

theorem owner_unique (a : Fin 8400) (o : Fin 100) (h1 : ∀ t, d.kept t a ≤ d.kept o a) (h2 : ∀ t < o, d.kept t a < d.kept o a) :
    o = d.owner a := by
  have ho : d.kept o a = d.top a := le_antisymm (d.kept_le_top o a) (ciSup_le h1)
  rcases lt_trichotomy o (d.owner a) with h | h | h
  · exact absurd ho (d.owner_first a o h)
  · exact h
  · have := h2 _ h
    rw [d.kept_owner, ho] at this
    exact absurd this (lt_irrefl _)

/-- The place that a descending sort of an anchor's targets puts first. -/
theorem owner_eq (a : Fin 8400) : sortedFrom (above fun t => (d.kept t a : EReal)) 0 = d.owner a := by
  refine d.owner_unique a _ (fun t => ?_) (fun t ht => ?_)
  · exact EReal.coe_le_coe_iff.mp (sorted_first (fun t => (d.kept t a : EReal)) t).1
  · exact EReal.coe_lt_coe_iff.mp ((sorted_first (fun t => (d.kept t a : EReal)) t).2 ht)

theorem weight_eq (h : d.Clear) (a : Fin 8400) :
    d.kept (d.owner a) a * d.peak (d.owner a) / ((⨆ a', d.kept (d.owner a) a') + K 0x3089705F#32) = d.weight a := by
  rw [d.sup_kept h, d.kept_owner]
  unfold weight scale
  ring

theorem weight_none (a : Fin 8400) (h : ∀ t, ¬ d.Chosen t a) : d.weight a = 0 := by
  have : d.top a = 0 := by rw [← d.kept_owner]; exact if_neg (h _)
  unfold weight; rw [this, zero_mul]

end Data

end Cert.Proof.Loss

end
-- ==== Proof.Pair.lean ====
/-
  The reference's matrices of targets and anchors, up to the overlap.
-/
module

public import proofs.«01_k».proof.Proof.Gen.ReferenceIdeal.Run
public import proofs.«01_k».proof.Proof.Order

@[expose] public section

set_option maxRecDepth 16384

noncomputable section

namespace Cert.Proof.RefV

open Idealize.ShloMosaic Cert.ReferenceIdeal Cert.ReferenceIdeal.Value Cert.ReferenceIdeal.Gen Cert.Proof.Loss

/-- The reference's arguments hold the images' inputs. -/
structure Given (V : Valuation τ sig (Elt Ideal)) (d : Fin 8 → Data) : Prop where
  x0 : ∀ b a c, V (Proc.devRef .tc main_arg0) (ix3 b a c) = (d b).X a c
  x1 : ∀ b a k, V (Proc.devRef .tc main_arg1) (ix3 b a k) = (d b).P a k
  x2 : ∀ b t k, V (Proc.devRef .tc main_arg2) (ix3 b t k) = (d b).T t k
  x3 : ∀ b t, V (Proc.devRef .tc main_arg3) (ix2 b t) = BitVec.ofNat 32 ((d b).C t).val
  x4 : ∀ b a k, V (Proc.devRef .tc main_arg4) (ix2 a k) = (d b).N a k

section
variable {V : Valuation τ sig (Elt Ideal)} {d : Fin 8 → Data}

/-! ## Corners and anchors -/

theorem v3_at (h : Given V d) (b : Fin 8) (t : Fin 100) (a : Fin 8400) : res_main_v3 V (ix3 b t a) = (d b).T t 0 := by
  pointwise [res_main_v3]; exact h.x2 b t 0
theorem v7_at (h : Given V d) (b : Fin 8) (t : Fin 100) (a : Fin 8400) : res_main_v7 V (ix3 b t a) = (d b).T t 1 := by
  pointwise [res_main_v7]; exact h.x2 b t 1
theorem v11_at (h : Given V d) (b : Fin 8) (t : Fin 100) (a : Fin 8400) : res_main_v11 V (ix3 b t a) = (d b).T t 2 := by
  pointwise [res_main_v11]; exact h.x2 b t 2
theorem v15_at (h : Given V d) (b : Fin 8) (t : Fin 100) (a : Fin 8400) : res_main_v15 V (ix3 b t a) = (d b).T t 3 := by
  pointwise [res_main_v15]; exact h.x2 b t 3
theorem v19_at (h : Given V d) (b : Fin 8) (t : Fin 100) (a : Fin 8400) : res_main_v19 V (ix3 b t a) = (d b).P a 0 := by
  pointwise [res_main_v19]; exact h.x1 b a 0
theorem v23_at (h : Given V d) (b : Fin 8) (t : Fin 100) (a : Fin 8400) : res_main_v23 V (ix3 b t a) = (d b).P a 1 := by
  pointwise [res_main_v23]; exact h.x1 b a 1
theorem v27_at (h : Given V d) (b : Fin 8) (t : Fin 100) (a : Fin 8400) : res_main_v27 V (ix3 b t a) = (d b).P a 2 := by
  pointwise [res_main_v27]; exact h.x1 b a 2
theorem v31_at (h : Given V d) (b : Fin 8) (t : Fin 100) (a : Fin 8400) : res_main_v31 V (ix3 b t a) = (d b).P a 3 := by
  pointwise [res_main_v31]; exact h.x1 b a 3
theorem v34_at (h : Given V d) (b : Fin 8) (t : Fin 100) (a : Fin 8400) : res_main_v34 V (ix3 b t a) = (d b).N a 0 := by
  pointwise [res_main_v34]; exact h.x4 b a 0
theorem v37_at (h : Given V d) (b : Fin 8) (t : Fin 100) (a : Fin 8400) : res_main_v37 V (ix3 b t a) = (d b).N a 1 := by
  pointwise [res_main_v37]; exact h.x4 b a 1

open Classical in
theorem v44_at (h : Given V d) (b : Fin 8) (t : Fin 100) (a : Fin 8400) :
    res_main_v44 V (ix3 b t a) = BitVec.ofBool (decide ((d b).Valid t a)) := by
  pointwise [res_main_v44]
  simp only [v3_at h, v7_at h, v11_at h, v15_at h, v34_at h, v37_at h]
  unfold Data.Valid
  by_cases h0 : (d b).T t 0 < (d b).N a 0 <;> by_cases h1 : (d b).N a 0 < (d b).T t 2 <;> by_cases h2 : (d b).T t 1 < (d b).N a 1 <;>
    by_cases h3 : (d b).N a 1 < (d b).T t 3 <;> simp [h0, h1, h2, h3, IntOp.andi]

/-! ## The overlap -/

theorem v55_at (h : Given V d) (b : Fin 8) (t : Fin 100) (a : Fin 8400) :
    res_main_v55 V (ix3 b t a) = interE ((d b).T t) ((d b).P a) := by
  pointwise [res_main_v55]
  simp only [v3_at h, v7_at h, v11_at h, v15_at h, v19_at h, v23_at h, v27_at h, v31_at h]
  rfl

theorem v66_at (h : Given V d) (b : Fin 8) (t : Fin 100) (a : Fin 8400) :
    res_main_v66 V (ix3 b t a) = iouE ((d b).T t) ((d b).P a) := by
  pointwise [res_main_v66]
  simp only [v55_at h, v3_at h, v7_at h, v11_at h, v15_at h, v19_at h, v23_at h, v27_at h, v31_at h]
  rfl

theorem v79_at (h : Given V d) (b : Fin 8) (t : Fin 100) (a : Fin 8400) : res_main_v79 V (ix3 b t a)
    = Ideal.div ((d b).T t 2 + (d b).T t 0) (Ideal.ofBits .f32 0x40000000#32)
      - Ideal.div ((d b).P a 2 + (d b).P a 0) (Ideal.ofBits .f32 0x40000000#32) := by
  pointwise [res_main_v79]
  rw [v3_at h, v11_at h, v19_at h, v27_at h]

theorem v81_at (h : Given V d) (b : Fin 8) (t : Fin 100) (a : Fin 8400) : res_main_v81 V (ix3 b t a)
    = Ideal.div ((d b).T t 3 + (d b).T t 1) (Ideal.ofBits .f32 0x40000000#32)
      - Ideal.div ((d b).P a 3 + (d b).P a 1) (Ideal.ofBits .f32 0x40000000#32) := by
  pointwise [res_main_v81]
  rw [v7_at h, v15_at h, v23_at h, v31_at h]

theorem v86_at (h : Given V d) (b : Fin 8) (t : Fin 100) (a : Fin 8400) : res_main_v86 V (ix3 b t a)
    = max ((d b).T t 2) ((d b).P a 2) - min ((d b).T t 0) ((d b).P a 0) := by
  pointwise [res_main_v86]
  rw [v3_at h, v11_at h, v19_at h, v27_at h]

theorem v89_at (h : Given V d) (b : Fin 8) (t : Fin 100) (a : Fin 8400) : res_main_v89 V (ix3 b t a)
    = max ((d b).T t 3) ((d b).P a 3) - min ((d b).T t 1) ((d b).P a 1) := by
  pointwise [res_main_v89]
  rw [v7_at h, v15_at h, v23_at h, v31_at h]

theorem v101_at (h : Given V d) (b : Fin 8) (t : Fin 100) (a : Fin 8400) (hg : Good ((d b).T t) ((d b).P a)) :
    res_main_v101 V (ix3 b t a) = (slope (re ((d b).T t)) : EReal) := by
  pointwise [res_main_v101]
  rw [v3_at h, v7_at h, v11_at h, v15_at h, hg.left 0, hg.left 1, hg.left 2, hg.left 3, ofBits_K 0x3089705F#32 (by decide), sub_real, sub_real,
    add_real, div_real (slope_pos hg.ordLeft).ne']
  rfl

theorem v170_at (h : Given V d) (b : Fin 8) (t : Fin 100) (a : Fin 8400) (hg : Good ((d b).T t) ((d b).P a)) :
    res_main_v170 V (ix3 b t a) = (slope (re ((d b).P a)) : EReal) := by
  pointwise [res_main_v170]
  rw [v19_at h, v23_at h, v27_at h, v31_at h, hg.right 0, hg.right 1, hg.right 2, hg.right 3, ofBits_K 0x3089705F#32 (by decide), sub_real, sub_real,
    add_real, div_real (slope_pos hg.ordRight).ne']
  rfl

/-- The quotient that the fit is taken at. -/
theorem arg_at (z : ℝ) : (if (z : EReal) ≤ 1 then (z : EReal) else Ideal.div 1 (z : EReal)) = (arg z : EReal) := by
  unfold arg
  rw [← EReal.coe_one]
  simp only [EReal.coe_le_coe_iff]
  split_ifs with hz
  · rfl
  · rw [div_real (by linarith)]

/-- The fit of a slope from the fit of the quotient, in the two ranges. -/
theorem atan_at (z : ℝ) : (if (z : EReal) ≤ 1 then (fit (arg z) : EReal) else Ideal.ofBits .f32 0x3FC90FDB#32 - (fit (arg z) : EReal))
    = (Loss.atan z : EReal) := by
  unfold Loss.atan
  rw [← EReal.coe_one, ofBits_K 0x3FC90FDB#32 (by decide), sub_real]
  simp only [EReal.coe_le_coe_iff, ite_real]

theorem v160_at (h : Given V d) (b : Fin 8) (t : Fin 100) (a : Fin 8400) (hg : Good ((d b).T t) ((d b).P a)) :
    res_main_v160 V (ix3 b t a) = (fit (arg (slope (re ((d b).T t)))) : EReal) := by
  have e : res_main_v106 V (ix3 b t a) = (arg (slope (re ((d b).T t))) : EReal) := by
    pointwise [res_main_v106]
    rw [v101_at h b t a hg]
    exact arg_at _
  pointwise [res_main_v160, res_main_v116, res_main_v122, res_main_v129, res_main_v130, res_main_v136, res_main_v138, res_main_v144,
    res_main_v145, res_main_v152, res_main_v154]
  simp only [e, ofBits_K 0xBB84D7E7#32 (by decide), ofBits_K 0x3CB31652#32 (by decide), ofBits_K 0xBD6501C4#32 (by decide),
    ofBits_K 0x3DC577DF#32 (by decide), ofBits_K 0xBE0E6C63#32 (by decide), ofBits_K 0x3E4C40A6#32 (by decide),
    ofBits_K 0xBEAAA61C#32 (by decide), ofBits_K 0x3F7FFFF5#32 (by decide), add_real, mul_real]
  congr 1
  unfold fit
  ring

theorem v229_at (h : Given V d) (b : Fin 8) (t : Fin 100) (a : Fin 8400) (hg : Good ((d b).T t) ((d b).P a)) :
    res_main_v229 V (ix3 b t a) = (fit (arg (slope (re ((d b).P a)))) : EReal) := by
  have e : res_main_v175 V (ix3 b t a) = (arg (slope (re ((d b).P a))) : EReal) := by
    pointwise [res_main_v175]
    rw [v170_at h b t a hg]
    exact arg_at _
  pointwise [res_main_v229, res_main_v185, res_main_v191, res_main_v198, res_main_v199, res_main_v205, res_main_v207, res_main_v213,
    res_main_v214, res_main_v221, res_main_v223]
  simp only [e, ofBits_K 0xBB84D7E7#32 (by decide), ofBits_K 0x3CB31652#32 (by decide), ofBits_K 0xBD6501C4#32 (by decide),
    ofBits_K 0x3DC577DF#32 (by decide), ofBits_K 0xBE0E6C63#32 (by decide), ofBits_K 0x3E4C40A6#32 (by decide),
    ofBits_K 0xBEAAA61C#32 (by decide), ofBits_K 0x3F7FFFF5#32 (by decide), add_real, mul_real]
  congr 1
  unfold fit
  ring

/-- The difference of the two fits. -/
def turn (V : Valuation τ sig (Elt Ideal)) (b : Fin 8) (t : Fin 100) (a : Fin 8400) : EReal := res_main_v235 V (ix3 b t a)

theorem v238_read (V : Valuation τ sig (Elt Ideal)) (b : Fin 8) (t : Fin 100) (a : Fin 8400) :
    res_main_v238 V (ix3 b t a) = Ideal.ofBits .f32 0x3ECF817B#32 * (turn V b t a * turn V b t a) := by
  pointwise [res_main_v238]
  rfl

theorem v238_at (h : Given V d) (b : Fin 8) (t : Fin 100) (a : Fin 8400) (hg : Good ((d b).T t) ((d b).P a)) :
    res_main_v238 V (ix3 b t a) = (asp (re ((d b).T t)) (re ((d b).P a)) : EReal) := by
  have e : turn V b t a = ((Loss.atan (slope (re ((d b).T t))) - Loss.atan (slope (re ((d b).P a))) : ℝ) : EReal) := by
    unfold turn
    pointwise [res_main_v235]
    rw [v101_at h b t a hg, v160_at h b t a hg, v170_at h b t a hg, v229_at h b t a hg, atan_at, atan_at, sub_real]
  rw [v238_read, e, ofBits_K 0x3ECF817B#32 (by decide), mul_real, mul_real]
  unfold asp
  rw [sq]

theorem v247_at (h : Given V d) (b : Fin 8) (t : Fin 100) (a : Fin 8400) :
    res_main_v247 V (ix3 b t a) = ((d b).overlap t a : EReal) := by
  have e1 : id (constant (F := Ideal) S_ .f32 0x3F800000#32) ix0 = (1 : EReal) := Ideal.ofBits_one_f32
  have e0 : id (constant (F := Ideal) S_ .f32 0x00000000#32) ix0 = (0 : EReal) := Ideal.ofBits_zero_f32
  have e : res_main_v247 V (ix3 b t a) = min 1 (max 0 (ciouE (iouE ((d b).T t) ((d b).P a))
      (Ideal.div (farE ((d b).T t) ((d b).P a)) (diagE ((d b).T t) ((d b).P a))) (res_main_v238 V (ix3 b t a)))) := by
    pointwise [res_main_v247]
    rw [e0, e1, v66_at h, v79_at h, v81_at h, v86_at h, v89_at h]
    rfl
  rw [e]
  unfold Data.overlap
  split_ifs with hg
  · rw [ciouE_real hg (farE_real hg.left hg.right) (v238_at h b t a hg), ← EReal.coe_zero, ← EReal.coe_one, max_real, min_real, max_comm,
      min_eq_right (max_le (ciou_le_one hg.ordLeft hg.ordRight) zero_le_one)]
  · rw [max_eq_left]
    · exact min_eq_right (zero_le_one (α := EReal))
    · refine none_of (iouE_nonpos hg) (div_nonneg_of (farE_nonneg _ _) (diagE_pos _ _)) ?_
      rw [v238_read]
      exact scaled_square _

end

end Cert.Proof.RefV

end
-- ==== Proof.Lookup.lean ====
/-
  The reference's gathers and its two sorts, read at an element.
-/
module

public import proofs.«01_k».proof.Proof.Gen.ReferenceIdeal.Run
public import proofs.«01_k».proof.Proof.Order
public import Idealize.ShloMosaic.Lib.StableHlo.Predicate

@[expose] public section

set_option maxRecDepth 16384

noncomputable section

namespace Cert.Proof.RefV

open Idealize.ShloMosaic Cert.ReferenceIdeal Cert.ReferenceIdeal.Value Cert.ReferenceIdeal.Gen Cert.Proof.Loss

/-! ## Gathers at small words -/

theorem word_small (c n : ℕ) (h : c < n) (hn : n ≤ 100) : min (BitVec.ofNat 32 c).toInt.toNat (n - 1) = c := by
  rw [StableHlo.Predicate.toInt_ofNat_small c (by omega)]
  omega

theorem gather_class {α : Type} (x : S8x80x8400.Idx → α) (i : IVec S8x100x1 32) (b : Fin 8) (t : Fin 100) (a : Fin 8400) (c : Fin 80)
    (h : i (ix3 b t 0) = BitVec.ofNat 32 c.val) :
    Host.gather gather_S8x80x8400_S8x100x1_S8x100x8400_2_1_0_0_1_2_118400 x i (ix3 b t a) = x (ix3 b c a) := by
  unfold Host.gather
  congr 1
  funext k
  apply Fin.ext
  match k with
  | ⟨0, _⟩ =>
    simp only [GatherDims.operandIdx, GatherDims.start, GatherDims.batchCoord, GatherDims.offCoord]
    rw [dif_neg (by decide +revert), dif_pos (by decide +revert), dif_neg (by decide +revert)]
    exact Nat.zero_add _
  | ⟨1, _⟩ =>
    simp only [GatherDims.operandIdx, GatherDims.start, GatherDims.batchCoord, GatherDims.offCoord]
    rw [dif_pos (by decide +revert), dif_neg (by decide +revert), dif_neg (by decide +revert)]
    refine Eq.trans ?_ (word_small c.val 80 c.isLt (by decide))
    rw [← h]
    show min (i _).toInt.toNat (80 - 1) = _
    congr 3
    congr 1
    funext k
    match k with
    | ⟨0, _⟩ => rfl
    | ⟨1, _⟩ => rfl
    | ⟨2, _⟩ => rfl
  | ⟨2, _⟩ =>
    simp only [GatherDims.operandIdx, GatherDims.start, GatherDims.batchCoord, GatherDims.offCoord]
    rw [dif_neg (by decide +revert), dif_neg (by decide +revert), dif_pos (by decide +revert)]
    exact Nat.zero_add _

theorem gather_box {α : Type} (x : S8x100x4.Idx → α) (i : IVec S8x8400x1 32) (b : Fin 8) (a : Fin 8400) (k : Fin 4) (t : Fin 100)
    (h : i (ix3 b a 0) = BitVec.ofNat 32 t.val) :
    Host.gather gather_S8x100x4_S8x8400x1_S8x8400x4_2_1_0_0_1_2_114 x i (ix3 b a k) = x (ix3 b t k) := by
  unfold Host.gather
  congr 1
  funext l
  apply Fin.ext
  match l with
  | ⟨0, _⟩ =>
    simp only [GatherDims.operandIdx, GatherDims.start, GatherDims.batchCoord, GatherDims.offCoord]
    rw [dif_neg (by decide +revert), dif_pos (by decide +revert), dif_neg (by decide +revert)]
    exact Nat.zero_add _
  | ⟨1, _⟩ =>
    simp only [GatherDims.operandIdx, GatherDims.start, GatherDims.batchCoord, GatherDims.offCoord]
    rw [dif_pos (by decide +revert), dif_neg (by decide +revert), dif_neg (by decide +revert)]
    refine Eq.trans ?_ (word_small t.val 100 t.isLt (by decide))
    rw [← h]
    show min (i _).toInt.toNat (100 - 1) = _
    congr 3
    congr 1
    funext l
    match l with
    | ⟨0, _⟩ => rfl
    | ⟨1, _⟩ => rfl
    | ⟨2, _⟩ => rfl
  | ⟨2, _⟩ =>
    simp only [GatherDims.operandIdx, GatherDims.start, GatherDims.batchCoord, GatherDims.offCoord]
    rw [dif_neg (by decide +revert), dif_neg (by decide +revert), dif_pos (by decide +revert)]
    exact Nat.zero_add _

theorem gather_id {α : Type} (x : S8x100.Idx → α) (i : IVec S8x8400x1 32) (b : Fin 8) (a : Fin 8400) (t : Fin 100)
    (h : i (ix3 b a 0) = BitVec.ofNat 32 t.val) :
    Host.gather gather_S8x100_S8x8400x1_S8x8400_n_1_0_0_1_2_11 x i (ix2 b a) = x (ix2 b t) := by
  unfold Host.gather
  congr 1
  funext l
  apply Fin.ext
  match l with
  | ⟨0, _⟩ =>
    simp only [GatherDims.operandIdx, GatherDims.start, GatherDims.batchCoord, GatherDims.offCoord]
    rw [dif_neg (by decide +revert), dif_pos (by decide +revert), dif_neg (by decide +revert)]
    exact Nat.zero_add _
  | ⟨1, _⟩ =>
    simp only [GatherDims.operandIdx, GatherDims.start, GatherDims.batchCoord, GatherDims.offCoord]
    rw [dif_pos (by decide +revert), dif_neg (by decide +revert), dif_neg (by decide +revert)]
    refine Eq.trans ?_ (word_small t.val 100 t.isLt (by decide))
    rw [← h]
    show min (i _).toInt.toNat (100 - 1) = _
    congr 3
    congr 1
    funext l
    match l with
    | ⟨0, _⟩ => rfl
    | ⟨1, _⟩ => rfl
    | ⟨2, _⟩ => rfl

theorem gather_norm {α : Type} (x : S8x100x8400.Idx → α) (i : IVec S8x1x8400x1 32) (b : Fin 8) (a : Fin 8400) (t : Fin 100)
    (h : i (ix4 b 0 a 0) = BitVec.ofNat 32 t.val) :
    Host.gather gather_S8x100x8400_S8x1x8400x1_S8x1x8400_n_1_02_02_1_3_111 x i (ix3 b 0 a) = x (ix3 b t a) := by
  unfold Host.gather
  congr 1
  funext l
  apply Fin.ext
  match l with
  | ⟨0, _⟩ =>
    simp only [GatherDims.operandIdx, GatherDims.start, GatherDims.batchCoord, GatherDims.offCoord]
    rw [dif_neg (by decide +revert), dif_pos (by decide +revert), dif_neg (by decide +revert)]
    exact Nat.zero_add _
  | ⟨1, _⟩ =>
    simp only [GatherDims.operandIdx, GatherDims.start, GatherDims.batchCoord, GatherDims.offCoord]
    rw [dif_pos (by decide +revert), dif_neg (by decide +revert), dif_neg (by decide +revert)]
    refine Eq.trans ?_ (word_small t.val 100 t.isLt (by decide))
    rw [← h]
    show min (i _).toInt.toNat (100 - 1) = _
    congr 3
    congr 1
    funext l
    match l with
    | ⟨0, _⟩ => rfl
    | ⟨1, _⟩ => rfl
    | ⟨2, _⟩ => rfl
    | ⟨3, _⟩ => rfl
  | ⟨2, _⟩ =>
    simp only [GatherDims.operandIdx, GatherDims.start, GatherDims.batchCoord, GatherDims.offCoord]
    rw [dif_neg (by decide +revert), dif_pos (by decide +revert), dif_neg (by decide +revert)]
    exact Nat.zero_add _

/-! ## Sorts -/

theorem along_row (h : 2 < S8x100x8400.rank) (j : S8x100x8400.Idx) (k : Fin (S8x100x8400.size ⟨2, h⟩)) :
    j.along ⟨2, h⟩ k = ix3 (j 0) (j 1) k := by
  funext a
  match a with
  | ⟨0, _⟩ => rfl
  | ⟨1, _⟩ => rfl
  | ⟨2, _⟩ => rfl

/-- The greatest n of each row, by a descending sort of it. -/
theorem greatest {n : ℕ} (hn : n ≤ 8400) (b : Fin 8) (t : Fin 100) (k : Fin n) (x : FVec Ideal S8x100x8400 .f32)
    (h : S8x100x8400.Slices (fun _ => 0) ⟨3, ![8, 100, n]⟩) :
    (Host.topK ⟨3, ![8, 100, n]⟩ 2 (FloatOps.cmpfTotal .gt) x h).1 (ix3 b t k)
      = x (ix3 b t (sortedFrom (above fun a => x (ix3 b t a)) ⟨k.val, k.isLt.trans_le hn⟩)) := by
  unfold Host.topK Host.sort2
  show x (Shape.Idx.along _ ⟨2, _⟩ _) = _
  have e : ∀ J : S8x100x8400.Idx, J = ix3 b t ⟨k.val, k.isLt.trans_le hn⟩ →
      x (J.along ⟨2, by decide⟩ (sortedFrom (fun k k' => FloatOps.cmpfTotal CmpDirection.gt (x (J.along ⟨2, by decide⟩ k))
        (x (J.along ⟨2, by decide⟩ k')) == 1#1) (J 2))) = x (ix3 b t (sortedFrom (above fun a => x (ix3 b t a)) ⟨k.val, k.isLt.trans_le hn⟩)) := by
    intro J hJ
    subst hJ
    simp only [along_row]
    rfl
  refine e _ ?_
  funext a
  match a with
  | ⟨0, _⟩ => exact Fin.ext (Nat.zero_add _)
  | ⟨1, _⟩ => exact Fin.ext (Nat.zero_add _)
  | ⟨2, _⟩ => exact Fin.ext (Nat.zero_add _)

theorem along_col (h : 2 < S8x8400x100.rank) (j : S8x8400x100.Idx) (k : Fin (S8x8400x100.size ⟨2, h⟩)) :
    j.along ⟨2, h⟩ k = ix3 (j 0) (j 1) k := by
  funext a
  match a with
  | ⟨0, _⟩ => rfl
  | ⟨1, _⟩ => rfl
  | ⟨2, _⟩ => rfl

theorem sort2_snd {s : Shape} (d : ℕ) {α β : Type} (cmp : α × β → α × β → BitVec 1) (x : s.Idx → α) (y : s.Idx → β) (hd : d < s.rank) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem topK_snd {s t : Shape} (d : ℕ) {α : Type} (gt : α → α → BitVec 1) (x : s.Idx → α) (h : s.Slices (fun _ => 0) t) (hd : d < s.rank) (j : t.Idx) :
    (Host.topK t d gt x h).2 j = (Host.sort2 s d (fun l r => gt l.1 r.1) x (iotaInDim s 32 ⟨d, hd⟩)).2
      (fun a => ⟨0 + (j (a.cast h.1.symm)).val, Nat.lt_of_lt_of_le (Nat.add_lt_add_left (j _).isLt _) (h.2 a)⟩) := by
  have e : (fun i => if hd : d < s.rank then iotaInDim s 32 ⟨d, hd⟩ i else 0#32) = iotaInDim s 32 ⟨d, hd⟩ := by
    funext i
    rw [dif_pos hd]
  unfold Host.topK
  rw [← e]
  rfl

theorem sorted_words (b : Fin 8) (a : Fin 8400) (x : FVec Ideal S8x8400x100 .f32) (y : IVec S8x8400x100 32)
    (hy : ∀ t, y (ix3 b a t) = BitVec.ofNat 32 t.val) (z : Fin 100) :
    (Host.sort2 S8x8400x100 2 (fun l r => FloatOps.cmpfTotal CmpDirection.gt l.1 r.1) x y).2 (ix3 b a z)
      = BitVec.ofNat 32 (sortedFrom (above fun t => x (ix3 b a t)) z).val := by
  rw [sort2_snd 2 _ _ _ (by decide)]
  simp only [along_col]
  exact hy _

theorem topOne (b : Fin 8) (a : Fin 8400) (x : FVec Ideal S8x8400x100 .f32) :
    (Host.topK S8x8400x1 2 (FloatOps.cmpfTotal .gt) x sliceFits_S8x8400x100_S8x8400x1).2 (ix3 b a 0)
      = BitVec.ofNat 32 (sortedFrom (above fun t => x (ix3 b a t)) 0).val := by
  rw [topK_snd 2 _ _ _ (by decide), ← sorted_words b a x (iotaInDim S8x8400x100 32 ⟨2, by decide⟩) (fun t => rfl) 0]
  refine congrArg (Host.sort2 _ _ _ _ _).2 ?_
  funext k
  match k with
  | ⟨0, _⟩ => exact Fin.ext (Nat.zero_add _)
  | ⟨1, _⟩ => exact Fin.ext (Nat.zero_add _)
  | ⟨2, _⟩ => exact Fin.ext (Nat.zero_add _)

end Cert.Proof.RefV

end
-- ==== Proof.Choice.lean ====
/-
  The reference's assignment: fitness, the anchors that each target keeps, each anchor's target and weight.
-/
module

public import proofs.«01_k».proof.Proof.Pair
public import proofs.«01_k».proof.Proof.Lookup

@[expose] public section

set_option maxRecDepth 16384

noncomputable section

namespace Cert.Proof.RefV

open Idealize.ShloMosaic Cert.ReferenceIdeal Cert.ReferenceIdeal.Value Cert.ReferenceIdeal.Gen Cert.Proof.Loss

/-! ## Words and bits -/

theorem unwrapped (c k : ℕ) (hc : c < 100) :
    Scalar.select (IntOp.cmpi .slt (BitVec.ofNat 32 c) 0#32) (IntOp.addi (BitVec.ofNat 32 c) (BitVec.ofNat 32 k)) (BitVec.ofNat 32 c)
      = BitVec.ofNat 32 c := by
  have e : IntOp.cmpi .slt (BitVec.ofNat 32 c) 0#32 = 0#1 := by
    unfold IntOp.cmpi
    have : (BitVec.ofNat 32 c).slt 0#32 = false := by
      rw [BitVec.slt, StableHlo.Predicate.toInt_ofNat_small c (by omega)]
      simp
    simp only [this]
    rfl
  rw [e]
  rfl

theorem bit_number (p : Bool) : (FloatOps.uitofp .f32 (BitVec.ofBool p) : Ideal .f32) = ((if p then 1 else 0 : ℝ) : EReal) := by
  cases p
  · show ((((0#1 : BitVec 1).toNat : ℝ)) : EReal) = _
    norm_num
  · show ((((1#1 : BitVec 1).toNat : ℝ)) : EReal) = _
    norm_num

theorem ofNat_small {m n : ℕ} (hm : m < 2 ^ 32) (hn : n < 2 ^ 32) : BitVec.ofNat 32 m = BitVec.ofNat 32 n ↔ m = n := by
  constructor
  · intro h
    have := congrArg BitVec.toNat h
    rwa [BitVec.toNat_ofNat, BitVec.toNat_ofNat, Nat.mod_eq_of_lt hm, Nat.mod_eq_of_lt hn] at this
  · rintro rfl; rfl

theorem fold_ori_zero {ι : Type} (f : ι → BitVec 1) (l : List ι) (r : BitVec 1)
    (h : l.foldl (fun r n => IntOp.ori r (f n)) r = 0#1) : r = 0#1 ∧ ∀ n ∈ l, f n = 0#1 := by
  induction l generalizing r with
  | nil => exact ⟨h, fun n hn => absurd hn List.not_mem_nil⟩
  | cons a l ih =>
    obtain ⟨h1, h2⟩ := ih _ h
    have key : ∀ u v : BitVec 1, IntOp.ori u v = 0#1 → u = 0#1 ∧ v = 0#1 := by decide
    obtain ⟨h3, h4⟩ := key _ _ h1
    refine ⟨h3, fun n hn => ?_⟩
    rcases List.mem_cons.mp hn with rfl | hn
    · exact h4
    · exact h2 n hn

theorem any_zero (x : IVec S8x100x8400 1) (b : Fin 8) (a : Fin 8400)
    (h : Host.reduce IntOp.ori x (constantI S_ 1 0#1) reducesTo_S8x100x8400_S8x8400_d1 h_S_ (ix2 b a) = 0#1) (t : Fin 100) :
    x (ix3 b t a) = 0#1 := by
  have := (fold_ori_zero _ _ _ h).2 (S8x100x8400.rowMajor (ix3 b t a)) (by
    rw [List.mem_filter]
    refine ⟨List.mem_finRange _, decide_eq_true ?_⟩
    rw [Equiv.symm_apply_apply]
    funext k
    match k with
    | ⟨0, _⟩ => rfl
    | ⟨1, _⟩ => rfl)
  rwa [Equiv.symm_apply_apply] at this

section
variable {V : Valuation τ sig (Elt Ideal)} {d : Fin 8 → Data}

/-! ## Fitness -/

/-- The square root of the probability as the reference and as the kernel compute it, for every logit. -/
theorem root_eq (x : EReal) : Ideal.pow (Ideal.div 1 (1 + Ideal.exp (-x))) ((1 / 2 : ℝ) : EReal) = Ideal.rsqrt (1 + Ideal.exp (0 - x)) := by
  induction x with
  | bot =>
    have e : (1 : EReal) + ⊤ = ⊤ := rfl
    have e0 : (0 : EReal) = ((0 : ℝ) : EReal) := rfl
    have hz : Real.rpow 0 (1 / 2) = 0 := Real.zero_rpow (by norm_num)
    rw [Data.root_bot, EReal.neg_bot, Ideal.exp_top, e, div_infinite _ (Or.inr rfl), e0, Ideal.pow_coe_coe, hz]
  | top =>
    have ho : Real.rpow (1 / 1) (1 / 2) = 1 := by rw [div_one]; exact Real.one_rpow _
    rw [Data.root_top, EReal.neg_top, Ideal.exp_bot, add_zero, ← EReal.coe_one, div_real one_ne_zero, Ideal.pow_coe_coe, ho]
  | coe x =>
    have hx : Real.rpow (1 / (1 + Real.exp (-x))) (1 / 2) = (Real.sqrt (1 + Real.exp (0 - x)))⁻¹ := by
      show (1 / (1 + Real.exp (-x))) ^ (1 / 2 : ℝ) = _
      rw [← Real.sqrt_eq_rpow, one_div, Real.sqrt_inv, zero_sub]
    rw [Data.root_real, ← EReal.coe_one, neg_real, exp_real, add_real, div_real (by positivity), Ideal.pow_coe_coe, hx]

theorem six_eq (x : ℝ) : Real.rpow x 6 = x * x * (x * x) * (x * x) := by
  show x ^ (6 : ℝ) = _
  rw [show (6 : ℝ) = ((6 : ℕ) : ℝ) by norm_num, Real.rpow_natCast]
  ring

theorem v263_at (h : Given V d) (b : Fin 8) (t : Fin 100) (a : Fin 8400) :
    res_main_v263 V (ix3 b t a) = ((d b).fitness t a : EReal) := by
  classical
  pointwise [res_main_v263]
  rw [gather_class _ _ b t a ((d b).C t) (by
    pointwise [res_main_v255]
    rw [h.x3]
    exact unwrapped _ 80 (by omega))]
  rw [v247_at h, v44_at h, bit_number]
  have e : Ideal.pow ((d b).overlap t a : EReal) (Ideal.ofBits .f32 0x40C00000#32) = (((d b).overlap t a * (d b).overlap t a
      * ((d b).overlap t a * (d b).overlap t a) * ((d b).overlap t a * (d b).overlap t a) : ℝ) : EReal) := by
    rw [ofBits_K 0x40C00000#32 (by decide), K_six, Ideal.pow_coe_coe, six_eq]
  rw [e]
  pointwise []
  rw [h.x0, ofBits_K 0x3F000000#32 (by decide), K_half, root_eq, (d b).root_coe, mul_real, mul_real]
  unfold Data.fitness
  congr 1
  by_cases hv : (d b).Valid t a
  · simp [hv]
  · simp [hv]

/-! ## The anchors that each target keeps -/

open Classical in
theorem v270_at (h : Given V d) (hc : ∀ b, (d b).Clear) (b : Fin 8) (t : Fin 100) (a : Fin 8400) :
    res_main_v270 V (ix3 b t a) = BitVec.ofBool (decide ((d b).Chosen t a)) := by
  pointwise [res_main_v270]
  have e : (Host.topK S8x100x10 2 (FloatOps.cmpfTotal .gt) (res_main_v263 V) sliceFits_S8x100x8400_S8x100x10).1 (ix3 b t 9)
      = ((d b).fitness t ((d b).rank t 9) : EReal) := by
    refine (greatest (by decide) b t 9 _ _).trans ?_
    have hr : (fun a => res_main_v263 V (ix3 b t a)) = fun a => ((d b).fitness t a : EReal) := funext fun a => v263_at h b t a
    rw [hr, v263_at h]
    rfl
  rw [e, v44_at h, v263_at h, ← EReal.coe_zero]
  simp only [EReal.coe_le_coe_iff, EReal.coe_lt_coe_iff]
  have hv : 0 < (d b).fitness t a → (d b).Valid t a := by
    intro hp
    by_contra hn
    unfold Data.fitness at hp
    rw [if_neg hn] at hp
    exact absurd hp (lt_irrefl _)
  have hi := (d b).chosen_iff (hc b) t a
  by_cases h0 : 0 < (d b).fitness t a
  · by_cases h1 : (d b).fitness t ((d b).rank t 9) ≤ (d b).fitness t a
    · simp [h0, h1, hv h0, hi.mpr ⟨h1, h0⟩, IntOp.andi]
    · have : ¬ (d b).Chosen t a := fun hh => h1 (hi.mp hh).1
      simp [h1, this, IntOp.andi]
  · have : ¬ (d b).Chosen t a := fun hh => h0 (hi.mp hh).2
    simp [h0, this, IntOp.andi]

theorem v272_at (h : Given V d) (hc : ∀ b, (d b).Clear) (b : Fin 8) (t : Fin 100) (a : Fin 8400) :
    res_main_v272 V (ix3 b t a) = ((d b).kept t a : EReal) := by
  classical
  pointwise [res_main_v272]
  rw [v263_at h, v270_at h hc, bit_number, mul_real]
  unfold Data.kept
  congr 1
  by_cases hh : (d b).Chosen t a
  · simp [hh]
  · simp [hh]

/-! ## Each anchor's target -/

theorem v274_at (h : Given V d) (hc : ∀ b, (d b).Clear) (b : Fin 8) (a : Fin 8400) :
    res_main_v274 V (ix2 b a) = BitVec.ofNat 32 ((d b).owner a).val := by
  pointwise [res_main_v274]
  have hr : (fun t => res_main_v273 V (ix3 b a t)) = fun t => ((d b).kept t a : EReal) := by
    funext t
    pointwise [res_main_v273]
    exact v272_at h hc b t a
  refine (topOne b a _).trans ?_
  rw [hr, (d b).owner_eq]

theorem v277_at (h : Given V d) (hc : ∀ b, (d b).Clear) (b : Fin 8) (a : Fin 8400) (k : Fin 4) :
    res_main_v277 V (ix3 b a k) = (d b).T ((d b).owner a) k := by
  unfold res_main_v277
  rw [gather_box _ _ b a k ((d b).owner a) (by
    pointwise [res_main_v276]
    rw [v274_at h hc]
    exact unwrapped _ 100 (by omega))]
  exact h.x2 b _ k

/-! ## Each anchor's weight -/

theorem max_read (x : FVec Ideal S8x100x8400 .f32) (f : Fin 8400 → ℝ) (b : Fin 8) (t : Fin 100) (h : ∀ a, x (ix3 b t a) = (f a : EReal)) :
    Host.reduce FloatOps.maximumf x (constant S_ .f32 0xFF800000#32) reducesTo_S8x100x8400_S8x100_d2 h_S_ (ix2 b t)
      = ((⨆ a, f a : ℝ) : EReal) := by
  pointwise []
  simp only [h, ofBits_bot, fold_max_real]

theorem peaks_at (h : Given V d) (hc : ∀ b, (d b).Clear) (b : Fin 8) (t : Fin 100) :
    Host.reduce FloatOps.maximumf (mulf (res_main_v247 V) (uitofp .f32 (res_main_v270 V))) (constant S_ .f32 0xFF800000#32)
      reducesTo_S8x100x8400_S8x100_d2 h_S_ (ix2 b t) = ((d b).peak t : EReal) := by
  classical
  refine max_read _ _ b t fun a => ?_
  pointwise []
  rw [v247_at h, v270_at h hc, bit_number, mul_real]
  congr 1
  by_cases hh : (d b).Chosen t a
  · simp [hh]
  · simp [hh]

theorem norm_read (x : FVec Ideal S8x100x8400 .f32) (p q : FVec Ideal S8x100 .f32) (b : Fin 8) (t : Fin 100) (a : Fin 8400) :
    Host.divf (mulf x (broadcastInDim S8x100x8400 ![0, 1, 2] bcast_S8x100x1_S8x100x8400_0_1_2
        (broadcastInDim S8x100x1 ![0, 1] bcast_S8x100_S8x100x1_0_1 p)))
      (broadcastInDim S8x100x8400 ![0, 1, 2] bcast_S8x100x1_S8x100x8400_0_1_2 (addf (broadcastInDim S8x100x1 ![0, 1] bcast_S8x100_S8x100x1_0_1 q)
        (broadcastInDim S8x100x1 ![] bcast_S_S8x100x1 (constant S_ .f32 0x3089705F#32)))) (ix3 b t a)
      = Ideal.div (x (ix3 b t a) * p (ix2 b t)) (q (ix2 b t) + Ideal.ofBits .f32 0x3089705F#32) := by
  pointwise []

theorem target_read (g : IVec S8x8400 32) (n : FVec Ideal S8x1x8400 .f32) (o : IVec S8x8400 1) (b : Fin 8) (a : Fin 8400) (c : Fin 80) :
    mulf (mulf (uitofp .f32 (cmpi .eq (broadcastInDim S8x8400x80 ![0, 1, 2] bcast_S8x8400x1_S8x8400x80_0_1_2
        (broadcastInDim S8x8400x1 ![0, 1] bcast_S8x8400_S8x8400x1_0_1 g))
        (broadcastInDim S8x8400x80 ![0, 1, 2] bcast_S1x1x80_S8x8400x80_0_1_2 (iotaInDim S1x1x80 32 2))))
      (broadcastInDim S8x8400x80 ![0, 1, 2] bcast_S8x8400x1_S8x8400x80_0_1_2 (broadcastInDim S8x8400x1 ![0, 1] bcast_S8x8400_S8x8400x1_0_1
        (shapeCast S8x8400 n shapeCasts_S8x1x8400_S8x8400))))
      (broadcastInDim S8x8400x80 ![0, 1, 2] bcast_S8x8400x1_S8x8400x80_0_1_2 (uitofp .f32
        (broadcastInDim S8x8400x1 ![0, 1] bcast_S8x8400_S8x8400x1_0_1 o))) (ix3 b a c)
      = FloatOps.uitofp .f32 (IntOp.cmpi .eq (g (ix2 b a)) (BitVec.ofNat 32 c.val)) * n (ix3 b 0 a) * FloatOps.uitofp .f32 (o (ix2 b a)) := by
  pointwise []

theorem wrap2_read (v : IVec S8x8400 32) (b : Fin 8) (a : Fin 8400) (o : Fin 100) (h : v (ix2 b a) = BitVec.ofNat 32 o.val) :
    shapeCast S8x8400x1 (select (cmpi .slt v (broadcastInDim S8x8400 ![] bcast_S_S8x8400 (constantI S_ 32 0#32)))
      (addi v (broadcastInDim S8x8400 ![] bcast_S_S8x8400 (constantI S_ 32 100#32))) v) shapeCasts_S8x8400_S8x8400x1 (ix3 b a 0)
      = BitVec.ofNat 32 o.val := by
  pointwise []
  rw [h]
  exact unwrapped _ 100 (by omega)

theorem wrap3_read (v : IVec S8x1x8400 32) (b : Fin 8) (a : Fin 8400) (o : Fin 100) (h : v (ix3 b 0 a) = BitVec.ofNat 32 o.val) :
    shapeCast S8x1x8400x1 (select (cmpi .slt v (broadcastInDim S8x1x8400 ![] bcast_S_S8x1x8400 (constantI S_ 32 0#32)))
      (addi v (broadcastInDim S8x1x8400 ![] bcast_S_S8x1x8400 (constantI S_ 32 100#32))) v) shapeCasts_S8x1x8400_S8x1x8400x1 (ix4 b 0 a 0)
      = BitVec.ofNat 32 o.val := by
  pointwise []
  rw [h]
  exact unwrapped _ 100 (by omega)

theorem v301_at (h : Given V d) (hc : ∀ b, (d b).Clear) (b : Fin 8) (a : Fin 8400) (c : Fin 80) :
    res_main_v301 V (ix3 b a c) = ((if c = (d b).C ((d b).owner a) then (d b).weight a else 0 : ℝ) : EReal) := by
  classical
  have hn : res_main_v292 V (ix3 b 0 a) = BitVec.ofNat 32 ((d b).owner a).val := by
    pointwise [res_main_v292]
    exact v274_at h hc b a
  refine (target_read _ _ _ b a c).trans ?_
  rw [gather_id _ _ b a ((d b).owner a) (wrap2_read _ b a _ (v274_at h hc b a)), gather_norm _ _ b a ((d b).owner a) (wrap3_read _ b a _ hn),
    norm_read, h.x3, v272_at h hc, peaks_at h hc, max_read _ _ b _ fun a' => v272_at h hc b _ a', ofBits_K 0x3089705F#32 (by decide),
    add_real, mul_real, div_real (by rw [(d b).sup_kept (hc b)]; exact ((d b).best_pos _).ne'), (d b).weight_eq (hc b)]
  have e : IntOp.cmpi .eq (BitVec.ofNat 32 ((d b).C ((d b).owner a)).val) (BitVec.ofNat 32 c.val)
      = BitVec.ofBool (decide (c = (d b).C ((d b).owner a))) := by
    unfold IntOp.cmpi
    by_cases hh : c = (d b).C ((d b).owner a)
    · simp [hh]
    · have : ¬ BitVec.ofNat 32 ((d b).C ((d b).owner a)).val = BitVec.ofNat 32 c.val :=
        fun h' => hh (Fin.ext ((ofNat_small (by omega) (by omega)).mp h')).symm
      simp [hh, beq_eq_false_iff_ne.mpr this]
  rw [e, bit_number, mul_real]
  have hb : ∀ v : BitVec 1, v = 1#1 ∨ v = 0#1 := by decide
  rcases hb (res_main_v275 V (ix2 b a)) with h1 | h0
  · rw [h1, show (1#1 : BitVec 1) = BitVec.ofBool true from rfl, bit_number, mul_real]
    refine congrArg Real.toEReal ?_
    by_cases hh : c = (d b).C ((d b).owner a)
    · simp [hh]
    · simp [hh]
  · have hw : (d b).weight a = 0 := by
      refine (d b).weight_none a fun t ht => ?_
      have := any_zero (res_main_v270 V) b a h0 t
      rw [v270_at h hc, decide_eq_true ht] at this
      exact absurd this (by decide)
    rw [h0, hw, show (0#1 : BitVec 1) = BitVec.ofBool false from rfl, bit_number, mul_real]
    simp

end

end Cert.Proof.RefV

end
-- ==== Proof.Aligned.lean ====
/-
  The reference's result as a function of the images' inputs.
-/
module

public import proofs.«01_k».proof.Proof.Choice
public import proofs.«01_k».proof.Proof.Soft

@[expose] public section

set_option maxRecDepth 16384

noncomputable section

namespace Cert.Proof.RefV

open Idealize.ShloMosaic Cert.ReferenceIdeal Cert.ReferenceIdeal.Value Cert.ReferenceIdeal.Gen Cert.Proof.Loss
open Cert.Proof.Soft (sp sp_eq powers)

/-- The loss of the images' inputs. -/
def loss (d : Fin 8 → Data) : EReal :=
  Ideal.div ((K 0x3F000000#32 : EReal) * (∑ b, ∑ a, ∑ c, sp ((d b).X a c) - ∑ b, (d b).hit)
    + (K 0x40F00000#32 : EReal) * ((∑ b, (d b).misfit : ℝ) : EReal)) ((max (∑ b, (d b).total) (K 0x3089705F#32) : ℝ) : EReal)

/-- The polynomial at exp(-|x|), term by term. -/
def series (V : Valuation τ sig (Elt Ideal)) : FVec Ideal S8x8400x80 .f32 :=
  (addf (addf (addf (addf (addf (addf (addf (addf (addf (broadcastInDim S8x8400x80 ![] bcast_S_S8x8400x80 (constant S_ .f32 0x00000000#32)) (mulf
  (broadcastInDim S8x8400x80 ![] bcast_S_S8x8400x80 (constant S_ .f32 0x33C36677#32)) (broadcastInDim S8x8400x80 ![] bcast_S_S8x8400x80 (constant S_
  .f32 0x3F800000#32)))) (mulf (broadcastInDim S8x8400x80 ![] bcast_S_S8x8400x80 (constant S_ .f32 0x3F7FFF71#32)) (res_main_v311 V))) (mulf
  (broadcastInDim S8x8400x80 ![] bcast_S_S8x8400x80 (constant S_ .f32 0xBEFFE5EE#32)) (mulf (res_main_v311 V) (res_main_v311 V)))) (mulf (broadcastInDim
  S8x8400x80 ![] bcast_S_S8x8400x80 (constant S_ .f32 0x3EA9A491#32)) (mulf (mulf (res_main_v311 V) (res_main_v311 V)) (res_main_v311 V)))) (mulf
  (broadcastInDim S8x8400x80 ![] bcast_S_S8x8400x80 (constant S_ .f32 0xBE74EE27#32)) (mulf (res_main_v329 V) (res_main_v329 V)))) (mulf (broadcastInDim
  S8x8400x80 ![] bcast_S_S8x8400x80 (constant S_ .f32 0x3E28BC95#32)) (mulf (res_main_v311 V) (mulf (res_main_v334 V) (res_main_v334 V))))) (mulf
  (broadcastInDim S8x8400x80 ![] bcast_S_S8x8400x80 (constant S_ .f32 0xBDBD0E3C#32)) (mulf (res_main_v340 V) (mulf (res_main_v340 V) (res_main_v340
  V))))) (mulf (broadcastInDim S8x8400x80 ![] bcast_S_S8x8400x80 (constant S_ .f32 0x3D0CF9CC#32)) (mulf (mulf (res_main_v311 V) (res_main_v346 V))
  (mulf (res_main_v346 V) (res_main_v346 V))))) (mulf (broadcastInDim S8x8400x80 ![] bcast_S_S8x8400x80 (constant S_ .f32 0xBBC70EB8#32)) (mulf
  (res_main_v354 V) (res_main_v354 V))))
/-- How badly each predicted box fits its target's. -/
def apart (V : Valuation τ sig (Elt Ideal)) : FVec Ideal S8x8400 .f32 :=
  (subf (broadcastInDim S8x8400 ![] bcast_S_S8x8400 (constant S_ .f32 0x3F800000#32)) (subf (subf (res_main_v399 V) (Host.divf (addf (mulf
  (res_main_v412 V) (res_main_v412 V)) (mulf (res_main_v414 V) (res_main_v414 V))) (addf (addf (mulf (res_main_v419 V) (res_main_v419 V)) (mulf
  (res_main_v422 V) (res_main_v422 V))) (broadcastInDim S8x8400 ![] bcast_S_S8x8400 (constant S_ .f32 0x3089705F#32))))) (mulf (Host.divf (res_main_v571
  V) (addf (addf (subf (res_main_v571 V) (res_main_v399 V)) (broadcastInDim S8x8400 ![] bcast_S_S8x8400 (constant S_ .f32 0x3F800000#32)))
  (broadcastInDim S8x8400 ![] bcast_S_S8x8400 (constant S_ .f32 0x3089705F#32)))) (res_main_v571 V))))

section
variable {V : Valuation τ sig (Elt Ideal)} {d : Fin 8 → Data}

/-! ## Corners of the predicted boxes and of their targets' -/

theorem v363_at (h : Given V d) (b : Fin 8) (a : Fin 8400) : res_main_v363 V (ix2 b a) = (d b).P a 0 := by
  pointwise [res_main_v363]; exact h.x1 b a 0
theorem v365_at (h : Given V d) (b : Fin 8) (a : Fin 8400) : res_main_v365 V (ix2 b a) = (d b).P a 1 := by
  pointwise [res_main_v365]; exact h.x1 b a 1
theorem v367_at (h : Given V d) (b : Fin 8) (a : Fin 8400) : res_main_v367 V (ix2 b a) = (d b).P a 2 := by
  pointwise [res_main_v367]; exact h.x1 b a 2
theorem v369_at (h : Given V d) (b : Fin 8) (a : Fin 8400) : res_main_v369 V (ix2 b a) = (d b).P a 3 := by
  pointwise [res_main_v369]; exact h.x1 b a 3
theorem v371_at (h : Given V d) (hc : ∀ b, (d b).Clear) (b : Fin 8) (a : Fin 8400) :
    res_main_v371 V (ix2 b a) = (d b).T ((d b).owner a) 0 := by
  pointwise [res_main_v371]; exact v277_at h hc b a 0
theorem v373_at (h : Given V d) (hc : ∀ b, (d b).Clear) (b : Fin 8) (a : Fin 8400) :
    res_main_v373 V (ix2 b a) = (d b).T ((d b).owner a) 1 := by
  pointwise [res_main_v373]; exact v277_at h hc b a 1
theorem v375_at (h : Given V d) (hc : ∀ b, (d b).Clear) (b : Fin 8) (a : Fin 8400) :
    res_main_v375 V (ix2 b a) = (d b).T ((d b).owner a) 2 := by
  pointwise [res_main_v375]; exact v277_at h hc b a 2
theorem v377_at (h : Given V d) (hc : ∀ b, (d b).Clear) (b : Fin 8) (a : Fin 8400) :
    res_main_v377 V (ix2 b a) = (d b).T ((d b).owner a) 3 := by
  pointwise [res_main_v377]; exact v277_at h hc b a 3

/-! ## The fit of the boxes -/

theorem v388_at (h : Given V d) (hc : ∀ b, (d b).Clear) (b : Fin 8) (a : Fin 8400) :
    res_main_v388 V (ix2 b a) = interE ((d b).P a) ((d b).T ((d b).owner a)) := by
  pointwise [res_main_v388]
  simp only [v363_at h, v365_at h, v367_at h, v369_at h, v371_at h hc, v373_at h hc, v375_at h hc, v377_at h hc]
  rfl

theorem v399_at (h : Given V d) (hc : ∀ b, (d b).Clear) (b : Fin 8) (a : Fin 8400) :
    res_main_v399 V (ix2 b a) = iouE ((d b).P a) ((d b).T ((d b).owner a)) := by
  pointwise [res_main_v399]
  simp only [v388_at h hc, v363_at h, v365_at h, v367_at h, v369_at h, v371_at h hc, v373_at h hc, v375_at h hc, v377_at h hc]
  rfl

theorem v412_at (h : Given V d) (hc : ∀ b, (d b).Clear) (b : Fin 8) (a : Fin 8400) : res_main_v412 V (ix2 b a)
    = Ideal.div ((d b).P a 2 + (d b).P a 0) (Ideal.ofBits .f32 0x40000000#32)
      - Ideal.div ((d b).T ((d b).owner a) 2 + (d b).T ((d b).owner a) 0) (Ideal.ofBits .f32 0x40000000#32) := by
  pointwise [res_main_v412]
  rw [v363_at h, v367_at h, v371_at h hc, v375_at h hc]

theorem v414_at (h : Given V d) (hc : ∀ b, (d b).Clear) (b : Fin 8) (a : Fin 8400) : res_main_v414 V (ix2 b a)
    = Ideal.div ((d b).P a 3 + (d b).P a 1) (Ideal.ofBits .f32 0x40000000#32)
      - Ideal.div ((d b).T ((d b).owner a) 3 + (d b).T ((d b).owner a) 1) (Ideal.ofBits .f32 0x40000000#32) := by
  pointwise [res_main_v414]
  rw [v365_at h, v369_at h, v373_at h hc, v377_at h hc]

theorem v419_at (h : Given V d) (hc : ∀ b, (d b).Clear) (b : Fin 8) (a : Fin 8400) : res_main_v419 V (ix2 b a)
    = max ((d b).P a 2) ((d b).T ((d b).owner a) 2) - min ((d b).P a 0) ((d b).T ((d b).owner a) 0) := by
  pointwise [res_main_v419]
  rw [v363_at h, v367_at h, v371_at h hc, v375_at h hc]

theorem v422_at (h : Given V d) (hc : ∀ b, (d b).Clear) (b : Fin 8) (a : Fin 8400) : res_main_v422 V (ix2 b a)
    = max ((d b).P a 3) ((d b).T ((d b).owner a) 3) - min ((d b).P a 1) ((d b).T ((d b).owner a) 1) := by
  pointwise [res_main_v422]
  rw [v365_at h, v369_at h, v373_at h hc, v377_at h hc]

theorem v434_at (h : Given V d) (b : Fin 8) (a : Fin 8400) (hg : Good ((d b).P a) ((d b).T ((d b).owner a))) :
    res_main_v434 V (ix2 b a) = (slope (re ((d b).P a)) : EReal) := by
  pointwise [res_main_v434]
  rw [v363_at h, v365_at h, v367_at h, v369_at h, hg.left 0, hg.left 1, hg.left 2, hg.left 3, ofBits_K 0x3089705F#32 (by decide), sub_real, sub_real,
    add_real, div_real (slope_pos hg.ordLeft).ne']
  rfl

theorem v503_at (h : Given V d) (hc : ∀ b, (d b).Clear) (b : Fin 8) (a : Fin 8400) (hg : Good ((d b).P a) ((d b).T ((d b).owner a))) :
    res_main_v503 V (ix2 b a) = (slope (re ((d b).T ((d b).owner a))) : EReal) := by
  pointwise [res_main_v503]
  rw [v371_at h hc, v373_at h hc, v375_at h hc, v377_at h hc, hg.right 0, hg.right 1, hg.right 2, hg.right 3, ofBits_K 0x3089705F#32 (by decide),
    sub_real, sub_real, add_real, div_real (slope_pos hg.ordRight).ne']
  rfl

theorem v493_at (h : Given V d) (b : Fin 8) (a : Fin 8400)
    (hg : Good ((d b).P a) ((d b).T ((d b).owner a))) : res_main_v493 V (ix2 b a) = (fit (arg (slope (re ((d b).P a)))) : EReal) := by
  have e : res_main_v439 V (ix2 b a) = (arg (slope (re ((d b).P a))) : EReal) := by
    pointwise [res_main_v439]
    rw [v434_at h b a hg]
    exact arg_at _
  pointwise [res_main_v493, res_main_v449, res_main_v455, res_main_v462, res_main_v463, res_main_v469, res_main_v471, res_main_v477,
    res_main_v478, res_main_v485, res_main_v487]
  simp only [e, ofBits_K 0xBB84D7E7#32 (by decide), ofBits_K 0x3CB31652#32 (by decide), ofBits_K 0xBD6501C4#32 (by decide),
    ofBits_K 0x3DC577DF#32 (by decide), ofBits_K 0xBE0E6C63#32 (by decide), ofBits_K 0x3E4C40A6#32 (by decide),
    ofBits_K 0xBEAAA61C#32 (by decide), ofBits_K 0x3F7FFFF5#32 (by decide), add_real, mul_real]
  congr 1
  unfold fit
  ring

theorem v562_at (h : Given V d) (hc : ∀ b, (d b).Clear) (b : Fin 8) (a : Fin 8400)
    (hg : Good ((d b).P a) ((d b).T ((d b).owner a))) : res_main_v562 V (ix2 b a) = (fit (arg (slope (re ((d b).T ((d b).owner a))))) : EReal) := by
  have e : res_main_v508 V (ix2 b a) = (arg (slope (re ((d b).T ((d b).owner a)))) : EReal) := by
    pointwise [res_main_v508]
    rw [v503_at h hc b a hg]
    exact arg_at _
  pointwise [res_main_v562, res_main_v518, res_main_v524, res_main_v531, res_main_v532, res_main_v538, res_main_v540, res_main_v546,
    res_main_v547, res_main_v554, res_main_v556]
  simp only [e, ofBits_K 0xBB84D7E7#32 (by decide), ofBits_K 0x3CB31652#32 (by decide), ofBits_K 0xBD6501C4#32 (by decide),
    ofBits_K 0x3DC577DF#32 (by decide), ofBits_K 0xBE0E6C63#32 (by decide), ofBits_K 0x3E4C40A6#32 (by decide),
    ofBits_K 0xBEAAA61C#32 (by decide), ofBits_K 0x3F7FFFF5#32 (by decide), add_real, mul_real]
  congr 1
  unfold fit
  ring

theorem v571_at (h : Given V d) (hc : ∀ b, (d b).Clear) (b : Fin 8) (a : Fin 8400) (hg : Good ((d b).P a) ((d b).T ((d b).owner a))) :
    res_main_v571 V (ix2 b a) = (asp (re ((d b).P a)) (re ((d b).T ((d b).owner a))) : EReal) := by
  have e : res_main_v568 V (ix2 b a)
      = ((Loss.atan (slope (re ((d b).P a))) - Loss.atan (slope (re ((d b).T ((d b).owner a)))) : ℝ) : EReal) := by
    pointwise [res_main_v568]
    rw [v434_at h b a hg, v493_at h b a hg, v503_at h hc b a hg, v562_at h hc b a hg, atan_at, atan_at, sub_real]
  pointwise [res_main_v571]
  rw [e, ofBits_K 0x3ECF817B#32 (by decide), mul_real, mul_real]
  unfold asp
  rw [sq]

theorem apart_at (h : Given V d) (hc : ∀ b, (d b).Clear) (b : Fin 8) (a : Fin 8400) (hg : Good ((d b).P a) ((d b).T ((d b).owner a))) :
    apart V (ix2 b a) = ((1 - ciou (re ((d b).P a)) (re ((d b).T ((d b).owner a))) : ℝ) : EReal) := by
  have e : apart V (ix2 b a) = 1 - ciouE (iouE ((d b).P a) ((d b).T ((d b).owner a)))
      (Ideal.div (farE ((d b).P a) ((d b).T ((d b).owner a))) (diagE ((d b).P a) ((d b).T ((d b).owner a)))) (res_main_v571 V (ix2 b a)) := by
    pointwise [apart]
    rw [v399_at h hc, v412_at h hc, v414_at h hc, v419_at h hc, v422_at h hc]
    rfl
  rw [e, ciouE_real hg (farE_real hg.left hg.right) (v571_at h hc b a hg), ← EReal.coe_one, sub_real]

/-! ## The logits -/

theorem series_at (h : Given V d) (b : Fin 8) (a : Fin 8400) (c : Fin 80) :
    max ((d b).X a c) 0 + series V (ix3 b a c) = sp ((d b).X a c) := by
  have e : res_main_v311 V (ix3 b a c) = Ideal.exp (-(max ((d b).X a c) (-((d b).X a c)))) := by
    pointwise [res_main_v311]
    rw [h.x0]
    rfl
  have hs : series V (ix3 b a c) = powers (Ideal.exp (-(max ((d b).X a c) (-((d b).X a c))))) := by
    pointwise [series, res_main_v329, res_main_v334, res_main_v340, res_main_v346, res_main_v353, res_main_v354]
    rw [e]
    unfold powers
    rw [mul_one, zero_add]
  rw [hs, sp_eq]

/-! ## The result -/

theorem result_read (x t n : FVec Ideal S8x8400x80 .f32) (w : FVec Ideal S8x8400 .f32) (o : IVec S8x8400 1) (q : FVec Ideal S_ .f32) :
    addf (mulf (constant S_ .f32 0x3F000000#32) (Host.divf (Host.reduceAdd (addf (subf (maximumf x (broadcastInDim S8x8400x80 ![] bcast_S_S8x8400x80
      (constant S_ .f32 0x00000000#32))) (mulf x t)) n) (constant S_ .f32 0x00000000#32) reducesTo_S8x8400x80_S_d0_1_2 h_S_) q)) (mulf (constant S_ .f32
      0x40F00000#32) (Host.divf (Host.reduceAdd (mulf (mulf w (Host.reduceAdd t (constant S_ .f32 0x00000000#32) reducesTo_S8x8400x80_S8x8400_d2 h_S_))
      (uitofp .f32 o)) (constant S_ .f32 0x00000000#32) reducesTo_S8x8400_S_d0_1 h_S_) q)) ix0
      = Ideal.ofBits .f32 0x3F000000#32 * Ideal.div (∑ b : Fin 8, ∑ a : Fin 8400, ∑ c : Fin 80,
          (max (x (ix3 b a c)) 0 - x (ix3 b a c) * t (ix3 b a c) + n (ix3 b a c))) (q ix0)
        + Ideal.ofBits .f32 0x40F00000#32 * Ideal.div (∑ b : Fin 8, ∑ a : Fin 8400,
          w (ix2 b a) * (∑ c : Fin 80, t (ix3 b a c)) * FloatOps.uitofp (F := Ideal) .f32 (o (ix2 b a))) (q ix0) := by
  pointwise []

theorem sum_read (t : FVec Ideal S8x8400x80 .f32) :
    maximumf (Host.reduceAdd t (constant S_ .f32 0x00000000#32) reducesTo_S8x8400x80_S_d0_1_2 h_S_) (constant S_ .f32 0x3089705F#32) ix0
      = max (∑ b : Fin 8, ∑ a : Fin 8400, ∑ c : Fin 80, t (ix3 b a c)) (Ideal.ofBits .f32 0x3089705F#32) := by
  pointwise []

theorem v303_at (h : Given V d) (hc : ∀ b, (d b).Clear) :
    res_main_v303 V ix0 = ((max (∑ b, (d b).total) (K 0x3089705F#32) : ℝ) : EReal) := by
  refine (sum_read _).trans ?_
  simp only [v301_at h hc, sum_real, Finset.sum_ite_eq', Finset.mem_univ, if_true]
  rw [ofBits_K 0x3089705F#32 (by decide), max_real]
  rfl

/-- An anchor's weight, counted only where some target chose the anchor, is unchanged. -/
theorem weight_masked (h : Given V d) (hc : ∀ b, (d b).Clear) (b : Fin 8) (a : Fin 8400) :
    apart V (ix2 b a) * ((d b).weight a : EReal) * FloatOps.uitofp (F := Ideal) .f32 (res_main_v275 V (ix2 b a))
      = (((1 - ciou (re ((d b).P a)) (re ((d b).T ((d b).owner a)))) * (d b).weight a : ℝ) : EReal) := by
  classical
  by_cases hw : (d b).weight a = 0
  · rw [hw, EReal.coe_zero, mul_zero, zero_mul, mul_zero, EReal.coe_zero]
  have hb : ∀ v : BitVec 1, v = 1#1 ∨ v = 0#1 := by decide
  rcases hb (res_main_v275 V (ix2 b a)) with h1 | h0
  · rw [h1, show (1#1 : BitVec 1) = BitVec.ofBool true from rfl, bit_number, apart_at h hc b a ((d b).of_weight a hw).1, mul_real, mul_real]
    simp
  · refine absurd ((d b).weight_none a fun t ht => ?_) hw
    have := any_zero (res_main_v270 V) b a h0 t
    rw [v270_at h hc, decide_eq_true ht] at this
    exact absurd this (by decide)

theorem weight_nonneg (d : Data) (a : Fin 8400) : 0 ≤ d.weight a := by
  have hp : 0 ≤ d.peak (d.owner a) := by
    refine Real.iSup_nonneg fun a' => ?_
    split_ifs
    exacts [d.overlap_nonneg _ _, le_rfl]
  exact mul_nonneg (d.top_nonneg a) (div_nonneg hp (d.best_pos _).le)

/-- An anchor's logit for its target's class, weighted, is not minus infinity. -/
theorem hit_ne_bot (d : Data) (a : Fin 8400) (c : Fin 80) :
    d.X a c * ((if c = d.C (d.owner a) then d.weight a else 0 : ℝ) : EReal) ≠ ⊥ := by
  by_cases hn : (if c = d.C (d.owner a) then d.weight a else 0) = 0
  · rw [hn, EReal.coe_zero, mul_zero]; exact EReal.zero_ne_bot
  · have hcw : c = d.C (d.owner a) := by_contra fun h => hn (if_neg h)
    rw [if_pos hcw] at hn ⊢
    have hx := (d.of_weight a hn).2
    rw [← hcw] at hx
    have hp : 0 < d.weight a := lt_of_le_of_ne (weight_nonneg d a) (Ne.symm hn)
    generalize d.X a c = x at hx ⊢
    induction x with
    | bot => exact absurd rfl hx
    | top => rw [EReal.top_mul_coe_of_pos hp]; exact top_ne_bot
    | coe x => rw [mul_real]; exact EReal.coe_ne_bot _

theorem sum_ne_bot {ι : Type*} (s : Finset ι) (g : ι → EReal) (h : ∀ i, g i ≠ ⊥) : ∑ i ∈ s, g i ≠ ⊥ := by
  classical
  induction s using Finset.induction_on with
  | empty => rw [Finset.sum_empty]; exact EReal.zero_ne_bot
  | insert i s hi ih => rw [Finset.sum_insert hi]; exact EReal.add_ne_bot_iff.mpr ⟨h i, ih⟩

/-- Differences of what is not minus infinity sum up apart. -/
theorem sum_sub {ι : Type*} (s : Finset ι) (f g : ι → EReal) (h : ∀ i, g i ≠ ⊥) :
    ∑ i ∈ s, (f i - g i) = ∑ i ∈ s, f i - ∑ i ∈ s, g i := by
  classical
  induction s using Finset.induction_on with
  | empty => simp
  | insert i s hi ih =>
    rw [Finset.sum_insert hi, Finset.sum_insert hi, Finset.sum_insert hi, ih, sub_eq_add_neg, sub_eq_add_neg, sub_eq_add_neg,
      EReal.neg_add (Or.inl (h i)) (Or.inr (sum_ne_bot s g h)), sub_eq_add_neg]
    exact add_add_add_comm _ _ _ _

theorem entropy_eq (d : Fin 8 → Data) :
    ∑ b, ∑ a, ∑ c, (sp ((d b).X a c) - (d b).X a c * ((if c = (d b).C ((d b).owner a) then (d b).weight a else 0 : ℝ) : EReal))
      = ∑ b, ∑ a, ∑ c, sp ((d b).X a c) - ∑ b, (d b).hit := by
  have e : ∀ b a, ∑ c, (d b).X a c * ((if c = (d b).C ((d b).owner a) then (d b).weight a else 0 : ℝ) : EReal)
      = (d b).X a ((d b).C ((d b).owner a)) * ((d b).weight a : EReal) := fun b a => by
    rw [Finset.sum_eq_single ((d b).C ((d b).owner a))]
    · rw [if_pos rfl]
    · intro c _ hcn; rw [if_neg hcn, EReal.coe_zero, mul_zero]
    · exact fun hn => absurd (Finset.mem_univ _) hn
  have hn : ∀ b a, (d b).X a ((d b).C ((d b).owner a)) * ((d b).weight a : EReal) ≠ ⊥ := fun b a => by
    rw [← e b a]; exact sum_ne_bot _ _ fun c => hit_ne_bot (d b) a c
  have hh : ∀ b, (d b).hit ≠ ⊥ := fun b => sum_ne_bot _ _ fun a => hn b a
  rw [← sum_sub _ _ _ hh]
  refine Finset.sum_congr rfl fun b _ => ?_
  unfold Data.hit
  rw [← sum_sub _ _ _ (hn b)]
  refine Finset.sum_congr rfl fun a _ => ?_
  rw [← e b a]
  exact sum_sub _ _ _ fun c => hit_ne_bot (d b) a c

/-- Dividing once or term by term. -/
theorem divided (x : EReal) (m r k l : ℝ) (hr : 0 < r) (hk : 0 < k) :
    (k : EReal) * Ideal.div x (r : EReal) + (l : EReal) * Ideal.div (m : EReal) (r : EReal)
      = Ideal.div ((k : EReal) * x + (l : EReal) * (m : EReal)) (r : EReal) := by
  have hi : 0 < 1 / r := one_div_pos.mpr hr
  rw [Ideal.div_coe hr.ne', Ideal.div_coe hr.ne', Ideal.div_coe hr.ne', mul_real, mul_real]
  induction x with
  | bot => rw [EReal.bot_mul_coe_of_pos hi, EReal.coe_mul_bot_of_pos hk, EReal.bot_add, EReal.bot_add, EReal.bot_mul_coe_of_pos hi]
  | top => simp only [EReal.top_mul_coe_of_pos hi, EReal.coe_mul_top_of_pos hk, mul_real, EReal.top_add_coe]
  | coe x => simp only [mul_real, add_real]; congr 1; ring

theorem half_pos : 0 < K 0x3F000000#32 := by rw [K_half]; norm_num

theorem result_real (d : Fin 8 → Data) (x t n : FVec Ideal S8x8400x80 .f32) (w : FVec Ideal S8x8400 .f32) (o : IVec S8x8400 1)
    (q : FVec Ideal S_ .f32) (hx : ∀ b a c, x (ix3 b a c) = (d b).X a c)
    (ht : ∀ b a c, t (ix3 b a c) = ((if c = (d b).C ((d b).owner a) then (d b).weight a else 0 : ℝ) : EReal))
    (hn : ∀ b a c, max ((d b).X a c) 0 + n (ix3 b a c) = sp ((d b).X a c))
    (ho : ∀ b a, w (ix2 b a) * ((d b).weight a : EReal) * FloatOps.uitofp (F := Ideal) .f32 (o (ix2 b a))
      = (((1 - ciou (re ((d b).P a)) (re ((d b).T ((d b).owner a)))) * (d b).weight a : ℝ) : EReal))
    (hq : q ix0 = ((max (∑ b, (d b).total) (K 0x3089705F#32) : ℝ) : EReal)) :
    addf (mulf (constant S_ .f32 0x3F000000#32) (Host.divf (Host.reduceAdd (addf (subf (maximumf x (broadcastInDim S8x8400x80 ![] bcast_S_S8x8400x80
      (constant S_ .f32 0x00000000#32))) (mulf x t)) n) (constant S_ .f32 0x00000000#32) reducesTo_S8x8400x80_S_d0_1_2 h_S_) q)) (mulf (constant S_ .f32
      0x40F00000#32) (Host.divf (Host.reduceAdd (mulf (mulf w (Host.reduceAdd t (constant S_ .f32 0x00000000#32) reducesTo_S8x8400x80_S8x8400_d2 h_S_))
      (uitofp .f32 o)) (constant S_ .f32 0x00000000#32) reducesTo_S8x8400_S_d0_1 h_S_) q)) ix0
      = loss d := by
  refine (result_read x t n w o q).trans ?_
  have hs : ∀ b a c, max (x (ix3 b a c)) 0 - x (ix3 b a c) * t (ix3 b a c) + n (ix3 b a c)
      = sp ((d b).X a c) - (d b).X a c * ((if c = (d b).C ((d b).owner a) then (d b).weight a else 0 : ℝ) : EReal) := fun b a c => by
    rw [hx, ht, ← hn, sub_eq_add_neg, sub_eq_add_neg, add_right_comm]
  simp only [hs, entropy_eq]
  simp only [ht, sum_real, Finset.sum_ite_eq', Finset.mem_univ, if_true, ho, hq]
  rw [ofBits_K 0x3F000000#32 (by decide), ofBits_K 0x40F00000#32 (by decide)]
  exact divided _ _ _ _ _ (lt_max_of_lt_right eps_pos) half_pos

theorem result_at (h : Given V d) (hc : ∀ b, (d b).Clear) :
    addf (mulf (constant S_ .f32 0x3F000000#32) (Host.divf (Host.reduceAdd (addf (subf (maximumf (V (Proc.devRef .tc main_arg0)) (broadcastInDim
      S8x8400x80 ![] bcast_S_S8x8400x80 (constant S_ .f32 0x00000000#32))) (mulf (V (Proc.devRef .tc main_arg0)) (res_main_v301 V))) (series V)) (constant
      S_ .f32 0x00000000#32) reducesTo_S8x8400x80_S_d0_1_2 h_S_) (res_main_v303 V))) (mulf (constant S_ .f32 0x40F00000#32) (Host.divf (Host.reduceAdd (mulf
      (mulf (apart V) (Host.reduceAdd (res_main_v301 V) (constant S_ .f32 0x00000000#32) reducesTo_S8x8400x80_S8x8400_d2 h_S_)) (uitofp .f32 (res_main_v275
      V))) (constant S_ .f32 0x00000000#32) reducesTo_S8x8400_S_d0_1 h_S_) (res_main_v303 V))) ix0
      = loss d :=
  result_real d _ _ _ _ _ _ h.x0 (v301_at h hc) (series_at h) (weight_masked h hc) (v303_at h hc)

end

end Cert.Proof.RefV

end
-- ==== Proof.Sane.lean ====
/-
  What the precondition says of the arguments: the boxes' corners are in order or finite, the classes are below 80, and
  each target's ten greatest fitnesses are clear of each other and of the least bar.
-/
module

public import proofs.«01_k».proof.Proof.Choice
public import proofs.«01_k».proof.Proof.Gen.Pre_well_posed
public import Idealize.ShloMosaic.Lib.ReduceAll

@[expose] public section

set_option maxRecDepth 16384

noncomputable section

namespace Cert.Proof.RefV

open Idealize.ShloMosaic Cert.ReferenceIdeal Cert.ReferenceIdeal.Value Cert.ReferenceIdeal.Gen Cert.Proof.Loss

/-- The precondition's matrix of fitness is the reference's. -/
theorem pre_matrix (V : Valuation τ sig (Elt Ideal)) :
    Cert.Pre_well_posed.fn (F := Ideal) (V (Proc.devRef .tc main_arg0)) (V (Proc.devRef .tc main_arg1)) (V (Proc.devRef .tc main_arg2))
        (V (Proc.devRef .tc main_arg3)) (V (Proc.devRef .tc main_arg4))
      = Cert.Pre_well_posed.fn_part13 (F := Ideal) (V (Proc.devRef .tc main_arg1)) (V (Proc.devRef .tc main_arg2))
        (V (Proc.devRef .tc main_arg3))
        (Host.topK Cert.Pre_well_posed.S8x100x11 2 (FloatOps.cmpfTotal .gt) (res_main_v263 V)
          Cert.Pre_well_posed.Facts.sliceFits_S8x100x8400_S8x100x11).1
        (extractStridedSlice Cert.Pre_well_posed.S8x100x10 ![0, 0, 0] (Host.topK Cert.Pre_well_posed.S8x100x11 2 (FloatOps.cmpfTotal .gt)
            (res_main_v263 V) Cert.Pre_well_posed.Facts.sliceFits_S8x100x8400_S8x100x11).1
          Cert.Pre_well_posed.Facts.slices_S8x100x11_S8x100x10_0_0_0) := by
  rfl

instance : Subsingleton Cert.Pre_well_posed.S_.Idx := ⟨fun _ _ => funext fun k => k.elim0⟩

theorem andi_one {s : Shape} (x y : IVec s 1) (i : s.Idx) : andi x y i = 1#1 ↔ x i = 1#1 ∧ y i = 1#1 := IntOp.andi_eq_one

theorem bool_one {p : Bool} (h : BitVec.ofBool p = 1#1) : p = true := by
  revert h; cases p <;> decide

theorem or_one {u v : BitVec 1} (h : IntOp.ori u v = 1#1) : u = 1#1 ∨ v = 1#1 := by
  revert u v; decide

/-- A fold by `and` that is 1 folds ones. -/
theorem fold_and {ι : Type} (s : Finset ι) (f : ι → BitVec 1) (h : s.fold IntOp.andi (1#1) f = 1#1) : ∀ k ∈ s, f k = 1#1 := by
  classical
  induction s using Finset.induction_on with
  | empty => exact fun k hk => absurd hk (Finset.notMem_empty k)
  | insert a s ha ih =>
    rw [Finset.fold_insert ha] at h
    obtain ⟨h1, h2⟩ := IntOp.andi_eq_one.mp h
    intro k hk
    rcases Finset.mem_insert.mp hk with rfl | hk
    · exact h1
    · exact ih h2 k hk

/-- A box is in order or finite. -/
theorem tame_of {a : Fin 4 → EReal} (h : (a 0 ≤ a 2 ∧ a 1 ≤ a 3) ∨ ∀ k, max (a k) (-a k) < ⊤) : Tame a := by
  refine h.imp id fun h k => (EReal.coe_toReal ?_ ?_).symm
  · intro e; have := h k; rw [e] at this; simp at this
  · intro e; have := h k; rw [e] at this; simp at this

/-- The precondition's test of a box, as bits. -/
theorem tame_bits {a : Fin 4 → EReal}
    (e : IntOp.ori (IntOp.andi (BitVec.ofBool (decide (a 0 ≤ a 2))) (BitVec.ofBool (decide (a 1 ≤ a 3))))
      (Finset.fold IntOp.andi (1#1) (fun k => BitVec.ofBool (decide (FloatOps.absf (F := Ideal) (φ := .f32) (a k) < Ideal.ofBits .f32 0x7F800000#32)))
        Finset.univ) = 1#1) : Tame a := by
  refine tame_of ((or_one e).imp (fun e => ?_) fun e k => ?_)
  · obtain ⟨e1, e2⟩ := IntOp.andi_eq_one.mp e
    exact ⟨of_decide_eq_true (bool_one e1), of_decide_eq_true (bool_one e2)⟩
  · have q := of_decide_eq_true (bool_one (fold_and _ _ e k (Finset.mem_univ k)))
    rw [ofBits_top] at q
    exact q

/-- The precondition's matrix of the eleven greatest fitnesses is `v`; its tests, element by element. -/
theorem pre_read (x1 : FVec Ideal S8x8400x4 .f32) (x2 : FVec Ideal S8x100x4 .f32) (x3 : IVec S8x100 32) (v : FVec Ideal Cert.Pre_well_posed.S8x100x11 .f32)
    (h : Cert.Pre_well_posed.fn_part13 (F := Ideal) x1 x2 x3 v (extractStridedSlice Cert.Pre_well_posed.S8x100x10 ![0, 0, 0] v
      Cert.Pre_well_posed.Facts.slices_S8x100x11_S8x100x10_0_0_0) = fun _ => 1#1) :
    (∀ b a, Tame fun k => x1 (ix3 b a k)) ∧ (∀ b t, Tame fun k => x2 (ix3 b t k))
      ∧ (∀ b t, 0 ≤ (x3 (ix2 b t)).toInt ∧ (x3 (ix2 b t)).toInt < 80)
      ∧ (∀ b t (k : Fin 9), v (ix3 b t ⟨k.val + 1, by omega⟩) < v (ix3 b t ⟨k.val, by omega⟩) ∨ v (ix3 b t 10) = 0)
      ∧ ∀ b t (k : Fin 10), Ideal.ofBits .f32 0x0DA24260#32 ≤ v (ix3 b t ⟨k.val, by omega⟩) ∨ v (ix3 b t ⟨k.val, by omega⟩) = 0 := by
  have h0 := congrFun h ix0
  simp only [Cert.Pre_well_posed.fn_part13, Cert.Pre_well_posed.fn_part14, Cert.Pre_well_posed.fn_part15, Cert.Pre_well_posed.fn_part16, andi_one] at h0
  obtain ⟨⟨⟨⟨p, t⟩, c⟩, v0⟩, v1⟩ := h0
  refine ⟨fun b a => tame_bits ?_, fun b t' => tame_bits ?_, fun b t => ?_, fun b t k => ?_, fun b t k => ?_⟩
  · have e := Host.reduce_andi_all _ _ _ _ _ p (ix2 b a)
    revert e
    pointwise []
    exact id
  · have e := Host.reduce_andi_all _ _ _ _ _ t (ix2 b t')
    revert e
    pointwise []
    exact id
  · have e := Host.reduce_andi_all _ _ _ _ _ c (ix2 b t)
    revert e
    pointwise []
    intro e
    obtain ⟨e1, e2⟩ := IntOp.andi_eq_one.mp e
    have e1 := bool_one e1
    have e2 := bool_one e2
    rw [BitVec.sle_eq_decide] at e1
    rw [BitVec.slt_eq_decide] at e2
    exact ⟨of_decide_eq_true e1, of_decide_eq_true e2⟩
  · have e := Host.reduce_andi_all _ _ _ _ _ v0 (ix3 b t k)
    revert e
    pointwise []
    intro e
    rw [show (⟨k.val + 1, by omega⟩ : Fin 11) = ⟨1 + k.val, by omega⟩ from Fin.ext (Nat.add_comm _ _)]
    exact (or_one e).imp (fun e => of_decide_eq_true (bool_one e)) fun e => of_decide_eq_true (bool_one e)
  · have e := Host.reduce_andi_all _ _ _ _ _ v1 (ix3 b t k)
    revert e
    pointwise []
    intro e
    exact (or_one e).imp (fun e => of_decide_eq_true (bool_one e)) fun e => of_decide_eq_true (bool_one e)

theorem class_of {w : BitVec 32} (h : 0 ≤ w.toInt ∧ w.toInt < 80) : w = BitVec.ofNat 32 (w.toNat % 80) := by
  have hw : w.toNat < 80 := by
    have := BitVec.toInt_eq_toNat_cond w
    split_ifs at this <;> omega
  rw [Nat.mod_eq_of_lt hw, BitVec.ofNat_toNat, BitVec.setWidth_eq]

/-- Arguments that satisfy the precondition hold images' inputs that it makes tidy and clear. -/
theorem exists_data (V : Valuation τ sig (Elt Ideal))
    (hp : Cert.Pre_well_posed.fn (F := Ideal) (V (Proc.devRef .tc main_arg0)) (V (Proc.devRef .tc main_arg1)) (V (Proc.devRef .tc main_arg2))
      (V (Proc.devRef .tc main_arg3)) (V (Proc.devRef .tc main_arg4)) = fun _ => 1#1) :
    ∃ d : Fin 8 → Data, Given V d ∧ (∀ b, (d b).Tidy) ∧ ∀ b, (d b).Clear := by
  obtain ⟨p, t, c, v0, v1⟩ := pre_read _ _ _ _ ((pre_matrix V).symm.trans hp)
  let d : Fin 8 → Data := fun b =>
    { X := fun a c => V (Proc.devRef .tc main_arg0) (ix3 b a c)
      P := fun a k => V (Proc.devRef .tc main_arg1) (ix3 b a k)
      T := fun t k => V (Proc.devRef .tc main_arg2) (ix3 b t k)
      C := fun t => ⟨(show BitVec 32 from V (Proc.devRef .tc main_arg3) (ix2 b t)).toNat % 80, Nat.mod_lt _ (by decide)⟩
      N := fun a k => V (Proc.devRef .tc main_arg4) (ix2 a k) }
  have hg : Given V d := ⟨fun _ _ _ => rfl, fun _ _ _ => rfl, fun _ _ _ => rfl, fun b t => class_of (c b t), fun _ _ _ => rfl⟩
  have ht : ∀ b, (d b).Tidy := fun b => ⟨p b, t b⟩
  have hv : ∀ b t (k : Fin 11), (Host.topK Cert.Pre_well_posed.S8x100x11 2 (FloatOps.cmpfTotal .gt) (res_main_v263 V)
      Cert.Pre_well_posed.Facts.sliceFits_S8x100x8400_S8x100x11).1 (ix3 b t k)
      = ((d b).fitness t ((d b).rank t ⟨k.val, by omega⟩) : EReal) := by
    intro b t k
    refine (greatest (by decide) b t k _ _).trans ?_
    have hr : (fun a => res_main_v263 V (ix3 b t a)) = fun a => ((d b).fitness t a : EReal) := funext fun a => v263_at hg b t a
    rw [hr, v263_at hg]
    rfl
  refine ⟨d, hg, ht, fun b t => ⟨fun k => ?_, fun k => ?_⟩⟩
  · have := v0 b t k
    rw [hv, hv, hv, ← EReal.coe_zero] at this
    exact this.imp EReal.coe_lt_coe_iff.mp EReal.coe_injective.eq_iff.mp
  · have := v1 b t k
    rw [hv, ← EReal.coe_zero, ofBits_K 0x0DA24260#32 (by decide)] at this
    exact this.imp EReal.coe_le_coe_iff.mp EReal.coe_injective.eq_iff.mp

end Cert.Proof.RefV

end
-- ==== Proof.lean ====
/-
  The claims of `Cert.Claim`: the kernel's program and its idealization run and keep their arguments, and at the
  extended reals the kernel's loss is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_well_posed
public import proofs.«01_k».proof.Proof.Launch
public import proofs.«01_k».proof.Proof.LaunchI
public import proofs.«01_k».proof.Proof.Blocks
public import proofs.«01_k».proof.Proof.Aligned
public import proofs.«01_k».proof.Proof.Sane

@[expose] public section

noncomputable section

namespace Cert.Proof

open Idealize.ShloMosaic Idealize.SL.Sem Cert.Proof.Loss

theorem frame_Kernel : Cert.quiescent_Kernel (hKernel := Cert.Kernel.Gen.facts) := fun m ρ _ =>
  (θ_run Cert.Kernel.defs _ _).mono
    (fun _ h => ⟨fun c => ⟨(h.1 c).2 0, (h.1 c).2 1, (h.1 c).2 2, (h.1 c).2 3, (h.1 c).2 4⟩, h.2⟩) (ScK.run_main (F := Bits) m ρ)

theorem frame_KernelIdeal : Cert.quiescent_KernelIdeal (hKernelIdeal := Cert.KernelIdeal.Gen.facts) := fun m ρ _ =>
  (θ_run Cert.KernelIdeal.defs _ _).mono
    (fun _ h => ⟨fun c => ⟨(h.1 c).2 0, (h.1 c).2 1, (h.1 c).2 2, (h.1 c).2 3, (h.1 c).2 4⟩, h.2⟩) (ScKI.run_main (F := Ideal) m ρ)

theorem frame_ReferenceIdeal : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem data_of (V : Valuation Cert.ReferenceIdeal.τ Cert.ReferenceIdeal.sig (Elt Ideal)) {x0 : FVec Ideal Cert.Pre_well_posed.S8x8400x80 .f32}
    {x1 : FVec Ideal Cert.Pre_well_posed.S8x8400x4 .f32} {x2 : FVec Ideal Cert.Pre_well_posed.S8x100x4 .f32} {x3 : IVec Cert.Pre_well_posed.S8x100 32}
    {x4 : FVec Ideal Cert.Pre_well_posed.S8400x2 .f32} (e0 : V (Proc.devRef .tc Cert.ReferenceIdeal.main_arg0) = x0)
    (e1 : V (Proc.devRef .tc Cert.ReferenceIdeal.main_arg1) = x1) (e2 : V (Proc.devRef .tc Cert.ReferenceIdeal.main_arg2) = x2)
    (e3 : V (Proc.devRef .tc Cert.ReferenceIdeal.main_arg3) = x3) (e4 : V (Proc.devRef .tc Cert.ReferenceIdeal.main_arg4) = x4)
    (hp : Cert.Pre_well_posed.fn (F := Ideal) x0 x1 x2 x3 x4 = fun _ => 1#1) :
    ∃ d : Fin 8 → Data, RefV.Given V d ∧ (∀ b, (d b).Tidy) ∧ ∀ b, (d b).Clear := by
  subst e0 e1 e2 e3 e4
  exact RefV.exists_data V hp

theorem value : Cert.algebraic_KernelIdeal_ReferenceIdeal_pre_well_posed (hKernelIdeal := Cert.KernelIdeal.Gen.facts)
    (hReferenceIdeal := Cert.ReferenceIdeal.Gen.facts) (hPre_well_posed := Cert.Pre_well_posed.Gen.facts) := by
  intro m ρ m' ρ' hp hagree
  have hd : ∀ c, ∃ d : Fin 8 → Data, RefV.Given (StableHlo.launchContents m' c) d ∧ (∀ b, (d b).Tidy) ∧ ∀ b, (d b).Clear := fun c => by
    obtain ⟨e0, e1, e2, e3, e4⟩ := hagree c
    exact data_of (StableHlo.launchContents m' c) e0 e1 e2 e3 e4 (hp c)
  choose d hg ht hc using hd
  have hk : ∀ c, ScKI.Rv m c = fun _ => RefV.loss (d c) := fun c => by
    obtain ⟨e0, e1, e2, e3, e4⟩ := hagree c
    have h : KerV.Holds m c (d c) :=
      ⟨fun b a k => (congrFun e0 _).symm.trans ((hg c).x0 b a k), fun b a k => (congrFun e1 _).symm.trans ((hg c).x1 b a k),
        fun b t k => (congrFun e2 _).symm.trans ((hg c).x2 b t k), fun b t => (congrFun e3 _).symm.trans ((hg c).x3 b t),
        fun b a k => (congrFun e4 _).symm.trans ((hg c).x4 b a k)⟩
    funext i
    obtain rfl : i = ix0 := funext fun x => x.elim0
    exact KerV.value h (ht c)
  refine ⟨fun c => ScKI.Rv m c,
    (θ_run Cert.KernelIdeal.defs _ _).mono
      (fun _ h c => ⟨(h.1 c).1, (h.1 c).2 0, (h.1 c).2 1, (h.1 c).2 2, (h.1 c).2 3, (h.1 c).2 4⟩) (ScKI.run_main (F := Ideal) m ρ),
    (θ_run Cert.ReferenceIdeal.defs _ _).mono (fun _ h c => ⟨(h c).1.trans ?_, (h c).2⟩) (Cert.ReferenceIdeal.Value.run (F := Ideal) m' ρ')⟩
  refine Eq.trans (funext fun i => ?_) (hk c).symm
  obtain rfl : i = ix0 := funext fun x => x.elim0
  exact RefV.result_at (hg c) (hc c)

theorem claim : Cert.Claim :=
  ⟨Cert.Kernel.Gen.facts, Cert.KernelIdeal.Gen.facts, Cert.ReferenceIdeal.Gen.facts, Cert.Pre_well_posed.Gen.facts,
    frame_Kernel, frame_KernelIdeal, fun m ρ _ => frame_KernelIdeal m ρ trivial, frame_ReferenceIdeal,
    fun m ρ _ => frame_ReferenceIdeal m ρ trivial, trivial, value⟩

end Cert.Proof

end
